-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_some_logit [hPre_some_logit : Cert.Pre_some_logit.Facts] (m : (ℓ : Loc Cert.KernelIdeal.nD Cert.KernelIdeal.τ Cert.KernelIdeal.sig) → Buf (Elt Ideal) ℓ) : Prop :=
  ∀ c : Dev Cert.KernelIdeal.nD,
    (Cert.Pre_some_logit.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_some_logit [hPre_some_logit : Cert.Pre_some_logit.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_some_logit.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_some_logit [hKernelIdeal : Cert.KernelIdeal.Facts] [hPre_some_logit : Cert.Pre_some_logit.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_some_logit m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_some_logit [hReferenceIdeal : Cert.ReferenceIdeal.Facts] [hPre_some_logit : Cert.Pre_some_logit.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_some_logit m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_some_logit [hKernelIdeal : Cert.KernelIdeal.Facts] [hReferenceIdeal : Cert.ReferenceIdeal.Facts] [hPre_some_logit : Cert.Pre_some_logit.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_some_logit m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_v25) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_some_logit : Cert.Pre_some_logit.Facts),
    quiescent_Kernel (hKernel := hKernel)
    ∧ quiescent_KernelIdeal (hKernelIdeal := hKernelIdeal)
    ∧ quiescent_KernelIdeal_pre_some_logit (hKernelIdeal := hKernelIdeal) (hPre_some_logit := hPre_some_logit)
    ∧ quiescent_ReferenceIdeal (hReferenceIdeal := hReferenceIdeal)
    ∧ quiescent_ReferenceIdeal_pre_some_logit (hReferenceIdeal := hReferenceIdeal) (hPre_some_logit := hPre_some_logit)
    ∧ preserves_Kernel_KernelIdeal
    ∧ algebraic_KernelIdeal_ReferenceIdeal_pre_some_logit (hKernelIdeal := hKernelIdeal) (hReferenceIdeal := hReferenceIdeal) (hPre_some_logit := hPre_some_logit)
-- ==== Pre_some_logit.lean ====
abbrev S64x8x1x100000 : Shape := ⟨4, ![64, 8, 1, 100000]⟩
abbrev S_ : Shape := ⟨0, ![]⟩
abbrev S64x8x1 : Shape := ⟨3, ![64, 8, 1]⟩

class Facts : Prop where
  reducesTo_S64x8x1x100000_S64x8x1_d3 : S64x8x1x100000.ReducesTo [3] S64x8x1
  h_S_ : 0 < S_.numel
  bcast_S_S64x8x1 : S_.BroadcastsInDim S64x8x1 (![] : Fin 0 → Fin S64x8x1.rank)

variable [Facts]

def fn {F : FTy → Type} [FloatOps F] (main_arg0 : FVec F S64x8x1x100000 .f32) : IVec S64x8x1 1 :=
  let main_cst : FVec F S_ .f32 := constant S_ .f32 0xFF800000#32
  let main_v0 : FVec F S64x8x1 .f32 := (fun x v => Host.reduce FloatOps.maximumf x v reducesTo_S64x8x1x100000_S64x8x1_d3 h_S_) main_arg0 main_cst
  let main_cst_0 : FVec F S_ .f32 := constant S_ .f32 0xFF800000#32
  let main_v1 : FVec F S64x8x1 .f32 := broadcastInDim S64x8x1 ![] bcast_S_S64x8x1 main_cst_0
  let main_v2 : IVec S64x8x1 1 := cmpf .ogt main_v0 main_v1
  main_v2
-- ==== Kernel.lean ====
abbrev S64x8x1x100000 : Shape := ⟨4, ![64, 8, 1, 100000]⟩
abbrev S512x100000 : Shape := ⟨2, ![512, 100000]⟩
abbrev S64x8x1 : Shape := ⟨3, ![64, 8, 1]⟩
abbrev S8x100000 : Shape := ⟨2, ![8, 100000]⟩
abbrev S1x8x1 : Shape := ⟨3, ![1, 8, 1]⟩
abbrev S8x1024 : Shape := ⟨2, ![8, 1024]⟩
abbrev S8x512 : Shape := ⟨2, ![8, 512]⟩
abbrev S8x128 : Shape := ⟨2, ![8, 128]⟩
abbrev S8x32 : Shape := ⟨2, ![8, 32]⟩
abbrev S8 : Shape := ⟨1, ![8]⟩
abbrev S8x1 : Shape := ⟨2, ![8, 1]⟩
abbrev S1 : Shape := ⟨1, ![1]⟩
abbrev S1x1x1 : Shape := ⟨3, ![1, 1, 1]⟩
abbrev S64x8 : Shape := ⟨2, ![64, 8]⟩
abbrev S64x1x1 : Shape := ⟨3, ![64, 1, 1]⟩
abbrev S64 : Shape := ⟨1, ![64]⟩

abbrev nBuf : Space → Nat
  | .hbm => 7
  | .vmem => 10
  | .smem => 0
  | _ => 0

abbrev bufTy : (tb : Table) → Fin (tcTables nBuf tb) → BufTy
  | .hbm, ⟨0, _⟩ => ⟨S64x8x1x100000, .f32⟩
  | .hbm, ⟨1, _⟩ => ⟨S512x100000, .f32⟩
  | .hbm, ⟨2, _⟩ => ⟨S64x8x1, .i32⟩
  | .hbm, ⟨3, _⟩ => ⟨S64x8x1, .f32⟩
  | .hbm, ⟨4, _⟩ => ⟨S64x8, .i32⟩
  | .hbm, ⟨5, _⟩ => ⟨S64x1x1, .f32⟩
  | .hbm, ⟨6, _⟩ => ⟨S64, .f32⟩
  | .local _ .vmem, ⟨0, _⟩ => ⟨S8x100000, .f32⟩
  | .local _ .vmem, ⟨1, _⟩ => ⟨S8x100000, .f32⟩
  | .local _ .vmem, ⟨2, _⟩ => ⟨S1x8x1, .i32⟩
  | .local _ .vmem, ⟨3, _⟩ => ⟨S1x8x1, .i32⟩
  | .local _ .vmem, ⟨4, _⟩ => ⟨S1x8x1, .f32⟩
  | .local _ .vmem, ⟨5, _⟩ => ⟨S1x8x1, .f32⟩
  | .local _ .vmem, ⟨6, _⟩ => ⟨S8x1024, .f32⟩
  | .local _ .vmem, ⟨7, _⟩ => ⟨S8x1024, .i32⟩
  | .local _ .vmem, ⟨8, _⟩ => ⟨S8x1024, .f32⟩
  | .local _ .vmem, ⟨9, _⟩ => ⟨S8x1024, .f32⟩
  | _, _ => ⟨S64x8x1x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32_9 : BitVec 32 := 0#32
  let c97_i32 : BitVec 32 := 97#32
  let v26 : BitVec 32 := Scalar.addi c0_i32_9 c97_i32
  let c1_i32 : BitVec 32 := 1#32
  ⟨c0_i32_9, v26, c1_i32⟩
def k0_off1 (k0_t1 : Fin k0_t1_loop.trips) : Fin 2 → Nat :=
  let c0_237 : Index := 0#32
  let c0_i32_9 : BitVec 32 := 0#32
  let c1_i32 : BitVec 32 := 1#32
  let arg8 : BitVec 32 := Scf.iv c0_i32_9 c1_i32 k0_t1
  let c1024_i32 : BitVec 32 := 1024#32
  let v726 : BitVec 32 := Scalar.muli arg8 c1024_i32
  let v727 : Index := Scalar.indexCast v726
  ![0, v727.toNat]
def k0_off2 (k0_t1 : Fin k0_t1_loop.trips) : Fin 2 → Nat :=
  let c0_314 : Index := 0#32
  let c0_i32_9 : BitVec 32 := 0#32
  let c1_i32 : BitVec 32 := 1#32
  let arg8 : BitVec 32 := Scf.iv c0_i32_9 c1_i32 k0_t1
  let c1024_i32 : BitVec 32 := 1024#32
  let v726 : BitVec 32 := Scalar.muli arg8 c1024_i32
  let c512_i32 : BitVec 32 := 512#32
  let v939 : BitVec 32 := Scalar.addi v726 c512_i32
  let v940 : Index := Scalar.indexCast v939
  ![0, v940.toNat]
@[reducible] def k0_t2_loop : Scf.Loop 32 :=
  let c0_i32_216 : BitVec 32 := 0#32
  let c195_i32 : BitVec 32 := 195#32
  let v672 : BitVec 32 := Scalar.addi c0_i32_216 c195_i32
  let c1_i32_217 : BitVec 32 := 1#32
  ⟨c0_i32_216, v672, c1_i32_217⟩
def k0_off3 (k0_t2 : Fin k0_t2_loop.trips) : Fin 2 → Nat :=
  let c0_237 : Index := 0#32
  let c0_i32_216 : BitVec 32 := 0#32
  let c1_i32_217 : BitVec 32 := 1#32
  let arg8 : BitVec 32 := Scf.iv c0_i32_216 c1_i32_217 k0_t2
  let c512_i32 : BitVec 32 := 512#32
  let v726 : BitVec 32 := Scalar.muli arg8 c512_i32
  let v727 : Index := Scalar.indexCast v726
  ![0, v727.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x100000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S64x8x1x100000 : Shape := ⟨4, ![64, 8, 1, 100000]⟩
abbrev S64x8x100000 : Shape := ⟨3, ![64, 8, 100000]⟩
abbrev S_ : Shape := ⟨0, ![]⟩
abbrev S1 : Shape := ⟨1, ![1]⟩
abbrev S2 : Shape := ⟨1, ![2]⟩
abbrev S1x1x1 : Shape := ⟨3, ![1, 1, 1]⟩
abbrev S64x8 : Shape := ⟨2, ![64, 8]⟩
abbrev S64x8x1 : Shape := ⟨3, ![64, 8, 1]⟩
abbrev S64x8x1x1 : Shape := ⟨4, ![64, 8, 1, 1]⟩
abbrev S1x1x1x1 : Shape := ⟨4, ![1, 1, 1, 1]⟩
abbrev S64 : Shape := ⟨1, ![64]⟩

abbrev nBuf : Space → Nat
  | .hbm => 341
  | .vmem => 0
  | .smem => 0
  | _ => 0

abbrev hbmTy0_0 (i : Nat) : BufTy := match i % 128 with
  | 0 => ⟨S64x8x1x100000, .f32⟩
  | 1 => ⟨S64x8x100000, .f32⟩
  | 2 => ⟨S_, .i32⟩
  | 3 => ⟨S_, .i32⟩
  | 4 => ⟨S_, .i32⟩
  | 5 => ⟨S_, .i32⟩
  | 6 => ⟨S1, .i32⟩
  | 7 => ⟨S_, .i32⟩
  | 8 => ⟨S_, .i32⟩
  | 9 => ⟨S_, .i32⟩
  | 10 => ⟨S1, .i32⟩
  | 11 => ⟨S2, .i32⟩
  | 12 => ⟨S_, .f32⟩
  | 13 => ⟨S_, .f32⟩
  | 14 => ⟨S_, .f32⟩
  | 15 => ⟨S_, .f32⟩
  | 16 => ⟨S1x1x1, .f32⟩
  | 17 => ⟨S1x1x1, .f32⟩
  | 18 => ⟨S1, .i32⟩
  | 19 => ⟨S_, .i32⟩
  | 20 => ⟨S1, .i32⟩
  | 21 => ⟨S_, .i32⟩
  | 22 => ⟨S64x8x100000, .i64⟩
  | 23 => ⟨S64x8x100000, .i64⟩
  | 24 => ⟨S64x8x100000, .i64⟩
  | 25 => ⟨S_, .i64⟩
  | 26 => ⟨S64x8x100000, .i64⟩
  | 27 => ⟨S64x8x100000, .i64⟩
  | 28 => ⟨S_, .i64⟩
  | 29 => ⟨S64x8x100000, .i64⟩
  | 30 => ⟨S64x8x100000, .i64⟩
  | 31 => ⟨S_, .i64⟩
  | 32 => ⟨S64x8x100000, .i64⟩
  | 33 => ⟨S64x8x100000, .i64⟩
  | 34 => ⟨S64x8x100000, .i64⟩
  | 35 => ⟨S64x8x100000, .i64⟩
  | 36 => ⟨S_, .i64⟩
  | 37 => ⟨S64x8x100000, .i64⟩
  | 38 => ⟨S64x8x100000, .i64⟩
  | 39 => ⟨S64x8x100000, .i32⟩
  | 40 => ⟨S64x8x100000, .i32⟩
  | 41 => ⟨S_, .i32⟩
  | 42 => ⟨S_, .i32⟩
  | 43 => ⟨S_, .i32⟩
  | 44 => ⟨S64x8x100000, .i32⟩
  | 45 => ⟨S64x8x100000, .i32⟩
  | 46 => ⟨S64x8x100000, .i32⟩
  | 47 => ⟨S64x8x100000, .i32⟩
  | 48 => ⟨S64x8x100000, .i32⟩
  | 49 => ⟨S_, .i32⟩
  | 50 => ⟨S64x8x100000, .i32⟩
  | 51 => ⟨S64x8x100000, .i32⟩
  | 52 => ⟨S_, .i32⟩
  | 53 => ⟨S64x8x100000, .i32⟩
  | 54 => ⟨S64x8x100000, .i32⟩
  | 55 => ⟨S64x8x100000, .i32⟩
  | 56 => ⟨S64x8x100000, .i32⟩
  | 57 => ⟨S64x8x100000, .i32⟩
  | 58 => ⟨S_, .i32⟩
  | 59 => ⟨S64x8x100000, .i32⟩
  | 60 => ⟨S64x8x100000, .i32⟩
  | 61 => ⟨S_, .i32⟩
  | 62 => ⟨S64x8x100000, .i32⟩
  | 63 => ⟨S64x8x100000, .i32⟩
  | 64 => ⟨S64x8x100000, .i32⟩
  | 65 => ⟨S64x8x100000, .i32⟩
  | 66 => ⟨S64x8x100000, .i32⟩
  | 67 => ⟨S_, .i32⟩
  | 68 => ⟨S64x8x100000, .i32⟩
  | 69 => ⟨S64x8x100000, .i32⟩
  | 70 => ⟨S_, .i32⟩
  | 71 => ⟨S64x8x100000, .i32⟩
  | 72 => ⟨S64x8x100000, .i32⟩
  | 73 => ⟨S64x8x100000, .i32⟩
  | 74 => ⟨S64x8x100000, .i32⟩
  | 75 => ⟨S64x8x100000, .i32⟩
  | 76 => ⟨S_, .i32⟩
  | 77 => ⟨S64x8x100000, .i32⟩
  | 78 => ⟨S64x8x100000, .i32⟩
  | 79 => ⟨S_, .i32⟩
  | 80 => ⟨S64x8x100000, .i32⟩
  | 81 => ⟨S64x8x100000, .i32⟩
  | 82 => ⟨S64x8x100000, .i32⟩
  | 83 => ⟨S64x8x100000, .i32⟩
  | 84 => ⟨S64x8x100000, .i32⟩
  | 85 => ⟨S64x8x100000, .i32⟩
  | 86 => ⟨S64x8x100000, .i32⟩
  | 87 => ⟨S64x8x100000, .i32⟩
  | 88 => ⟨S_, .i32⟩
  | 89 => ⟨S64x8x100000, .i32⟩
  | 90 => ⟨S64x8x100000, .i32⟩
  | 91 => ⟨S64x8x100000, .i32⟩
  | 92 => ⟨S_, .i32⟩
  | 93 => ⟨S64x8x100000, .i32⟩
  | 94 => ⟨S64x8x100000, .i32⟩
  | 95 => ⟨S_, .i32⟩
  | 96 => ⟨S64x8x100000, .i32⟩
  | 97 => ⟨S64x8x100000, .i32⟩
  | 98 => ⟨S64x8x100000, .i32⟩
  | 99 => ⟨S64x8x100000, .i32⟩
  | 100 => ⟨S64x8x100000, .i32⟩
  | 101 => ⟨S_, .i32⟩
  | 102 => ⟨S64x8x100000, .i32⟩
  | 103 => ⟨S64x8x100000, .i32⟩
  | 104 => ⟨S_, .i32⟩
  | 105 => ⟨S64x8x100000, .i32⟩
  | 106 => ⟨S64x8x100000, .i32⟩
  | 107 => ⟨S64x8x100000, .i32⟩
  | 108 => ⟨S64x8x100000, .i32⟩
  | 109 => ⟨S64x8x100000, .i32⟩
  | 110 => ⟨S_, .i32⟩
  | 111 => ⟨S64x8x100000, .i32⟩
  | 112 => ⟨S64x8x100000, .i32⟩
  | 113 => ⟨S_, .i32⟩
  | 114 => ⟨S64x8x100000, .i32⟩
  | 115 => ⟨S64x8x100000, .i32⟩
  | 116 => ⟨S64x8x100000, .i32⟩
  | 117 => ⟨S64x8x100000, .i32⟩
  | 118 => ⟨S64x8x100000, .i32⟩
  | 119 => ⟨S_, .i32⟩
  | 120 => ⟨S64x8x100000, .i32⟩
  | 121 => ⟨S64x8x100000, .i32⟩
  | 122 => ⟨S_, .i32⟩
  | 123 => ⟨S64x8x100000, .i32⟩
  | 124 => ⟨S64x8x100000, .i32⟩
  | 125 => ⟨S64x8x100000, .i32⟩
  | 126 => ⟨S64x8x100000, .i32⟩
  | 127 => ⟨S64x8x100000, .i32⟩
  | _ => ⟨S64x8x1x100000, .f32⟩

abbrev hbmTy0_1 (i : Nat) : BufTy := match i % 128 with
  | 0 => ⟨S64x8x100000, .i32⟩
  | 1 => ⟨S64x8x100000, .i32⟩
  | 2 => ⟨S64x8x100000, .i32⟩
  | 3 => ⟨S_, .i32⟩
  | 4 => ⟨S64x8x100000, .i32⟩
  | 5 => ⟨S64x8x100000, .i32⟩
  | 6 => ⟨S64x8x100000, .i32⟩
  | 7 => ⟨S_, .i32⟩
  | 8 => ⟨S64x8x100000, .i32⟩
  | 9 => ⟨S64x8x100000, .i32⟩
  | 10 => ⟨S_, .i32⟩
  | 11 => ⟨S64x8x100000, .i32⟩
  | 12 => ⟨S64x8x100000, .i32⟩
  | 13 => ⟨S64x8x100000, .i32⟩
  | 14 => ⟨S64x8x100000, .i32⟩
  | 15 => ⟨S64x8x100000, .i32⟩
  | 16 => ⟨S_, .i32⟩
  | 17 => ⟨S64x8x100000, .i32⟩
  | 18 => ⟨S64x8x100000, .i32⟩
  | 19 => ⟨S_, .i32⟩
  | 20 => ⟨S64x8x100000, .i32⟩
  | 21 => ⟨S64x8x100000, .i32⟩
  | 22 => ⟨S64x8x100000, .i32⟩
  | 23 => ⟨S64x8x100000, .i32⟩
  | 24 => ⟨S64x8x100000, .i32⟩
  | 25 => ⟨S_, .i32⟩
  | 26 => ⟨S64x8x100000, .i32⟩
  | 27 => ⟨S64x8x100000, .i32⟩
  | 28 => ⟨S_, .i32⟩
  | 29 => ⟨S64x8x100000, .i32⟩
  | 30 => ⟨S64x8x100000, .i32⟩
  | 31 => ⟨S64x8x100000, .i32⟩
  | 32 => ⟨S64x8x100000, .i32⟩
  | 33 => ⟨S64x8x100000, .i32⟩
  | 34 => ⟨S_, .i32⟩
  | 35 => ⟨S64x8x100000, .i32⟩
  | 36 => ⟨S64x8x100000, .i32⟩
  | 37 => ⟨S_, .i32⟩
  | 38 => ⟨S64x8x100000, .i32⟩
  | 39 => ⟨S64x8x100000, .i32⟩
  | 40 => ⟨S64x8x100000, .i32⟩
  | 41 => ⟨S64x8x100000, .i32⟩
  | 42 => ⟨S64x8x100000, .i32⟩
  | 43 => ⟨S64x8x100000, .i32⟩
  | 44 => ⟨S64x8x100000, .i32⟩
  | 45 => ⟨S64x8x100000, .i32⟩
  | 46 => ⟨S_, .i32⟩
  | 47 => ⟨S64x8x100000, .i32⟩
  | 48 => ⟨S64x8x100000, .i32⟩
  | 49 => ⟨S64x8x100000, .i32⟩
  | 50 => ⟨S_, .i32⟩
  | 51 => ⟨S64x8x100000, .i32⟩
  | 52 => ⟨S64x8x100000, .i32⟩
  | 53 => ⟨S_, .i32⟩
  | 54 => ⟨S64x8x100000, .i32⟩
  | 55 => ⟨S64x8x100000, .i32⟩
  | 56 => ⟨S64x8x100000, .i32⟩
  | 57 => ⟨S64x8x100000, .i32⟩
  | 58 => ⟨S64x8x100000, .i32⟩
  | 59 => ⟨S_, .i32⟩
  | 60 => ⟨S64x8x100000, .i32⟩
  | 61 => ⟨S64x8x100000, .i32⟩
  | 62 => ⟨S_, .i32⟩
  | 63 => ⟨S64x8x100000, .i32⟩
  | 64 => ⟨S64x8x100000, .i32⟩
  | 65 => ⟨S64x8x100000, .i32⟩
  | 66 => ⟨S64x8x100000, .i32⟩
  | 67 => ⟨S64x8x100000, .i32⟩
  | 68 => ⟨S_, .i32⟩
  | 69 => ⟨S64x8x100000, .i32⟩
  | 70 => ⟨S64x8x100000, .i32⟩
  | 71 => ⟨S_, .i32⟩
  | 72 => ⟨S64x8x100000, .i32⟩
  | 73 => ⟨S64x8x100000, .i32⟩
  | 74 => ⟨S64x8x100000, .i32⟩
  | 75 => ⟨S64x8x100000, .i32⟩
  | 76 => ⟨S64x8x100000, .i32⟩
  | 77 => ⟨S_, .i32⟩
  | 78 => ⟨S64x8x100000, .i32⟩
  | 79 => ⟨S64x8x100000, .i32⟩
  | 80 => ⟨S_, .i32⟩
  | 81 => ⟨S64x8x100000, .i32⟩
  | 82 => ⟨S64x8x100000, .i32⟩
  | 83 => ⟨S64x8x100000, .i32⟩
  | 84 => ⟨S64x8x100000, .i32⟩
  | 85 => ⟨S64x8x100000, .i32⟩
  | 86 => ⟨S64x8x100000, .i32⟩
  | 87 => ⟨S64x8x100000, .i32⟩
  | 88 => ⟨S64x8x100000, .i32⟩
  | 89 => ⟨S_, .i32⟩
  | 90 => ⟨S64x8x100000, .i32⟩
  | 91 => ⟨S64x8x100000, .i32⟩
  | 92 => ⟨S64x8x100000, .i32⟩
  | 93 => ⟨S_, .i32⟩
  | 94 => ⟨S64x8x100000, .i32⟩
  | 95 => ⟨S64x8x100000, .i32⟩
  | 96 => ⟨S_, .i32⟩
  | 97 => ⟨S64x8x100000, .i32⟩
  | 98 => ⟨S64x8x100000, .i32⟩
  | 99 => ⟨S64x8x100000, .i32⟩
  | 100 => ⟨S64x8x100000, .i32⟩
  | 101 => ⟨S64x8x100000, .i32⟩
  | 102 => ⟨S_, .i32⟩
  | 103 => ⟨S64x8x100000, .i32⟩
  | 104 => ⟨S64x8x100000, .i32⟩
  | 105 => ⟨S_, .i32⟩
  | 106 => ⟨S64x8x100000, .i32⟩
  | 107 => ⟨S64x8x100000, .i32⟩
  | 108 => ⟨S64x8x100000, .i32⟩
  | 109 => ⟨S64x8x100000, .i32⟩
  | 110 => ⟨S64x8x100000, .i32⟩
  | 111 => ⟨S_, .i32⟩
  | 112 => ⟨S64x8x100000, .i32⟩
  | 113 => ⟨S64x8x100000, .i32⟩
  | 114 => ⟨S_, .i32⟩
  | 115 => ⟨S64x8x100000, .i32⟩
  | 116 => ⟨S64x8x100000, .i32⟩
  | 117 => ⟨S64x8x100000, .i32⟩
  | 118 => ⟨S64x8x100000, .i32⟩
  | 119 => ⟨S64x8x100000, .i32⟩
  | 120 => ⟨S_, .i32⟩
  | 121 => ⟨S64x8x100000, .i32⟩
  | 122 => ⟨S64x8x100000, .i32⟩
  | 123 => ⟨S_, .i32⟩
  | 124 => ⟨S64x8x100000, .i32⟩
  | 125 => ⟨S64x8x100000, .i32⟩
  | 126 => ⟨S64x8x100000, .i32⟩
  | 127 => ⟨S64x8x100000, .i32⟩
  | _ => ⟨S64x8x1x100000, .f32⟩

abbrev hbmTy0_2 (i : Nat) : BufTy := match i % 128 with
  | 0 => ⟨S64x8x100000, .i32⟩
  | 1 => ⟨S64x8x100000, .i32⟩
  | 2 => ⟨S64x8x100000, .i32⟩
  | 3 => ⟨S64x8x100000, .i32⟩
  | 4 => ⟨S_, .i32⟩
  | 5 => ⟨S64x8x100000, .i32⟩
  | 6 => ⟨S64x8x100000, .i32⟩
  | 7 => ⟨S64x8x100000, .i32⟩
  | 8 => ⟨S_, .i32⟩
  | 9 => ⟨S64x8x100000, .i32⟩
  | 10 => ⟨S64x8x100000, .i32⟩
  | 11 => ⟨S_, .i32⟩
  | 12 => ⟨S64x8x100000, .i32⟩
  | 13 => ⟨S64x8x100000, .i32⟩
  | 14 => ⟨S64x8x100000, .f32⟩
  | 15 => ⟨S_, .f32⟩
  | 16 => ⟨S64x8x100000, .f32⟩
  | 17 => ⟨S64x8x100000, .f32⟩
  | 18 => ⟨S1x1x1, .f32⟩
  | 19 => ⟨S64x8x100000, .f32⟩
  | 20 => ⟨S64x8x100000, .f32⟩
  | 21 => ⟨S64x8x100000, .f32⟩
  | 22 => ⟨S64x8x100000, .f32⟩
  | 23 => ⟨S64x8x100000, .f32⟩
  | 24 => ⟨S64x8x100000, .f32⟩
  | 25 => ⟨S_, .f32⟩
  | 26 => ⟨S64x8x100000, .f32⟩
  | 27 => ⟨S64x8x100000, .f32⟩
  | 28 => ⟨S_, .f32⟩
  | 29 => ⟨S64x8x100000, .f32⟩
  | 30 => ⟨S64x8x100000, .f32⟩
  | 31 => ⟨S_, .f32⟩
  | 32 => ⟨S64x8x100000, .f32⟩
  | 33 => ⟨S64x8x100000, .f32⟩
  | 34 => ⟨S64x8x100000, .f32⟩
  | 35 => ⟨S64x8x100000, .f32⟩
  | 36 => ⟨S64x8x100000, .f32⟩
  | 37 => ⟨S64x8x100000, .f32⟩
  | 38 => ⟨S64x8x100000, .f32⟩
  | 39 => ⟨S64x8x100000, .i32⟩
  | 40 => ⟨S_, .f32⟩
  | 41 => ⟨S_, .i32⟩
  | 42 => ⟨S64x8, .f32⟩
  | 43 => ⟨S64x8, .i32⟩
  | 44 => ⟨S_, .f32⟩
  | 45 => ⟨S64x8, .f32⟩
  | 46 => ⟨S_, .f32⟩
  | 47 => ⟨S64x8, .f32⟩
  | 48 => ⟨S64x8, .f32⟩
  | 49 => ⟨S64x8x1, .f32⟩
  | 50 => ⟨S64x8x100000, .f32⟩
  | 51 => ⟨S64x8x100000, .f32⟩
  | 52 => ⟨S64x8x100000, .f32⟩
  | 53 => ⟨S_, .f32⟩
  | 54 => ⟨S64x8, .f32⟩
  | 55 => ⟨S64x8x1, .f32⟩
  | 56 => ⟨S64x8x1, .f32⟩
  | 57 => ⟨S64x8x100000, .f32⟩
  | 58 => ⟨S64x8x100000, .f32⟩
  | 59 => ⟨S64x8x1, .i32⟩
  | 60 => ⟨S_, .i32⟩
  | 61 => ⟨S64x8x1, .i32⟩
  | 62 => ⟨S64x8x1, .i1⟩
  | 63 => ⟨S_, .i32⟩
  | 64 => ⟨S64x8x1, .i32⟩
  | 65 => ⟨S64x8x1, .i32⟩
  | 66 => ⟨S64x8x1, .i32⟩
  | 67 => ⟨S64x8x1x1, .i32⟩
  | 68 => ⟨S1, .i32⟩
  | 69 => ⟨S_, .i32⟩
  | 70 => ⟨S64x8x1x1, .i32⟩
  | 71 => ⟨S64x8x1x1, .i1⟩
  | 72 => ⟨S1x1x1x1, .i32⟩
  | 73 => ⟨S64x8x1x1, .i32⟩
  | 74 => ⟨S64x8x1x1, .i1⟩
  | 75 => ⟨S64x8x1x1, .i1⟩
  | 76 => ⟨S_, .i1⟩
  | 77 => ⟨S64x8x1, .i1⟩
  | 78 => ⟨S64x8x1, .f32⟩
  | 79 => ⟨S_, .f32⟩
  | 80 => ⟨S64x8x1, .f32⟩
  | 81 => ⟨S64x8x1, .f32⟩
  | 82 => ⟨S64x8, .f32⟩
  | 83 => ⟨S_, .f32⟩
  | 84 => ⟨S64, .f32⟩
  | _ => ⟨S64x8x1x100000, .f32⟩

abbrev hbmTy (i : Nat) : BufTy := match i / 128 with
  | 0 => hbmTy0_0 i
  | 1 => hbmTy0_1 i
  | 2 => hbmTy0_2 i
  | _ => ⟨S64x8x1x100000, .f32⟩

abbrev bufTy : (tb : Table) → Fin (tcTables nBuf tb) → BufTy
  | .hbm, ⟨i, _⟩ => hbmTy i
  | _, _ => ⟨S64x8x1x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_c_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c_1 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_cst_2 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_c : Ref sig .tc := ⟨.hbm, 25, rfl⟩
abbrev main_call0_v11 : Ref sig .tc := ⟨.hbm, 26, rfl⟩
abbrev main_call0_v12 : Ref sig .tc := ⟨.hbm, 27, rfl⟩
abbrev main_call0_c_0 : Ref sig .tc := ⟨.hbm, 28, rfl⟩
abbrev main_call0_v13 : Ref sig .tc := ⟨.hbm, 29, rfl⟩
abbrev main_call0_v14 : Ref sig .tc := ⟨.hbm, 30, rfl⟩
abbrev main_call0_c_1 : Ref sig .tc := ⟨.hbm, 31, rfl⟩
abbrev main_call0_v15 : Ref sig .tc := ⟨.hbm, 32, rfl⟩
abbrev main_call0_v16 : Ref sig .tc := ⟨.hbm, 33, rfl⟩
abbrev main_call0_v17 : Ref sig .tc := ⟨.hbm, 34, rfl⟩
abbrev main_call0_v18 : Ref sig .tc := ⟨.hbm, 35, rfl⟩
abbrev main_call0_c_2 : Ref sig .tc := ⟨.hbm, 36, rfl⟩
abbrev main_call0_v19 : Ref sig .tc := ⟨.hbm, 37, rfl⟩
abbrev main_call0_v20 : Ref sig .tc := ⟨.hbm, 38, rfl⟩
abbrev main_call0_v21 : Ref sig .tc := ⟨.hbm, 39, rfl⟩
abbrev main_call0_v22 : Ref sig .tc := ⟨.hbm, 40, rfl⟩
abbrev main_call0_call0_v0 : Ref sig .tc := ⟨.hbm, 41, rfl⟩
abbrev main_call0_call0_c : Ref sig .tc := ⟨.hbm, 42, rfl⟩
abbrev main_call0_call0_v1 : Ref sig .tc := ⟨.hbm, 43, rfl⟩
abbrev main_call0_call0_v2 : Ref sig .tc := ⟨.hbm, 44, rfl⟩
abbrev main_call0_call0_v3 : Ref sig .tc := ⟨.hbm, 45, rfl⟩
abbrev main_call0_call0_v4 : Ref sig .tc := ⟨.hbm, 46, rfl⟩
abbrev main_call0_call0_v5 : Ref sig .tc := ⟨.hbm, 47, rfl⟩
abbrev main_call0_call0_v6 : Ref sig .tc := ⟨.hbm, 48, rfl⟩
abbrev main_call0_call0_c_0 : Ref sig .tc := ⟨.hbm, 49, rfl⟩
abbrev main_call0_call0_v7 : Ref sig .tc := ⟨.hbm, 50, rfl⟩
abbrev main_call0_call0_v8 : Ref sig .tc := ⟨.hbm, 51, rfl⟩
abbrev main_call0_call0_c_1 : Ref sig .tc := ⟨.hbm, 52, rfl⟩
abbrev main_call0_call0_v9 : Ref sig .tc := ⟨.hbm, 53, rfl⟩
abbrev main_call0_call0_v10 : Ref sig .tc := ⟨.hbm, 54, rfl⟩
abbrev main_call0_call0_v11 : Ref sig .tc := ⟨.hbm, 55, rfl⟩
abbrev main_call0_call0_v12 : Ref sig .tc := ⟨.hbm, 56, rfl⟩
abbrev main_call0_call0_v13 : Ref sig .tc := ⟨.hbm, 57, rfl⟩
abbrev main_call0_call0_c_2 : Ref sig .tc := ⟨.hbm, 58, rfl⟩
abbrev main_call0_call0_v14 : Ref sig .tc := ⟨.hbm, 59, rfl⟩
abbrev main_call0_call0_v15 : Ref sig .tc := ⟨.hbm, 60, rfl⟩
abbrev main_call0_call0_c_3 : Ref sig .tc := ⟨.hbm, 61, rfl⟩
abbrev main_call0_call0_v16 : Ref sig .tc := ⟨.hbm, 62, rfl⟩
abbrev main_call0_call0_v17 : Ref sig .tc := ⟨.hbm, 63, rfl⟩
abbrev main_call0_call0_v18 : Ref sig .tc := ⟨.hbm, 64, rfl⟩
abbrev main_call0_call0_v19 : Ref sig .tc := ⟨.hbm, 65, rfl⟩
abbrev main_call0_call0_v20 : Ref sig .tc := ⟨.hbm, 66, rfl⟩
abbrev main_call0_call0_c_4 : Ref sig .tc := ⟨.hbm, 67, rfl⟩
abbrev main_call0_call0_v21 : Ref sig .tc := ⟨.hbm, 68, rfl⟩
abbrev main_call0_call0_v22 : Ref sig .tc := ⟨.hbm, 69, rfl⟩
abbrev main_call0_call0_c_5 : Ref sig .tc := ⟨.hbm, 70, rfl⟩
abbrev main_call0_call0_v23 : Ref sig .tc := ⟨.hbm, 71, rfl⟩
abbrev main_call0_call0_v24 : Ref sig .tc := ⟨.hbm, 72, rfl⟩
abbrev main_call0_call0_v25 : Ref sig .tc := ⟨.hbm, 73, rfl⟩
abbrev main_call0_call0_v26 : Ref sig .tc := ⟨.hbm, 74, rfl⟩
abbrev main_call0_call0_v27 : Ref sig .tc := ⟨.hbm, 75, rfl⟩
abbrev main_call0_call0_c_6 : Ref sig .tc := ⟨.hbm, 76, rfl⟩
abbrev main_call0_call0_v28 : Ref sig .tc := ⟨.hbm, 77, rfl⟩
abbrev main_call0_call0_v29 : Ref sig .tc := ⟨.hbm, 78, rfl⟩
abbrev main_call0_call0_c_7 : Ref sig .tc := ⟨.hbm, 79, rfl⟩
abbrev main_call0_call0_v30 : Ref sig .tc := ⟨.hbm, 80, rfl⟩
abbrev main_call0_call0_v31 : Ref sig .tc := ⟨.hbm, 81, rfl⟩
abbrev main_call0_call0_v32 : Ref sig .tc := ⟨.hbm, 82, rfl⟩
abbrev main_call0_call0_v33 : Ref sig .tc := ⟨.hbm, 83, rfl⟩
abbrev main_call0_call0_v34 : Ref sig .tc := ⟨.hbm, 84, rfl⟩
abbrev main_call0_call0_v35 : Ref sig .tc := ⟨.hbm, 85, rfl⟩
abbrev main_call0_call0_v36 : Ref sig .tc := ⟨.hbm, 86, rfl⟩
abbrev main_call0_call0_v37 : Ref sig .tc := ⟨.hbm, 87, rfl⟩
abbrev main_call0_call0_c_8 : Ref sig .tc := ⟨.hbm, 88, rfl⟩
abbrev main_call0_call0_v38 : Ref sig .tc := ⟨.hbm, 89, rfl⟩
abbrev main_call0_call0_v39 : Ref sig .tc := ⟨.hbm, 90, rfl⟩
abbrev main_call0_call0_v40 : Ref sig .tc := ⟨.hbm, 91, rfl⟩
abbrev main_call0_call0_c_9 : Ref sig .tc := ⟨.hbm, 92, rfl⟩
abbrev main_call0_call0_v41 : Ref sig .tc := ⟨.hbm, 93, rfl⟩
abbrev main_call0_call0_v42 : Ref sig .tc := ⟨.hbm, 94, rfl⟩
abbrev main_call0_call0_c_10 : Ref sig .tc := ⟨.hbm, 95, rfl⟩
abbrev main_call0_call0_v43 : Ref sig .tc := ⟨.hbm, 96, rfl⟩
abbrev main_call0_call0_v44 : Ref sig .tc := ⟨.hbm, 97, rfl⟩
abbrev main_call0_call0_v45 : Ref sig .tc := ⟨.hbm, 98, rfl⟩
abbrev main_call0_call0_v46 : Ref sig .tc := ⟨.hbm, 99, rfl⟩
abbrev main_call0_call0_v47 : Ref sig .tc := ⟨.hbm, 100, rfl⟩
abbrev main_call0_call0_c_11 : Ref sig .tc := ⟨.hbm, 101, rfl⟩
abbrev main_call0_call0_v48 : Ref sig .tc := ⟨.hbm, 102, rfl⟩
abbrev main_call0_call0_v49 : Ref sig .tc := ⟨.hbm, 103, rfl⟩
abbrev main_call0_call0_c_12 : Ref sig .tc := ⟨.hbm, 104, rfl⟩
abbrev main_call0_call0_v50 : Ref sig .tc := ⟨.hbm, 105, rfl⟩
abbrev main_call0_call0_v51 : Ref sig .tc := ⟨.hbm, 106, rfl⟩
abbrev main_call0_call0_v52 : Ref sig .tc := ⟨.hbm, 107, rfl⟩
abbrev main_call0_call0_v53 : Ref sig .tc := ⟨.hbm, 108, rfl⟩
abbrev main_call0_call0_v54 : Ref sig .tc := ⟨.hbm, 109, rfl⟩
abbrev main_call0_call0_c_13 : Ref sig .tc := ⟨.hbm, 110, rfl⟩
abbrev main_call0_call0_v55 : Ref sig .tc := ⟨.hbm, 111, rfl⟩
abbrev main_call0_call0_v56 : Ref sig .tc := ⟨.hbm, 112, rfl⟩
abbrev main_call0_call0_c_14 : Ref sig .tc := ⟨.hbm, 113, rfl⟩
abbrev main_call0_call0_v57 : Ref sig .tc := ⟨.hbm, 114, rfl⟩
abbrev main_call0_call0_v58 : Ref sig .tc := ⟨.hbm, 115, rfl⟩
abbrev main_call0_call0_v59 : Ref sig .tc := ⟨.hbm, 116, rfl⟩
abbrev main_call0_call0_v60 : Ref sig .tc := ⟨.hbm, 117, rfl⟩
abbrev main_call0_call0_v61 : Ref sig .tc := ⟨.hbm, 118, rfl⟩
abbrev main_call0_call0_c_15 : Ref sig .tc := ⟨.hbm, 119, rfl⟩
abbrev main_call0_call0_v62 : Ref sig .tc := ⟨.hbm, 120, rfl⟩
abbrev main_call0_call0_v63 : Ref sig .tc := ⟨.hbm, 121, rfl⟩
abbrev main_call0_call0_c_16 : Ref sig .tc := ⟨.hbm, 122, rfl⟩
abbrev main_call0_call0_v64 : Ref sig .tc := ⟨.hbm, 123, rfl⟩
abbrev main_call0_call0_v65 : Ref sig .tc := ⟨.hbm, 124, rfl⟩
abbrev main_call0_call0_v66 : Ref sig .tc := ⟨.hbm, 125, rfl⟩
abbrev main_call0_call0_v67 : Ref sig .tc := ⟨.hbm, 126, rfl⟩
abbrev main_call0_call0_v68 : Ref sig .tc := ⟨.hbm, 127, rfl⟩
abbrev main_call0_call0_v69 : Ref sig .tc := ⟨.hbm, 128, rfl⟩
abbrev main_call0_call0_v70 : Ref sig .tc := ⟨.hbm, 129, rfl⟩
abbrev main_call0_call0_v71 : Ref sig .tc := ⟨.hbm, 130, rfl⟩
abbrev main_call0_call0_c_17 : Ref sig .tc := ⟨.hbm, 131, rfl⟩
abbrev main_call0_call0_v72 : Ref sig .tc := ⟨.hbm, 132, rfl⟩
abbrev main_call0_call0_v73 : Ref sig .tc := ⟨.hbm, 133, rfl⟩
abbrev main_call0_call0_v74 : Ref sig .tc := ⟨.hbm, 134, rfl⟩
abbrev main_call0_call0_c_18 : Ref sig .tc := ⟨.hbm, 135, rfl⟩
abbrev main_call0_call0_v75 : Ref sig .tc := ⟨.hbm, 136, rfl⟩
abbrev main_call0_call0_v76 : Ref sig .tc := ⟨.hbm, 137, rfl⟩
abbrev main_call0_call0_c_19 : Ref sig .tc := ⟨.hbm, 138, rfl⟩
abbrev main_call0_call0_v77 : Ref sig .tc := ⟨.hbm, 139, rfl⟩
abbrev main_call0_call0_v78 : Ref sig .tc := ⟨.hbm, 140, rfl⟩
abbrev main_call0_call0_v79 : Ref sig .tc := ⟨.hbm, 141, rfl⟩
abbrev main_call0_call0_v80 : Ref sig .tc := ⟨.hbm, 142, rfl⟩
abbrev main_call0_call0_v81 : Ref sig .tc := ⟨.hbm, 143, rfl⟩
abbrev main_call0_call0_c_20 : Ref sig .tc := ⟨.hbm, 144, rfl⟩
abbrev main_call0_call0_v82 : Ref sig .tc := ⟨.hbm, 145, rfl⟩
abbrev main_call0_call0_v83 : Ref sig .tc := ⟨.hbm, 146, rfl⟩
abbrev main_call0_call0_c_21 : Ref sig .tc := ⟨.hbm, 147, rfl⟩
abbrev main_call0_call0_v84 : Ref sig .tc := ⟨.hbm, 148, rfl⟩
abbrev main_call0_call0_v85 : Ref sig .tc := ⟨.hbm, 149, rfl⟩
abbrev main_call0_call0_v86 : Ref sig .tc := ⟨.hbm, 150, rfl⟩
abbrev main_call0_call0_v87 : Ref sig .tc := ⟨.hbm, 151, rfl⟩
abbrev main_call0_call0_v88 : Ref sig .tc := ⟨.hbm, 152, rfl⟩
abbrev main_call0_call0_c_22 : Ref sig .tc := ⟨.hbm, 153, rfl⟩
abbrev main_call0_call0_v89 : Ref sig .tc := ⟨.hbm, 154, rfl⟩
abbrev main_call0_call0_v90 : Ref sig .tc := ⟨.hbm, 155, rfl⟩
abbrev main_call0_call0_c_23 : Ref sig .tc := ⟨.hbm, 156, rfl⟩
abbrev main_call0_call0_v91 : Ref sig .tc := ⟨.hbm, 157, rfl⟩
abbrev main_call0_call0_v92 : Ref sig .tc := ⟨.hbm, 158, rfl⟩
abbrev main_call0_call0_v93 : Ref sig .tc := ⟨.hbm, 159, rfl⟩
abbrev main_call0_call0_v94 : Ref sig .tc := ⟨.hbm, 160, rfl⟩
abbrev main_call0_call0_v95 : Ref sig .tc := ⟨.hbm, 161, rfl⟩
abbrev main_call0_call0_c_24 : Ref sig .tc := ⟨.hbm, 162, rfl⟩
abbrev main_call0_call0_v96 : Ref sig .tc := ⟨.hbm, 163, rfl⟩
abbrev main_call0_call0_v97 : Ref sig .tc := ⟨.hbm, 164, rfl⟩
abbrev main_call0_call0_c_25 : Ref sig .tc := ⟨.hbm, 165, rfl⟩
abbrev main_call0_call0_v98 : Ref sig .tc := ⟨.hbm, 166, rfl⟩
abbrev main_call0_call0_v99 : Ref sig .tc := ⟨.hbm, 167, rfl⟩
abbrev main_call0_call0_v100 : Ref sig .tc := ⟨.hbm, 168, rfl⟩
abbrev main_call0_call0_v101 : Ref sig .tc := ⟨.hbm, 169, rfl⟩
abbrev main_call0_call0_v102 : Ref sig .tc := ⟨.hbm, 170, rfl⟩
abbrev main_call0_call0_v103 : Ref sig .tc := ⟨.hbm, 171, rfl⟩
abbrev main_call0_call0_v104 : Ref sig .tc := ⟨.hbm, 172, rfl⟩
abbrev main_call0_call0_v105 : Ref sig .tc := ⟨.hbm, 173, rfl⟩
abbrev main_call0_call0_c_26 : Ref sig .tc := ⟨.hbm, 174, rfl⟩
abbrev main_call0_call0_v106 : Ref sig .tc := ⟨.hbm, 175, rfl⟩
abbrev main_call0_call0_v107 : Ref sig .tc := ⟨.hbm, 176, rfl⟩
abbrev main_call0_call0_v108 : Ref sig .tc := ⟨.hbm, 177, rfl⟩
abbrev main_call0_call0_c_27 : Ref sig .tc := ⟨.hbm, 178, rfl⟩
abbrev main_call0_call0_v109 : Ref sig .tc := ⟨.hbm, 179, rfl⟩
abbrev main_call0_call0_v110 : Ref sig .tc := ⟨.hbm, 180, rfl⟩
abbrev main_call0_call0_c_28 : Ref sig .tc := ⟨.hbm, 181, rfl⟩
abbrev main_call0_call0_v111 : Ref sig .tc := ⟨.hbm, 182, rfl⟩
abbrev main_call0_call0_v112 : Ref sig .tc := ⟨.hbm, 183, rfl⟩
abbrev main_call0_call0_v113 : Ref sig .tc := ⟨.hbm, 184, rfl⟩
abbrev main_call0_call0_v114 : Ref sig .tc := ⟨.hbm, 185, rfl⟩
abbrev main_call0_call0_v115 : Ref sig .tc := ⟨.hbm, 186, rfl⟩
abbrev main_call0_call0_c_29 : Ref sig .tc := ⟨.hbm, 187, rfl⟩
abbrev main_call0_call0_v116 : Ref sig .tc := ⟨.hbm, 188, rfl⟩
abbrev main_call0_call0_v117 : Ref sig .tc := ⟨.hbm, 189, rfl⟩
abbrev main_call0_call0_c_30 : Ref sig .tc := ⟨.hbm, 190, rfl⟩
abbrev main_call0_call0_v118 : Ref sig .tc := ⟨.hbm, 191, rfl⟩
abbrev main_call0_call0_v119 : Ref sig .tc := ⟨.hbm, 192, rfl⟩
abbrev main_call0_call0_v120 : Ref sig .tc := ⟨.hbm, 193, rfl⟩
abbrev main_call0_call0_v121 : Ref sig .tc := ⟨.hbm, 194, rfl⟩
abbrev main_call0_call0_v122 : Ref sig .tc := ⟨.hbm, 195, rfl⟩
abbrev main_call0_call0_c_31 : Ref sig .tc := ⟨.hbm, 196, rfl⟩
abbrev main_call0_call0_v123 : Ref sig .tc := ⟨.hbm, 197, rfl⟩
abbrev main_call0_call0_v124 : Ref sig .tc := ⟨.hbm, 198, rfl⟩
abbrev main_call0_call0_c_32 : Ref sig .tc := ⟨.hbm, 199, rfl⟩
abbrev main_call0_call0_v125 : Ref sig .tc := ⟨.hbm, 200, rfl⟩
abbrev main_call0_call0_v126 : Ref sig .tc := ⟨.hbm, 201, rfl⟩
abbrev main_call0_call0_v127 : Ref sig .tc := ⟨.hbm, 202, rfl⟩
abbrev main_call0_call0_v128 : Ref sig .tc := ⟨.hbm, 203, rfl⟩
abbrev main_call0_call0_v129 : Ref sig .tc := ⟨.hbm, 204, rfl⟩
abbrev main_call0_call0_c_33 : Ref sig .tc := ⟨.hbm, 205, rfl⟩
abbrev main_call0_call0_v130 : Ref sig .tc := ⟨.hbm, 206, rfl⟩
abbrev main_call0_call0_v131 : Ref sig .tc := ⟨.hbm, 207, rfl⟩
abbrev main_call0_call0_c_34 : Ref sig .tc := ⟨.hbm, 208, rfl⟩
abbrev main_call0_call0_v132 : Ref sig .tc := ⟨.hbm, 209, rfl⟩
abbrev main_call0_call0_v133 : Ref sig .tc := ⟨.hbm, 210, rfl⟩
abbrev main_call0_call0_v134 : Ref sig .tc := ⟨.hbm, 211, rfl⟩
abbrev main_call0_call0_v135 : Ref sig .tc := ⟨.hbm, 212, rfl⟩
abbrev main_call0_call0_v136 : Ref sig .tc := ⟨.hbm, 213, rfl⟩
abbrev main_call0_call0_v137 : Ref sig .tc := ⟨.hbm, 214, rfl⟩
abbrev main_call0_call0_v138 : Ref sig .tc := ⟨.hbm, 215, rfl⟩
abbrev main_call0_call0_v139 : Ref sig .tc := ⟨.hbm, 216, rfl⟩
abbrev main_call0_call0_c_35 : Ref sig .tc := ⟨.hbm, 217, rfl⟩
abbrev main_call0_call0_v140 : Ref sig .tc := ⟨.hbm, 218, rfl⟩
abbrev main_call0_call0_v141 : Ref sig .tc := ⟨.hbm, 219, rfl⟩
abbrev main_call0_call0_v142 : Ref sig .tc := ⟨.hbm, 220, rfl⟩
abbrev main_call0_call0_c_36 : Ref sig .tc := ⟨.hbm, 221, rfl⟩
abbrev main_call0_call0_v143 : Ref sig .tc := ⟨.hbm, 222, rfl⟩
abbrev main_call0_call0_v144 : Ref sig .tc := ⟨.hbm, 223, rfl⟩
abbrev main_call0_call0_c_37 : Ref sig .tc := ⟨.hbm, 224, rfl⟩
abbrev main_call0_call0_v145 : Ref sig .tc := ⟨.hbm, 225, rfl⟩
abbrev main_call0_call0_v146 : Ref sig .tc := ⟨.hbm, 226, rfl⟩
abbrev main_call0_call0_v147 : Ref sig .tc := ⟨.hbm, 227, rfl⟩
abbrev main_call0_call0_v148 : Ref sig .tc := ⟨.hbm, 228, rfl⟩
abbrev main_call0_call0_v149 : Ref sig .tc := ⟨.hbm, 229, rfl⟩
abbrev main_call0_call0_c_38 : Ref sig .tc := ⟨.hbm, 230, rfl⟩
abbrev main_call0_call0_v150 : Ref sig .tc := ⟨.hbm, 231, rfl⟩
abbrev main_call0_call0_v151 : Ref sig .tc := ⟨.hbm, 232, rfl⟩
abbrev main_call0_call0_c_39 : Ref sig .tc := ⟨.hbm, 233, rfl⟩
abbrev main_call0_call0_v152 : Ref sig .tc := ⟨.hbm, 234, rfl⟩
abbrev main_call0_call0_v153 : Ref sig .tc := ⟨.hbm, 235, rfl⟩
abbrev main_call0_call0_v154 : Ref sig .tc := ⟨.hbm, 236, rfl⟩
abbrev main_call0_call0_v155 : Ref sig .tc := ⟨.hbm, 237, rfl⟩
abbrev main_call0_call0_v156 : Ref sig .tc := ⟨.hbm, 238, rfl⟩
abbrev main_call0_call0_c_40 : Ref sig .tc := ⟨.hbm, 239, rfl⟩
abbrev main_call0_call0_v157 : Ref sig .tc := ⟨.hbm, 240, rfl⟩
abbrev main_call0_call0_v158 : Ref sig .tc := ⟨.hbm, 241, rfl⟩
abbrev main_call0_call0_c_41 : Ref sig .tc := ⟨.hbm, 242, rfl⟩
abbrev main_call0_call0_v159 : Ref sig .tc := ⟨.hbm, 243, rfl⟩
abbrev main_call0_call0_v160 : Ref sig .tc := ⟨.hbm, 244, rfl⟩
abbrev main_call0_call0_v161 : Ref sig .tc := ⟨.hbm, 245, rfl⟩
abbrev main_call0_call0_v162 : Ref sig .tc := ⟨.hbm, 246, rfl⟩
abbrev main_call0_call0_v163 : Ref sig .tc := ⟨.hbm, 247, rfl⟩
abbrev main_call0_call0_c_42 : Ref sig .tc := ⟨.hbm, 248, rfl⟩
abbrev main_call0_call0_v164 : Ref sig .tc := ⟨.hbm, 249, rfl⟩
abbrev main_call0_call0_v165 : Ref sig .tc := ⟨.hbm, 250, rfl⟩
abbrev main_call0_call0_c_43 : Ref sig .tc := ⟨.hbm, 251, rfl⟩
abbrev main_call0_call0_v166 : Ref sig .tc := ⟨.hbm, 252, rfl⟩
abbrev main_call0_call0_v167 : Ref sig .tc := ⟨.hbm, 253, rfl⟩
abbrev main_call0_call0_v168 : Ref sig .tc := ⟨.hbm, 254, rfl⟩
abbrev main_call0_call0_v169 : Ref sig .tc := ⟨.hbm, 255, rfl⟩
abbrev main_call0_call0_v170 : Ref sig .tc := ⟨.hbm, 256, rfl⟩
abbrev main_call0_v23_0 : Ref sig .tc := ⟨.hbm, 257, rfl⟩
abbrev main_call0_call0_v172 : Ref sig .tc := ⟨.hbm, 258, rfl⟩
abbrev main_call0_call0_v173 : Ref sig .tc := ⟨.hbm, 259, rfl⟩
abbrev main_call0_call0_c_44 : Ref sig .tc := ⟨.hbm, 260, rfl⟩
abbrev main_call0_call0_v174 : Ref sig .tc := ⟨.hbm, 261, rfl⟩
abbrev main_call0_v23_1 : Ref sig .tc := ⟨.hbm, 262, rfl⟩
abbrev main_call0_v24 : Ref sig .tc := ⟨.hbm, 263, rfl⟩
abbrev main_call0_c_3 : Ref sig .tc := ⟨.hbm, 264, rfl⟩
abbrev main_call0_v25 : Ref sig .tc := ⟨.hbm, 265, rfl⟩
abbrev main_call0_v26 : Ref sig .tc := ⟨.hbm, 266, rfl⟩
abbrev main_call0_c_4 : Ref sig .tc := ⟨.hbm, 267, rfl⟩
abbrev main_call0_v27 : Ref sig .tc := ⟨.hbm, 268, rfl⟩
abbrev main_call0_v28 : Ref sig .tc := ⟨.hbm, 269, rfl⟩
abbrev main_call0_v29 : Ref sig .tc := ⟨.hbm, 270, rfl⟩
abbrev main_call0_cst : Ref sig .tc := ⟨.hbm, 271, rfl⟩
abbrev main_call0_v30 : Ref sig .tc := ⟨.hbm, 272, rfl⟩
abbrev main_call0_v31 : Ref sig .tc := ⟨.hbm, 273, rfl⟩
abbrev main_call0_v32 : Ref sig .tc := ⟨.hbm, 274, rfl⟩
abbrev main_call0_v33 : Ref sig .tc := ⟨.hbm, 275, rfl⟩
abbrev main_call0_v34 : Ref sig .tc := ⟨.hbm, 276, rfl⟩
abbrev main_call0_v35 : Ref sig .tc := ⟨.hbm, 277, rfl⟩
abbrev main_call0_v36 : Ref sig .tc := ⟨.hbm, 278, rfl⟩
abbrev main_call0_v37 : Ref sig .tc := ⟨.hbm, 279, rfl⟩
abbrev main_v8 : Ref sig .tc := ⟨.hbm, 280, rfl⟩
abbrev main_cst_3 : Ref sig .tc := ⟨.hbm, 281, rfl⟩
abbrev main_v9 : Ref sig .tc := ⟨.hbm, 282, rfl⟩
abbrev main_v10 : Ref sig .tc := ⟨.hbm, 283, rfl⟩
abbrev main_cst_4 : Ref sig .tc := ⟨.hbm, 284, rfl⟩
abbrev main_v11 : Ref sig .tc := ⟨.hbm, 285, rfl⟩
abbrev main_v12 : Ref sig .tc := ⟨.hbm, 286, rfl⟩
abbrev main_cst_5 : Ref sig .tc := ⟨.hbm, 287, rfl⟩
abbrev main_v13 : Ref sig .tc := ⟨.hbm, 288, rfl⟩
abbrev main_v14 : Ref sig .tc := ⟨.hbm, 289, rfl⟩
abbrev main_v15 : Ref sig .tc := ⟨.hbm, 290, rfl⟩
abbrev main_v16 : Ref sig .tc := ⟨.hbm, 291, rfl⟩
abbrev main_v17 : Ref sig .tc := ⟨.hbm, 292, rfl⟩
abbrev main_v18 : Ref sig .tc := ⟨.hbm, 293, rfl⟩
abbrev main_v19 : Ref sig .tc := ⟨.hbm, 294, rfl⟩
abbrev main_call1_v0 : Ref sig .tc := ⟨.hbm, 295, rfl⟩
abbrev main_call1_cst : Ref sig .tc := ⟨.hbm, 296, rfl⟩
abbrev main_call1_c : Ref sig .tc := ⟨.hbm, 297, rfl⟩
abbrev main_call1_v1_0 : Ref sig .tc := ⟨.hbm, 298, rfl⟩
abbrev main_v20 : Ref sig .tc := ⟨.hbm, 299, rfl⟩
abbrev main_call2_cst : Ref sig .tc := ⟨.hbm, 300, rfl⟩
abbrev main_call2_v0 : Ref sig .tc := ⟨.hbm, 301, rfl⟩
abbrev main_call2_cst_0 : Ref sig .tc := ⟨.hbm, 302, rfl⟩
abbrev main_call2_v1 : Ref sig .tc := ⟨.hbm, 303, rfl⟩
abbrev main_call2_v2 : Ref sig .tc := ⟨.hbm, 304, rfl⟩
abbrev main_call2_v3 : Ref sig .tc := ⟨.hbm, 305, rfl⟩
abbrev main_call2_v4 : Ref sig .tc := ⟨.hbm, 306, rfl⟩
abbrev main_call2_v5 : Ref sig .tc := ⟨.hbm, 307, rfl⟩
abbrev main_call2_v6 : Ref sig .tc := ⟨.hbm, 308, rfl⟩
abbrev main_call2_cst_1 : Ref sig .tc := ⟨.hbm, 309, rfl⟩
abbrev main_call2_v7 : Ref sig .tc := ⟨.hbm, 310, rfl⟩
abbrev main_call2_v8 : Ref sig .tc := ⟨.hbm, 311, rfl⟩
abbrev main_call2_v9 : Ref sig .tc := ⟨.hbm, 312, rfl⟩
abbrev main_call2_v10 : Ref sig .tc := ⟨.hbm, 313, rfl⟩
abbrev main_v21 : Ref sig .tc := ⟨.hbm, 314, rfl⟩
abbrev main_v22 : Ref sig .tc := ⟨.hbm, 315, rfl⟩
abbrev main_call3_c : Ref sig .tc := ⟨.hbm, 316, rfl⟩
abbrev main_call3_v0 : Ref sig .tc := ⟨.hbm, 317, rfl⟩
abbrev main_call3_v1 : Ref sig .tc := ⟨.hbm, 318, rfl⟩
abbrev main_call3_c_0 : Ref sig .tc := ⟨.hbm, 319, rfl⟩
abbrev main_call3_v2 : Ref sig .tc := ⟨.hbm, 320, rfl⟩
abbrev main_call3_v3 : Ref sig .tc := ⟨.hbm, 321, rfl⟩
abbrev main_call3_v4 : Ref sig .tc := ⟨.hbm, 322, rfl⟩
abbrev main_call3_v5 : Ref sig .tc := ⟨.hbm, 323, rfl⟩
abbrev main_call3_c_1 : Ref sig .tc := ⟨.hbm, 324, rfl⟩
abbrev main_call3_c_2 : Ref sig .tc := ⟨.hbm, 325, rfl⟩
abbrev main_call3_v6 : Ref sig .tc := ⟨.hbm, 326, rfl⟩
abbrev main_call3_v7 : Ref sig .tc := ⟨.hbm, 327, rfl⟩
abbrev main_call3_v8 : Ref sig .tc := ⟨.hbm, 328, rfl⟩
abbrev main_call3_v9 : Ref sig .tc := ⟨.hbm, 329, rfl⟩
abbrev main_call3_v10 : Ref sig .tc := ⟨.hbm, 330, rfl⟩
abbrev main_call3_v11 : Ref sig .tc := ⟨.hbm, 331, rfl⟩
abbrev main_call3_c_3 : Ref sig .tc := ⟨.hbm, 332, rfl⟩
abbrev main_call3_v12 : Ref sig .tc := ⟨.hbm, 333, rfl⟩
abbrev main_call3_v13 : Ref sig .tc := ⟨.hbm, 334, rfl⟩
abbrev main_call3_cst : Ref sig .tc := ⟨.hbm, 335, rfl⟩
abbrev main_call3_v14 : Ref sig .tc := ⟨.hbm, 336, rfl⟩
abbrev main_v23 : Ref sig .tc := ⟨.hbm, 337, rfl⟩
abbrev main_v24 : Ref sig .tc := ⟨.hbm, 338, rfl⟩
abbrev main_cst_6 : Ref sig .tc := ⟨.hbm, 339, rfl⟩
abbrev main_v25 : Ref sig .tc := ⟨.hbm, 340, rfl⟩

abbrev nD : Nat := 1
abbrev τ : Topo := Topo.v7x

variable {F : FTy → Type} [FloatOps F]
-- ==== Proof.Hash.lean ====
/-
  The counter-based block cipher threefry with two 32-bit words and twenty rounds, keyed with the words 0 and 42, and the bit
  pattern of a float in [1, 2) that both programs make of its output: pure functions on 32-bit words.
-/
module

public import Idealize.ShloMosaic.PureOps.Vector

@[expose] public section

namespace Cert.Proof

open Idealize.ShloMosaic

/-- One round on a pair of words: the sum of the two, and the second rotated by `r` (`s` is the complement of `r` to 32)
    exclusive-or that sum. -/
def rnd (r s : BitVec 32) (p : BitVec 32 × BitVec 32) : BitVec 32 × BitVec 32 :=
  (IntOp.addi p.1 p.2,
    IntOp.xori (IntOp.ori (IntOp.shli .vector p.2 r) (IntOp.shrui .vector p.2 s)) (IntOp.addi p.1 p.2))

/-- The four rounds with the first set of rotations, -/
def mixA (p : BitVec 32 × BitVec 32) : BitVec 32 × BitVec 32 :=
  rnd 6#32 26#32 (rnd 26#32 6#32 (rnd 15#32 17#32 (rnd 13#32 19#32 p)))

/-- and with the second. -/
def mixB (p : BitVec 32 × BitVec 32) : BitVec 32 × BitVec 32 :=
  rnd 24#32 8#32 (rnd 16#32 16#32 (rnd 29#32 3#32 (rnd 17#32 15#32 p)))

/-- A key addition: `a` to the first word, `b` and then the counter `n` to the second. -/
def keyed (a b n : BitVec 32) (p : BitVec 32 × BitVec 32) : BitVec 32 × BitVec 32 :=
  (IntOp.addi p.1 a, IntOp.addi (IntOp.addi p.2 b) n)

/-- The third key word: the exclusive-or of the other two and of the cipher's constant. -/
def key2 : BitVec 32 := 466689008#32

/-- The cipher at key (0, 42) from the first word zero and the second word `t`, which already holds its key word. -/
def cipher (t : BitVec 32) : BitVec 32 × BitVec 32 :=
  keyed key2 0#32 5#32 (mixA (keyed 42#32 key2 4#32 (mixB (keyed 0#32 42#32 3#32 (mixA (keyed key2 0#32 2#32
    (mixB (keyed 42#32 key2 1#32 (mixA (0#32, t))))))))))

/-- From the cipher's two words: their exclusive-or's upper 23 bits as the significand of a float in [1, 2). -/
def pattern (p : BitVec 32 × BitVec 32) : BitVec 32 :=
  IntOp.ori (IntOp.shrui .vector (IntOp.xori p.1 p.2) 9#32) 1065353216#32

/-- The pattern drawn at the word `t`. -/
def draw (t : BitVec 32) : BitVec 32 := pattern (cipher t)

theorem addi_zero_left (t : BitVec 32) : IntOp.addi 0#32 t = t := by simp [IntOp.addi]
theorem addi_zero_right (t : BitVec 32) : IntOp.addi t 0#32 = t := by simp [IntOp.addi]

/-- The first round where the first word is zero. -/
theorem rnd_zero (r s t : BitVec 32) : rnd r s (0#32, t) =
    (t, IntOp.xori (IntOp.ori (IntOp.shli .vector t r) (IntOp.shrui .vector t s)) t) := by
  simp only [rnd, addi_zero_left]

end Cert.Proof

end
-- ==== Proof.KHash.lean ====
/-
  The kernel's drawn words: on each of its five pieces of columns the twenty rounds that the kernel computes one vector at a
  time are, at every position, the rounds of the cipher on that position's counter word.
-/
module

public import proofs.«01_k».proof.Proof.Gen.KernelIdeal.Frame
public import proofs.«01_k».proof.Proof.Hash

@[expose] public section

noncomputable section

namespace Cert.Proof

open Idealize.ShloMosaic Cert.KernelIdeal Cert.KernelIdeal.Gen

/-! ### The cipher on the lower half of a pass -/

theorem cA_0 (i : grid0.Coords) (k : Fin k0_t1_loop.trips) (j : S8x512.Idx) :
    ((trip_k0_t1.sl.v731 i k) j, (trip_k0_t1.sl.v737 i k) j) = rnd 13#32 19#32 (0#32, (trip_k0_t1.sl.v731 i k) j) := (rnd_zero 13#32 19#32 ((trip_k0_t1.sl.v731 i k) j)).symm

theorem cA_1 (i : grid0.Coords) (k : Fin k0_t1_loop.trips) (j : S8x512.Idx) :
    ((trip_k0_t1.sl.v738 i k) j, (trip_k0_t1.sl.v744 i k) j) = rnd 15#32 17#32 ((trip_k0_t1.sl.v731 i k) j, (trip_k0_t1.sl.v737 i k) j) := rfl

theorem cA_2 (i : grid0.Coords) (k : Fin k0_t1_loop.trips) (j : S8x512.Idx) :
    ((trip_k0_t1.sl.v745 i k) j, (trip_k0_t1.sl.v751 i k) j) = rnd 26#32 6#32 ((trip_k0_t1.sl.v738 i k) j, (trip_k0_t1.sl.v744 i k) j) := rfl

theorem cA_3 (i : grid0.Coords) (k : Fin k0_t1_loop.trips) (j : S8x512.Idx) :
    ((trip_k0_t1.sl.v752 i k) j, (trip_k0_t1.sl.v758 i k) j) = rnd 6#32 26#32 ((trip_k0_t1.sl.v745 i k) j, (trip_k0_t1.sl.v751 i k) j) := rfl

theorem cA_4 (i : grid0.Coords) (k : Fin k0_t1_loop.trips) (j : S8x512.Idx) :
    ((trip_k0_t1.sl.v760 i k) j, (trip_k0_t1.sl.v764 i k) j) = keyed 42#32 key2 1#32 ((trip_k0_t1.sl.v752 i k) j, (trip_k0_t1.sl.v758 i k) j) := rfl

theorem cA_5 (i : grid0.Coords) (k : Fin k0_t1_loop.trips) (j : S8x512.Idx) :
    ((trip_k0_t1.sl.v765 i k) j, (trip_k0_t1.sl.v771 i k) j) = rnd 17#32 15#32 ((trip_k0_t1.sl.v760 i k) j, (trip_k0_t1.sl.v764 i k) j) := rfl

theorem cA_6 (i : grid0.Coords) (k : Fin k0_t1_loop.trips) (j : S8x512.Idx) :
    ((trip_k0_t1.sl.v772 i k) j, (trip_k0_t1.sl.v778 i k) j) = rnd 29#32 3#32 ((trip_k0_t1.sl.v765 i k) j, (trip_k0_t1.sl.v771 i k) j) := rfl

theorem cA_7 (i : grid0.Coords) (k : Fin k0_t1_loop.trips) (j : S8x512.Idx) :
    ((trip_k0_t1.sl.v779 i k) j, (trip_k0_t1.sl.v785 i k) j) = rnd 16#32 16#32 ((trip_k0_t1.sl.v772 i k) j, (trip_k0_t1.sl.v778 i k) j) := rfl

theorem cA_8 (i : grid0.Coords) (k : Fin k0_t1_loop.trips) (j : S8x512.Idx) :
    ((trip_k0_t1.sl.v786 i k) j, (trip_k0_t1.sl.v792 i k) j) = rnd 24#32 8#32 ((trip_k0_t1.sl.v779 i k) j, (trip_k0_t1.sl.v785 i k) j) := rfl

theorem cA_9 (i : grid0.Coords) (k : Fin k0_t1_loop.trips) (j : S8x512.Idx) :
    ((trip_k0_t1.sl.v794 i k) j, (trip_k0_t1.sl.v798 i k) j) = keyed key2 0#32 2#32 ((trip_k0_t1.sl.v786 i k) j, (trip_k0_t1.sl.v792 i k) j) := rfl

theorem cA_10 (i : grid0.Coords) (k : Fin k0_t1_loop.trips) (j : S8x512.Idx) :
    ((trip_k0_t1.sl.v799 i k) j, (trip_k0_t1.sl.v805 i k) j) = rnd 13#32 19#32 ((trip_k0_t1.sl.v794 i k) j, (trip_k0_t1.sl.v798 i k) j) := rfl

theorem cA_11 (i : grid0.Coords) (k : Fin k0_t1_loop.trips) (j : S8x512.Idx) :
    ((trip_k0_t1.sl.v806 i k) j, (trip_k0_t1.sl.v812 i k) j) = rnd 15#32 17#32 ((trip_k0_t1.sl.v799 i k) j, (trip_k0_t1.sl.v805 i k) j) := rfl

theorem cA_12 (i : grid0.Coords) (k : Fin k0_t1_loop.trips) (j : S8x512.Idx) :
    ((trip_k0_t1.sl.v813 i k) j, (trip_k0_t1.sl.v819 i k) j) = rnd 26#32 6#32 ((trip_k0_t1.sl.v806 i k) j, (trip_k0_t1.sl.v812 i k) j) := rfl

theorem cA_13 (i : grid0.Coords) (k : Fin k0_t1_loop.trips) (j : S8x512.Idx) :
    ((trip_k0_t1.sl.v820 i k) j, (trip_k0_t1.sl.v826 i k) j) = rnd 6#32 26#32 ((trip_k0_t1.sl.v813 i k) j, (trip_k0_t1.sl.v819 i k) j) := rfl

theorem cA_14 (i : grid0.Coords) (k : Fin k0_t1_loop.trips) (j : S8x512.Idx) :
    ((trip_k0_t1.sl.v828 i k) j, (trip_k0_t1.sl.v832 i k) j) = keyed 0#32 42#32 3#32 ((trip_k0_t1.sl.v820 i k) j, (trip_k0_t1.sl.v826 i k) j) := rfl

theorem cA_15 (i : grid0.Coords) (k : Fin k0_t1_loop.trips) (j : S8x512.Idx) :
    ((trip_k0_t1.sl.v833 i k) j, (trip_k0_t1.sl.v839 i k) j) = rnd 17#32 15#32 ((trip_k0_t1.sl.v828 i k) j, (trip_k0_t1.sl.v832 i k) j) := rfl

theorem cA_16 (i : grid0.Coords) (k : Fin k0_t1_loop.trips) (j : S8x512.Idx) :
    ((trip_k0_t1.sl.v840 i k) j, (trip_k0_t1.sl.v846 i k) j) = rnd 29#32 3#32 ((trip_k0_t1.sl.v833 i k) j, (trip_k0_t1.sl.v839 i k) j) := rfl

theorem cA_17 (i : grid0.Coords) (k : Fin k0_t1_loop.trips) (j : S8x512.Idx) :
    ((trip_k0_t1.sl.v847 i k) j, (trip_k0_t1.sl.v853 i k) j) = rnd 16#32 16#32 ((trip_k0_t1.sl.v840 i k) j, (trip_k0_t1.sl.v846 i k) j) := rfl

theorem cA_18 (i : grid0.Coords) (k : Fin k0_t1_loop.trips) (j : S8x512.Idx) :
    ((trip_k0_t1.sl.v854 i k) j, (trip_k0_t1.sl.v860 i k) j) = rnd 24#32 8#32 ((trip_k0_t1.sl.v847 i k) j, (trip_k0_t1.sl.v853 i k) j) := rfl

theorem cA_19 (i : grid0.Coords) (k : Fin k0_t1_loop.trips) (j : S8x512.Idx) :
    ((trip_k0_t1.sl.v862 i k) j, (trip_k0_t1.sl.v866 i k) j) = keyed 42#32 key2 4#32 ((trip_k0_t1.sl.v854 i k) j, (trip_k0_t1.sl.v860 i k) j) := rfl

theorem cA_20 (i : grid0.Coords) (k : Fin k0_t1_loop.trips) (j : S8x512.Idx) :
    ((trip_k0_t1.sl.v867 i k) j, (trip_k0_t1.sl.v873 i k) j) = rnd 13#32 19#32 ((trip_k0_t1.sl.v862 i k) j, (trip_k0_t1.sl.v866 i k) j) := rfl

theorem cA_21 (i : grid0.Coords) (k : Fin k0_t1_loop.trips) (j : S8x512.Idx) :
    ((trip_k0_t1.sl.v874 i k) j, (trip_k0_t1.sl.v880 i k) j) = rnd 15#32 17#32 ((trip_k0_t1.sl.v867 i k) j, (trip_k0_t1.sl.v873 i k) j) := rfl

theorem cA_22 (i : grid0.Coords) (k : Fin k0_t1_loop.trips) (j : S8x512.Idx) :
    ((trip_k0_t1.sl.v881 i k) j, (trip_k0_t1.sl.v887 i k) j) = rnd 26#32 6#32 ((trip_k0_t1.sl.v874 i k) j, (trip_k0_t1.sl.v880 i k) j) := rfl

theorem cA_23 (i : grid0.Coords) (k : Fin k0_t1_loop.trips) (j : S8x512.Idx) :
    ((trip_k0_t1.sl.v888 i k) j, (trip_k0_t1.sl.v894 i k) j) = rnd 6#32 26#32 ((trip_k0_t1.sl.v881 i k) j, (trip_k0_t1.sl.v887 i k) j) := rfl

theorem cA_24 (i : grid0.Coords) (k : Fin k0_t1_loop.trips) (j : S8x512.Idx) :
    ((trip_k0_t1.sl.v896 i k) j, (trip_k0_t1.sl.v900 i k) j) = keyed key2 0#32 5#32 ((trip_k0_t1.sl.v888 i k) j, (trip_k0_t1.sl.v894 i k) j) := rfl

/-- The cipher's output, from the last state that has a name here. -/
theorem cipherA (i : grid0.Coords) (k : Fin k0_t1_loop.trips) (j : S8x512.Idx) :
    ((trip_k0_t1.sl.v896 i k) j, (trip_k0_t1.sl.v900 i k) j) = cipher ((trip_k0_t1.sl.v731 i k) j) := by
  unfold cipher mixA mixB
  rw [cA_24 i k j, cA_23 i k j, cA_22 i k j, cA_21 i k j, cA_20 i k j, cA_19 i k j, cA_18 i k j, cA_17 i k j, cA_16 i k j, cA_15 i k j, cA_14 i k j, cA_13 i k j, cA_12 i k j, cA_11 i k j, cA_10 i k j, cA_9 i k j, cA_8 i k j, cA_7 i k j, cA_6 i k j, cA_5 i k j, cA_4 i k j, cA_3 i k j, cA_2 i k j, cA_1 i k j, cA_0 i k j]

/-! ### The cipher on the upper half of a pass -/

theorem cB_0 (i : grid0.Coords) (k : Fin k0_t1_loop.trips) (j : S8x512.Idx) :
    ((trip_k0_t1.sl.v944 i k) j, (trip_k0_t1.sl.v950 i k) j) = rnd 13#32 19#32 (0#32, (trip_k0_t1.sl.v944 i k) j) := (rnd_zero 13#32 19#32 ((trip_k0_t1.sl.v944 i k) j)).symm

theorem cB_1 (i : grid0.Coords) (k : Fin k0_t1_loop.trips) (j : S8x512.Idx) :
    ((trip_k0_t1.sl.v951 i k) j, (trip_k0_t1.sl.v957 i k) j) = rnd 15#32 17#32 ((trip_k0_t1.sl.v944 i k) j, (trip_k0_t1.sl.v950 i k) j) := rfl

theorem cB_2 (i : grid0.Coords) (k : Fin k0_t1_loop.trips) (j : S8x512.Idx) :
    ((trip_k0_t1.sl.v958 i k) j, (trip_k0_t1.sl.v964 i k) j) = rnd 26#32 6#32 ((trip_k0_t1.sl.v951 i k) j, (trip_k0_t1.sl.v957 i k) j) := rfl

theorem cB_3 (i : grid0.Coords) (k : Fin k0_t1_loop.trips) (j : S8x512.Idx) :
    ((trip_k0_t1.sl.v965 i k) j, (trip_k0_t1.sl.v971 i k) j) = rnd 6#32 26#32 ((trip_k0_t1.sl.v958 i k) j, (trip_k0_t1.sl.v964 i k) j) := rfl

theorem cB_4 (i : grid0.Coords) (k : Fin k0_t1_loop.trips) (j : S8x512.Idx) :
    ((trip_k0_t1.sl.v973 i k) j, (trip_k0_t1.sl.v977 i k) j) = keyed 42#32 key2 1#32 ((trip_k0_t1.sl.v965 i k) j, (trip_k0_t1.sl.v971 i k) j) := rfl

theorem cB_5 (i : grid0.Coords) (k : Fin k0_t1_loop.trips) (j : S8x512.Idx) :
    ((trip_k0_t1.sl.v978 i k) j, (trip_k0_t1.sl.v984 i k) j) = rnd 17#32 15#32 ((trip_k0_t1.sl.v973 i k) j, (trip_k0_t1.sl.v977 i k) j) := rfl

theorem cB_6 (i : grid0.Coords) (k : Fin k0_t1_loop.trips) (j : S8x512.Idx) :
    ((trip_k0_t1.sl.v985 i k) j, (trip_k0_t1.sl.v991 i k) j) = rnd 29#32 3#32 ((trip_k0_t1.sl.v978 i k) j, (trip_k0_t1.sl.v984 i k) j) := rfl

theorem cB_7 (i : grid0.Coords) (k : Fin k0_t1_loop.trips) (j : S8x512.Idx) :
    ((trip_k0_t1.sl.v992 i k) j, (trip_k0_t1.sl.v998 i k) j) = rnd 16#32 16#32 ((trip_k0_t1.sl.v985 i k) j, (trip_k0_t1.sl.v991 i k) j) := rfl

theorem cB_8 (i : grid0.Coords) (k : Fin k0_t1_loop.trips) (j : S8x512.Idx) :
    ((trip_k0_t1.sl.v999 i k) j, (trip_k0_t1.sl.v1005 i k) j) = rnd 24#32 8#32 ((trip_k0_t1.sl.v992 i k) j, (trip_k0_t1.sl.v998 i k) j) := rfl

theorem cB_9 (i : grid0.Coords) (k : Fin k0_t1_loop.trips) (j : S8x512.Idx) :
    ((trip_k0_t1.sl.v1007 i k) j, (trip_k0_t1.sl.v1011 i k) j) = keyed key2 0#32 2#32 ((trip_k0_t1.sl.v999 i k) j, (trip_k0_t1.sl.v1005 i k) j) := rfl

theorem cB_10 (i : grid0.Coords) (k : Fin k0_t1_loop.trips) (j : S8x512.Idx) :
    ((trip_k0_t1.sl.v1012 i k) j, (trip_k0_t1.sl.v1018 i k) j) = rnd 13#32 19#32 ((trip_k0_t1.sl.v1007 i k) j, (trip_k0_t1.sl.v1011 i k) j) := rfl

theorem cB_11 (i : grid0.Coords) (k : Fin k0_t1_loop.trips) (j : S8x512.Idx) :
    ((trip_k0_t1.sl.v1019 i k) j, (trip_k0_t1.sl.v1025 i k) j) = rnd 15#32 17#32 ((trip_k0_t1.sl.v1012 i k) j, (trip_k0_t1.sl.v1018 i k) j) := rfl

theorem cB_12 (i : grid0.Coords) (k : Fin k0_t1_loop.trips) (j : S8x512.Idx) :
    ((trip_k0_t1.sl.v1026 i k) j, (trip_k0_t1.sl.v1032 i k) j) = rnd 26#32 6#32 ((trip_k0_t1.sl.v1019 i k) j, (trip_k0_t1.sl.v1025 i k) j) := rfl

theorem cB_13 (i : grid0.Coords) (k : Fin k0_t1_loop.trips) (j : S8x512.Idx) :
    ((trip_k0_t1.sl.v1033 i k) j, (trip_k0_t1.sl.v1039 i k) j) = rnd 6#32 26#32 ((trip_k0_t1.sl.v1026 i k) j, (trip_k0_t1.sl.v1032 i k) j) := rfl

theorem cB_14 (i : grid0.Coords) (k : Fin k0_t1_loop.trips) (j : S8x512.Idx) :
    ((trip_k0_t1.sl.v1041 i k) j, (trip_k0_t1.sl.v1045 i k) j) = keyed 0#32 42#32 3#32 ((trip_k0_t1.sl.v1033 i k) j, (trip_k0_t1.sl.v1039 i k) j) := rfl

theorem cB_15 (i : grid0.Coords) (k : Fin k0_t1_loop.trips) (j : S8x512.Idx) :
    ((trip_k0_t1.sl.v1046 i k) j, (trip_k0_t1.sl.v1052 i k) j) = rnd 17#32 15#32 ((trip_k0_t1.sl.v1041 i k) j, (trip_k0_t1.sl.v1045 i k) j) := rfl

theorem cB_16 (i : grid0.Coords) (k : Fin k0_t1_loop.trips) (j : S8x512.Idx) :
    ((trip_k0_t1.sl.v1053 i k) j, (trip_k0_t1.sl.v1059 i k) j) = rnd 29#32 3#32 ((trip_k0_t1.sl.v1046 i k) j, (trip_k0_t1.sl.v1052 i k) j) := rfl

theorem cB_17 (i : grid0.Coords) (k : Fin k0_t1_loop.trips) (j : S8x512.Idx) :
    ((trip_k0_t1.sl.v1060 i k) j, (trip_k0_t1.sl.v1066 i k) j) = rnd 16#32 16#32 ((trip_k0_t1.sl.v1053 i k) j, (trip_k0_t1.sl.v1059 i k) j) := rfl

theorem cB_18 (i : grid0.Coords) (k : Fin k0_t1_loop.trips) (j : S8x512.Idx) :
    ((trip_k0_t1.sl.v1067 i k) j, (trip_k0_t1.sl.v1073 i k) j) = rnd 24#32 8#32 ((trip_k0_t1.sl.v1060 i k) j, (trip_k0_t1.sl.v1066 i k) j) := rfl

/-- The cipher's output, from the last state that has a name here. -/
theorem cipherB (i : grid0.Coords) (k : Fin k0_t1_loop.trips) (j : S8x512.Idx) :
    (keyed key2 0#32 5#32 (rnd 6#32 26#32 (rnd 26#32 6#32 (rnd 15#32 17#32 (rnd 13#32 19#32 (keyed 42#32 key2 4#32 ((trip_k0_t1.sl.v1067 i k) j, (trip_k0_t1.sl.v1073 i k) j))))))) = cipher ((trip_k0_t1.sl.v944 i k) j) := by
  unfold cipher mixA mixB
  rw [cB_18 i k j, cB_17 i k j, cB_16 i k j, cB_15 i k j, cB_14 i k j, cB_13 i k j, cB_12 i k j, cB_11 i k j, cB_10 i k j, cB_9 i k j, cB_8 i k j, cB_7 i k j, cB_6 i k j, cB_5 i k j, cB_4 i k j, cB_3 i k j, cB_2 i k j, cB_1 i k j, cB_0 i k j]

/-! ### The cipher on the chunk after the passes -/

theorem cC_0 (i : grid0.Coords) (j : S8x512.Idx) :
    ((k0_pay93 i) j, (kernelRun0_A.sl.v36 i) j) = rnd 13#32 19#32 (0#32, (k0_pay93 i) j) := (rnd_zero 13#32 19#32 ((k0_pay93 i) j)).symm

theorem cC_1 (i : grid0.Coords) (j : S8x512.Idx) :
    ((kernelRun0_A.sl.v37 i) j, (kernelRun0_A.sl.v43 i) j) = rnd 15#32 17#32 ((k0_pay93 i) j, (kernelRun0_A.sl.v36 i) j) := rfl

theorem cC_2 (i : grid0.Coords) (j : S8x512.Idx) :
    ((kernelRun0_A.sl.v44 i) j, (kernelRun0_A.sl.v50 i) j) = rnd 26#32 6#32 ((kernelRun0_A.sl.v37 i) j, (kernelRun0_A.sl.v43 i) j) := rfl

theorem cC_3 (i : grid0.Coords) (j : S8x512.Idx) :
    ((kernelRun0_A.sl.v51 i) j, (kernelRun0_A.sl.v57 i) j) = rnd 6#32 26#32 ((kernelRun0_A.sl.v44 i) j, (kernelRun0_A.sl.v50 i) j) := rfl

theorem cC_4 (i : grid0.Coords) (j : S8x512.Idx) :
    ((kernelRun0_A.sl.v59 i) j, (kernelRun0_A.sl.v63 i) j) = keyed 42#32 key2 1#32 ((kernelRun0_A.sl.v51 i) j, (kernelRun0_A.sl.v57 i) j) := rfl

theorem cC_5 (i : grid0.Coords) (j : S8x512.Idx) :
    ((kernelRun0_A.sl.v64 i) j, (kernelRun0_A.sl.v70 i) j) = rnd 17#32 15#32 ((kernelRun0_A.sl.v59 i) j, (kernelRun0_A.sl.v63 i) j) := rfl

theorem cC_6 (i : grid0.Coords) (j : S8x512.Idx) :
    ((kernelRun0_A.sl.v71 i) j, (kernelRun0_A.sl.v77 i) j) = rnd 29#32 3#32 ((kernelRun0_A.sl.v64 i) j, (kernelRun0_A.sl.v70 i) j) := rfl

theorem cC_7 (i : grid0.Coords) (j : S8x512.Idx) :
    ((kernelRun0_A.sl.v78 i) j, (kernelRun0_A.sl.v84 i) j) = rnd 16#32 16#32 ((kernelRun0_A.sl.v71 i) j, (kernelRun0_A.sl.v77 i) j) := rfl

theorem cC_8 (i : grid0.Coords) (j : S8x512.Idx) :
    ((kernelRun0_A.sl.v85 i) j, (kernelRun0_A.sl.v91 i) j) = rnd 24#32 8#32 ((kernelRun0_A.sl.v78 i) j, (kernelRun0_A.sl.v84 i) j) := rfl

theorem cC_9 (i : grid0.Coords) (j : S8x512.Idx) :
    ((kernelRun0_A.sl.v93 i) j, (kernelRun0_A.sl.v97 i) j) = keyed key2 0#32 2#32 ((kernelRun0_A.sl.v85 i) j, (kernelRun0_A.sl.v91 i) j) := rfl

theorem cC_10 (i : grid0.Coords) (j : S8x512.Idx) :
    ((kernelRun0_A.sl.v98 i) j, (kernelRun0_A.sl.v104 i) j) = rnd 13#32 19#32 ((kernelRun0_A.sl.v93 i) j, (kernelRun0_A.sl.v97 i) j) := rfl

theorem cC_11 (i : grid0.Coords) (j : S8x512.Idx) :
    ((kernelRun0_A.sl.v105 i) j, (kernelRun0_A.sl.v111 i) j) = rnd 15#32 17#32 ((kernelRun0_A.sl.v98 i) j, (kernelRun0_A.sl.v104 i) j) := rfl

theorem cC_12 (i : grid0.Coords) (j : S8x512.Idx) :
    ((kernelRun0_A.sl.v112 i) j, (kernelRun0_A.sl.v118 i) j) = rnd 26#32 6#32 ((kernelRun0_A.sl.v105 i) j, (kernelRun0_A.sl.v111 i) j) := rfl

theorem cC_13 (i : grid0.Coords) (j : S8x512.Idx) :
    ((kernelRun0_A.sl.v119 i) j, (kernelRun0_A.sl.v125 i) j) = rnd 6#32 26#32 ((kernelRun0_A.sl.v112 i) j, (kernelRun0_A.sl.v118 i) j) := rfl

theorem cC_14 (i : grid0.Coords) (j : S8x512.Idx) :
    ((kernelRun0_A.sl.v127 i) j, (kernelRun0_A.sl.v131 i) j) = keyed 0#32 42#32 3#32 ((kernelRun0_A.sl.v119 i) j, (kernelRun0_A.sl.v125 i) j) := rfl

theorem cC_15 (i : grid0.Coords) (j : S8x512.Idx) :
    ((kernelRun0_A.sl.v132 i) j, (kernelRun0_A.sl.v138 i) j) = rnd 17#32 15#32 ((kernelRun0_A.sl.v127 i) j, (kernelRun0_A.sl.v131 i) j) := rfl

theorem cC_16 (i : grid0.Coords) (j : S8x512.Idx) :
    ((kernelRun0_A.sl.v139 i) j, (kernelRun0_A.sl.v145 i) j) = rnd 29#32 3#32 ((kernelRun0_A.sl.v132 i) j, (kernelRun0_A.sl.v138 i) j) := rfl

theorem cC_17 (i : grid0.Coords) (j : S8x512.Idx) :
    ((kernelRun0_A.sl.v146 i) j, (kernelRun0_A.sl.v152 i) j) = rnd 16#32 16#32 ((kernelRun0_A.sl.v139 i) j, (kernelRun0_A.sl.v145 i) j) := rfl

theorem cC_18 (i : grid0.Coords) (j : S8x512.Idx) :
    ((kernelRun0_A.sl.v153 i) j, (kernelRun0_A.sl.v159 i) j) = rnd 24#32 8#32 ((kernelRun0_A.sl.v146 i) j, (kernelRun0_A.sl.v152 i) j) := rfl

theorem cC_19 (i : grid0.Coords) (j : S8x512.Idx) :
    ((kernelRun0_A.sl.v161 i) j, (kernelRun0_A.sl.v165 i) j) = keyed 42#32 key2 4#32 ((kernelRun0_A.sl.v153 i) j, (kernelRun0_A.sl.v159 i) j) := rfl

/-- The cipher's output, from the last state that has a name here. -/
theorem cipherC (i : grid0.Coords) (j : S8x512.Idx) :
    (keyed key2 0#32 5#32 (rnd 6#32 26#32 (rnd 26#32 6#32 (rnd 15#32 17#32 (rnd 13#32 19#32 ((kernelRun0_A.sl.v161 i) j, (kernelRun0_A.sl.v165 i) j)))))) = cipher ((k0_pay93 i) j) := by
  unfold cipher mixA mixB
  rw [cC_19 i j, cC_18 i j, cC_17 i j, cC_16 i j, cC_15 i j, cC_14 i j, cC_13 i j, cC_12 i j, cC_11 i j, cC_10 i j, cC_9 i j, cC_8 i j, cC_7 i j, cC_6 i j, cC_5 i j, cC_4 i j, cC_3 i j, cC_2 i j, cC_1 i j, cC_0 i j]

/-! ### The cipher on the piece of 128 columns -/

theorem cD_0 (i : grid0.Coords) (j : S8x128.Idx) :
    ((kernelRun0_A.sl.v248 i) j, (kernelRun0_A.sl.v254 i) j) = rnd 13#32 19#32 (0#32, (kernelRun0_A.sl.v248 i) j) := (rnd_zero 13#32 19#32 ((kernelRun0_A.sl.v248 i) j)).symm

theorem cD_1 (i : grid0.Coords) (j : S8x128.Idx) :
    ((kernelRun0_A.sl.v255 i) j, (kernelRun0_A.sl.v261 i) j) = rnd 15#32 17#32 ((kernelRun0_A.sl.v248 i) j, (kernelRun0_A.sl.v254 i) j) := rfl

theorem cD_2 (i : grid0.Coords) (j : S8x128.Idx) :
    ((kernelRun0_A.sl.v262 i) j, (kernelRun0_A.sl.v268 i) j) = rnd 26#32 6#32 ((kernelRun0_A.sl.v255 i) j, (kernelRun0_A.sl.v261 i) j) := rfl

theorem cD_3 (i : grid0.Coords) (j : S8x128.Idx) :
    ((kernelRun0_A.sl.v269 i) j, (kernelRun0_A.sl.v275 i) j) = rnd 6#32 26#32 ((kernelRun0_A.sl.v262 i) j, (kernelRun0_A.sl.v268 i) j) := rfl

theorem cD_4 (i : grid0.Coords) (j : S8x128.Idx) :
    ((kernelRun0_A.sl.v277 i) j, (kernelRun0_A.sl.v281 i) j) = keyed 42#32 key2 1#32 ((kernelRun0_A.sl.v269 i) j, (kernelRun0_A.sl.v275 i) j) := rfl

theorem cD_5 (i : grid0.Coords) (j : S8x128.Idx) :
    ((kernelRun0_A.sl.v282 i) j, (kernelRun0_A.sl.v288 i) j) = rnd 17#32 15#32 ((kernelRun0_A.sl.v277 i) j, (kernelRun0_A.sl.v281 i) j) := rfl

theorem cD_6 (i : grid0.Coords) (j : S8x128.Idx) :
    ((kernelRun0_A.sl.v289 i) j, (kernelRun0_A.sl.v295 i) j) = rnd 29#32 3#32 ((kernelRun0_A.sl.v282 i) j, (kernelRun0_A.sl.v288 i) j) := rfl

theorem cD_7 (i : grid0.Coords) (j : S8x128.Idx) :
    ((kernelRun0_A.sl.v296 i) j, (kernelRun0_A.sl.v302 i) j) = rnd 16#32 16#32 ((kernelRun0_A.sl.v289 i) j, (kernelRun0_A.sl.v295 i) j) := rfl

theorem cD_8 (i : grid0.Coords) (j : S8x128.Idx) :
    ((kernelRun0_A.sl.v303 i) j, (kernelRun0_A.sl.v309 i) j) = rnd 24#32 8#32 ((kernelRun0_A.sl.v296 i) j, (kernelRun0_A.sl.v302 i) j) := rfl

theorem cD_9 (i : grid0.Coords) (j : S8x128.Idx) :
    ((kernelRun0_A.sl.v311 i) j, (kernelRun0_A.sl.v315 i) j) = keyed key2 0#32 2#32 ((kernelRun0_A.sl.v303 i) j, (kernelRun0_A.sl.v309 i) j) := rfl

theorem cD_10 (i : grid0.Coords) (j : S8x128.Idx) :
    ((kernelRun0_A.sl.v316 i) j, (kernelRun0_A.sl.v322 i) j) = rnd 13#32 19#32 ((kernelRun0_A.sl.v311 i) j, (kernelRun0_A.sl.v315 i) j) := rfl

theorem cD_11 (i : grid0.Coords) (j : S8x128.Idx) :
    ((kernelRun0_A.sl.v323 i) j, (kernelRun0_A.sl.v329 i) j) = rnd 15#32 17#32 ((kernelRun0_A.sl.v316 i) j, (kernelRun0_A.sl.v322 i) j) := rfl

theorem cD_12 (i : grid0.Coords) (j : S8x128.Idx) :
    ((kernelRun0_A.sl.v330 i) j, (kernelRun0_A.sl.v336 i) j) = rnd 26#32 6#32 ((kernelRun0_A.sl.v323 i) j, (kernelRun0_A.sl.v329 i) j) := rfl

theorem cD_13 (i : grid0.Coords) (j : S8x128.Idx) :
    ((kernelRun0_A.sl.v337 i) j, (kernelRun0_A.sl.v343 i) j) = rnd 6#32 26#32 ((kernelRun0_A.sl.v330 i) j, (kernelRun0_A.sl.v336 i) j) := rfl

theorem cD_14 (i : grid0.Coords) (j : S8x128.Idx) :
    ((kernelRun0_A.sl.v345 i) j, (kernelRun0_A.sl.v349 i) j) = keyed 0#32 42#32 3#32 ((kernelRun0_A.sl.v337 i) j, (kernelRun0_A.sl.v343 i) j) := rfl

theorem cD_15 (i : grid0.Coords) (j : S8x128.Idx) :
    ((kernelRun0_A.sl.v350 i) j, (kernelRun0_A.sl.v356 i) j) = rnd 17#32 15#32 ((kernelRun0_A.sl.v345 i) j, (kernelRun0_A.sl.v349 i) j) := rfl

theorem cD_16 (i : grid0.Coords) (j : S8x128.Idx) :
    ((kernelRun0_A.sl.v357 i) j, (kernelRun0_A.sl.v363 i) j) = rnd 29#32 3#32 ((kernelRun0_A.sl.v350 i) j, (kernelRun0_A.sl.v356 i) j) := rfl

theorem cD_17 (i : grid0.Coords) (j : S8x128.Idx) :
    ((kernelRun0_A.sl.v364 i) j, (kernelRun0_A.sl.v370 i) j) = rnd 16#32 16#32 ((kernelRun0_A.sl.v357 i) j, (kernelRun0_A.sl.v363 i) j) := rfl

theorem cD_18 (i : grid0.Coords) (j : S8x128.Idx) :
    ((kernelRun0_A.sl.v371 i) j, (kernelRun0_A.sl.v377 i) j) = rnd 24#32 8#32 ((kernelRun0_A.sl.v364 i) j, (kernelRun0_A.sl.v370 i) j) := rfl

/-- The cipher's output, from the last state that has a name here. -/
theorem cipherD (i : grid0.Coords) (j : S8x128.Idx) :
    (keyed key2 0#32 5#32 (rnd 6#32 26#32 (rnd 26#32 6#32 (rnd 15#32 17#32 (rnd 13#32 19#32 (keyed 42#32 key2 4#32 ((kernelRun0_A.sl.v371 i) j, (kernelRun0_A.sl.v377 i) j))))))) = cipher ((kernelRun0_A.sl.v248 i) j) := by
  unfold cipher mixA mixB
  rw [cD_18 i j, cD_17 i j, cD_16 i j, cD_15 i j, cD_14 i j, cD_13 i j, cD_12 i j, cD_11 i j, cD_10 i j, cD_9 i j, cD_8 i j, cD_7 i j, cD_6 i j, cD_5 i j, cD_4 i j, cD_3 i j, cD_2 i j, cD_1 i j, cD_0 i j]

/-! ### The cipher on the last piece of 32 columns -/

theorem cE_0 (i : grid0.Coords) (j : S8x32.Idx) :
    ((k0_pay177 (kernelRun0_A.sl.v0 i)) j, (k0_pay178 (kernelRun0_A.sl.v0 i)) j) = rnd 13#32 19#32 (0#32, (k0_pay177 (kernelRun0_A.sl.v0 i)) j) := (rnd_zero 13#32 19#32 ((k0_pay177 (kernelRun0_A.sl.v0 i)) j)).symm

theorem cE_1 (i : grid0.Coords) (j : S8x32.Idx) :
    ((k0_pay179 (kernelRun0_A.sl.v0 i)) j, (k0_pay180 (kernelRun0_A.sl.v0 i)) j) = rnd 15#32 17#32 ((k0_pay177 (kernelRun0_A.sl.v0 i)) j, (k0_pay178 (kernelRun0_A.sl.v0 i)) j) := rfl

theorem cE_2 (i : grid0.Coords) (j : S8x32.Idx) :
    ((k0_pay181 (kernelRun0_A.sl.v0 i)) j, (k0_pay182 (kernelRun0_A.sl.v0 i)) j) = rnd 26#32 6#32 ((k0_pay179 (kernelRun0_A.sl.v0 i)) j, (k0_pay180 (kernelRun0_A.sl.v0 i)) j) := rfl

theorem cE_3 (i : grid0.Coords) (j : S8x32.Idx) :
    ((kernelRun0_A.sl.r_7 i) j, (kernelRun0_A.sl.r_8 i) j) = rnd 6#32 26#32 ((k0_pay181 (kernelRun0_A.sl.v0 i)) j, (k0_pay182 (kernelRun0_A.sl.v0 i)) j) := rfl

theorem cE_4 (i : grid0.Coords) (j : S8x32.Idx) :
    ((kernelRun0_A.sl.v474 i) j, (kernelRun0_A.sl.v478 i) j) = keyed 42#32 key2 1#32 ((kernelRun0_A.sl.r_7 i) j, (kernelRun0_A.sl.r_8 i) j) := rfl

theorem cE_5 (i : grid0.Coords) (j : S8x32.Idx) :
    ((kernelRun0_A.sl.v479 i) j, (kernelRun0_A.sl.v485 i) j) = rnd 17#32 15#32 ((kernelRun0_A.sl.v474 i) j, (kernelRun0_A.sl.v478 i) j) := rfl

theorem cE_6 (i : grid0.Coords) (j : S8x32.Idx) :
    ((kernelRun0_A.sl.v486 i) j, (kernelRun0_A.sl.v492 i) j) = rnd 29#32 3#32 ((kernelRun0_A.sl.v479 i) j, (kernelRun0_A.sl.v485 i) j) := rfl

theorem cE_7 (i : grid0.Coords) (j : S8x32.Idx) :
    ((kernelRun0_A.sl.v493 i) j, (kernelRun0_A.sl.v499 i) j) = rnd 16#32 16#32 ((kernelRun0_A.sl.v486 i) j, (kernelRun0_A.sl.v492 i) j) := rfl

theorem cE_8 (i : grid0.Coords) (j : S8x32.Idx) :
    ((kernelRun0_A.sl.v500 i) j, (kernelRun0_A.sl.v506 i) j) = rnd 24#32 8#32 ((kernelRun0_A.sl.v493 i) j, (kernelRun0_A.sl.v499 i) j) := rfl

theorem cE_9 (i : grid0.Coords) (j : S8x32.Idx) :
    ((kernelRun0_A.sl.v508 i) j, (kernelRun0_A.sl.v512 i) j) = keyed key2 0#32 2#32 ((kernelRun0_A.sl.v500 i) j, (kernelRun0_A.sl.v506 i) j) := rfl

theorem cE_10 (i : grid0.Coords) (j : S8x32.Idx) :
    ((kernelRun0_A.sl.v513 i) j, (kernelRun0_A.sl.v519 i) j) = rnd 13#32 19#32 ((kernelRun0_A.sl.v508 i) j, (kernelRun0_A.sl.v512 i) j) := rfl

theorem cE_11 (i : grid0.Coords) (j : S8x32.Idx) :
    ((kernelRun0_A.sl.v520 i) j, (kernelRun0_A.sl.v526 i) j) = rnd 15#32 17#32 ((kernelRun0_A.sl.v513 i) j, (kernelRun0_A.sl.v519 i) j) := rfl

theorem cE_12 (i : grid0.Coords) (j : S8x32.Idx) :
    ((kernelRun0_A.sl.v527 i) j, (kernelRun0_A.sl.v533 i) j) = rnd 26#32 6#32 ((kernelRun0_A.sl.v520 i) j, (kernelRun0_A.sl.v526 i) j) := rfl

theorem cE_13 (i : grid0.Coords) (j : S8x32.Idx) :
    ((kernelRun0_A.sl.v534 i) j, (kernelRun0_A.sl.v540 i) j) = rnd 6#32 26#32 ((kernelRun0_A.sl.v527 i) j, (kernelRun0_A.sl.v533 i) j) := rfl

theorem cE_14 (i : grid0.Coords) (j : S8x32.Idx) :
    ((kernelRun0_A.sl.v542 i) j, (kernelRun0_A.sl.v546 i) j) = keyed 0#32 42#32 3#32 ((kernelRun0_A.sl.v534 i) j, (kernelRun0_A.sl.v540 i) j) := rfl

theorem cE_15 (i : grid0.Coords) (j : S8x32.Idx) :
    ((kernelRun0_A.sl.v547 i) j, (kernelRun0_A.sl.v553 i) j) = rnd 17#32 15#32 ((kernelRun0_A.sl.v542 i) j, (kernelRun0_A.sl.v546 i) j) := rfl

theorem cE_16 (i : grid0.Coords) (j : S8x32.Idx) :
    ((kernelRun0_A.sl.v554 i) j, (kernelRun0_A.sl.v560 i) j) = rnd 29#32 3#32 ((kernelRun0_A.sl.v547 i) j, (kernelRun0_A.sl.v553 i) j) := rfl

theorem cE_17 (i : grid0.Coords) (j : S8x32.Idx) :
    ((kernelRun0_A.sl.v561 i) j, (kernelRun0_A.sl.v567 i) j) = rnd 16#32 16#32 ((kernelRun0_A.sl.v554 i) j, (kernelRun0_A.sl.v560 i) j) := rfl

theorem cE_18 (i : grid0.Coords) (j : S8x32.Idx) :
    ((kernelRun0_A.sl.v568 i) j, (kernelRun0_A.sl.v574 i) j) = rnd 24#32 8#32 ((kernelRun0_A.sl.v561 i) j, (kernelRun0_A.sl.v567 i) j) := rfl

theorem cE_19 (i : grid0.Coords) (j : S8x32.Idx) :
    ((kernelRun0_A.sl.v576 i) j, (kernelRun0_A.sl.v580 i) j) = keyed 42#32 key2 4#32 ((kernelRun0_A.sl.v568 i) j, (kernelRun0_A.sl.v574 i) j) := rfl

theorem cE_20 (i : grid0.Coords) (j : S8x32.Idx) :
    ((kernelRun0_A.sl.v581 i) j, (kernelRun0_A.sl.v587 i) j) = rnd 13#32 19#32 ((kernelRun0_A.sl.v576 i) j, (kernelRun0_A.sl.v580 i) j) := rfl

theorem cE_21 (i : grid0.Coords) (j : S8x32.Idx) :
    ((kernelRun0_A.sl.v588 i) j, (kernelRun0_A.sl.v594 i) j) = rnd 15#32 17#32 ((kernelRun0_A.sl.v581 i) j, (kernelRun0_A.sl.v587 i) j) := rfl

theorem cE_22 (i : grid0.Coords) (j : S8x32.Idx) :
    ((kernelRun0_A.sl.v595 i) j, (kernelRun0_A.sl.v601 i) j) = rnd 26#32 6#32 ((kernelRun0_A.sl.v588 i) j, (kernelRun0_A.sl.v594 i) j) := rfl

theorem cE_23 (i : grid0.Coords) (j : S8x32.Idx) :
    ((kernelRun0_A.sl.v602 i) j, (kernelRun0_A.sl.v608 i) j) = rnd 6#32 26#32 ((kernelRun0_A.sl.v595 i) j, (kernelRun0_A.sl.v601 i) j) := rfl

/-- The cipher's output, from the last state that has a name here. -/
theorem cipherE (i : grid0.Coords) (j : S8x32.Idx) :
    (keyed key2 0#32 5#32 ((kernelRun0_A.sl.v602 i) j, (kernelRun0_A.sl.v608 i) j)) = cipher ((k0_pay177 (kernelRun0_A.sl.v0 i)) j) := by
  unfold cipher mixA mixB
  rw [cE_23 i j, cE_22 i j, cE_21 i j, cE_20 i j, cE_19 i j, cE_18 i j, cE_17 i j, cE_16 i j, cE_15 i j, cE_14 i j, cE_13 i j, cE_12 i j, cE_11 i j, cE_10 i j, cE_9 i j, cE_8 i j, cE_7 i j, cE_6 i j, cE_5 i j, cE_4 i j, cE_3 i j, cE_2 i j, cE_1 i j, cE_0 i j]

end Cert.Proof

end

end
-- ==== Proof.Row.lean ====
/-
  One row of the problem, free of both programs: the score of a column (its logit plus Gumbel noise drawn at the column's
  counter), what it is to be the column picked, the state a scan over some of the columns carries, and what the scan's state
  says of the pick, of the largest logit and of the sum of exponentials.
-/
module

public import proofs.«01_k».proof.Proof.Hash
public import Idealize.ShloMosaic.PureOps.Ideal
public import Idealize.ShloMosaic.PureOps.Ideal.Laws

@[expose] public section

namespace Cert.Proof

open Idealize.ShloMosaic

/-- The smallest positive normal number of the format. -/
noncomputable def tiny : EReal := (FloatOps.ofBits .f32 8388608#32 : Ideal .f32)

/-- The float in [0, 1) of the cipher's output at a counter. -/
noncomputable def unit01 (w : BitVec 32) : EReal :=
  (FloatOps.ofBits .f32 (draw w) : Ideal .f32) - (FloatOps.ofBits .f32 1065353216#32 : Ideal .f32)

/-- The score: the logit less the logarithm of the exponential variate. -/
noncomputable def score (l : EReal) (w : BitVec 32) : EReal :=
  l - Ideal.log ((FloatOps.ofBits .f32 0#32 : Ideal .f32) - Ideal.log (unit01 w + tiny))

/-- The counter of column `v` of row `r`. -/
def ctr (r v : ℕ) : BitVec 32 := BitVec.ofNat 32 (r * 100000 + v + 42)

/-- Column `s` is the one picked: no column scores more, and none before it as much. -/
def IsPick (T : ℕ → EReal) (n s : ℕ) : Prop :=
  s < n ∧ (∀ v < n, T v ≤ T s) ∧ ∀ v < s, T v < T s

/-- A state after the columns of `P`: the best score, its column and logit, the largest logit. -/
structure Lane (T lg : ℕ → EReal) (P : ℕ → Prop) (tv : EReal) (col : BitVec 32) (lgw lm : EReal) : Prop where
  top : ∀ v, P v → T v ≤ tv
  pick : tv = ⊥ ∨ ∃ c, P c ∧ tv = T c ∧ col = BitVec.ofNat 32 c ∧ lgw = lg c ∧ ∀ v, P v → v < c → T v < T c
  logit : ∀ v, P v → lg v ≤ lm
  attained : lm = ⊥ ∨ ∃ c, P c ∧ lm = lg c

variable {T lg : ℕ → EReal} {P Q : ℕ → Prop} {tv lgw lm : EReal} {col : BitVec 32}

/-- The state before any column. -/
theorem Lane.empty (h : ∀ v, ¬ P v) (col : BitVec 32) (lgw : EReal) : Lane T lg P ⊥ col lgw ⊥ :=
  ⟨fun v hv => (h v hv).elim, Or.inl rfl, fun v hv => (h v hv).elim, Or.inl rfl⟩

/-- The same columns described otherwise. -/
theorem Lane.congr (h : Lane T lg P tv col lgw lm) (e : ∀ v, P v ↔ Q v) : Lane T lg Q tv col lgw lm := by
  have : P = Q := funext fun v => propext (e v)
  exact this ▸ h

/-- One more column, after all those seen: it replaces the best if it scores strictly more. -/
theorem Lane.step (h : Lane T lg P tv col lgw lm) (n : ℕ) (hn : ∀ v, P v → v < n)
    (hQ : ∀ v, Q v ↔ P v ∨ v = n) (w : BitVec 32) (hw : w = BitVec.ofNat 32 n) :
    Lane T lg Q (Scalar.select (Ideal.cmp .ogt (T n) tv) (T n) tv) (Scalar.select (Ideal.cmp .ogt (T n) tv) w col)
      (Scalar.select (Ideal.cmp .ogt (T n) tv) (lg n) lgw) (max lm (lg n)) := by
  subst hw
  refine (Lane.congr (P := fun v => P v ∨ v = n) ?_ fun v => (hQ v).symm)
  have hlog : (∀ v, P v ∨ v = n → lg v ≤ max lm (lg n)) ∧
      (max lm (lg n) = ⊥ ∨ ∃ c, (P c ∨ c = n) ∧ max lm (lg n) = lg c) := by
    refine ⟨fun v hv => ?_, ?_⟩
    · rcases hv with hv | rfl
      · exact (h.logit v hv).trans (le_max_left _ _)
      · exact le_max_right _ _
    · rcases le_total lm (lg n) with hl | hl
      · exact Or.inr ⟨n, Or.inr rfl, max_eq_right hl⟩
      · rw [max_eq_left hl]
        rcases h.attained with ha | ⟨c, hc, ha⟩
        · exact Or.inl ha
        · exact Or.inr ⟨c, Or.inl hc, ha⟩
  by_cases hT : tv < T n
  · have e : Ideal.cmp .ogt (T n) tv = 1 := by simp [Ideal.cmp, hT]
    simp only [Scalar.select, e, if_true]
    refine ⟨fun v hv => ?_, Or.inr ⟨n, Or.inr rfl, rfl, rfl, rfl, fun v hv hlt => ?_⟩, hlog.1, hlog.2⟩
    · rcases hv with hv | rfl
      · exact ((h.top v hv).trans hT.le)
      · exact le_rfl
    · rcases hv with hv | rfl
      · exact (h.top v hv).trans_lt hT
      · exact (lt_irrefl _ hlt).elim
  · have e : Ideal.cmp .ogt (T n) tv = 0 := by simp [Ideal.cmp, hT]
    have e01 : (0 : BitVec 1) ≠ 1 := by decide
    simp only [Scalar.select, e, if_neg e01]
    refine ⟨fun v hv => ?_, ?_, hlog.1, hlog.2⟩
    · rcases hv with hv | rfl
      · exact h.top v hv
      · exact not_lt.mp hT
    · rcases h.pick with hp | ⟨c, hc, h1, h2, h3, h4⟩
      · exact Or.inl hp
      · refine Or.inr ⟨c, Or.inl hc, h1, h2, h3, fun v hv hlt => ?_⟩
        rcases hv with hv | rfl
        · exact h4 v hv hlt
        · exact (lt_asymm hlt (hn c hc)).elim

/-- If the picked column is among those seen and scores more than −∞, the state holds it. -/
theorem Lane.eq_pick {s : ℕ} (h : Lane T lg P tv col lgw lm) (hP : ∀ v, P v → v < 100000) (hs : IsPick T 100000 s)
    (hb : ⊥ < T s) (hm : P s) : tv = T s ∧ col = BitVec.ofNat 32 s ∧ lgw = lg s := by
  rcases h.pick with hp | ⟨c, hc, h1, h2, h3, h4⟩
  · exact absurd (h.top s hm) (by rw [hp]; exact not_le.mpr hb)
  · have hcs : T c = T s := le_antisymm (hs.2.1 c (hP c hc)) (h1 ▸ h.top s hm)
    have : c = s := by
      rcases lt_trichotomy c s with hl | hl | hl
      · exact absurd hcs (hs.2.2 c hl).ne
      · exact hl
      · exact absurd hcs (h4 s hm hl).ne'
    subst this
    exact ⟨h1, h2, h3⟩

/-- A state whose best score is the picked column's holds a column that is not before it. -/
theorem Lane.col_of_eq {s : ℕ} (h : Lane T lg P tv col lgw lm) (hP : ∀ v, P v → v < 100000) (hs : IsPick T 100000 s)
    (hb : ⊥ < T s) (e : tv = T s) : ∃ c, P c ∧ s ≤ c ∧ c < 100000 ∧ col = BitVec.ofNat 32 c ∧ lgw = lg c := by
  rcases h.pick with hp | ⟨c, hc, h1, h2, h3, h4⟩
  · exact absurd (hp.symm.trans e) hb.ne
  · refine ⟨c, hc, ?_, hP c hc, h2, h3⟩
    by_contra hlt
    exact absurd (h1.symm.trans e) (hs.2.2 c (not_le.mp hlt)).ne

/-- No state's best score is more than the picked column's. -/
theorem Lane.le_pick {s : ℕ} (h : Lane T lg P tv col lgw lm) (hP : ∀ v, P v → v < 100000) (hs : IsPick T 100000 s) :
    tv ≤ T s := by
  rcases h.pick with hp | ⟨c, hc, h1, _⟩
  · rw [hp]; exact bot_le
  · rw [h1]; exact hs.2.1 c (hP c hc)

end Cert.Proof

end
-- ==== Proof.KWords.lean ====
/-
  The kernel's five pieces of columns, position by position: the column a position stands for, the logit loaded there, its
  counter word, and its score.
-/
module

public import proofs.«01_k».proof.Proof.KHash
public import proofs.«01_k».proof.Proof.Row
public import Idealize.ShloMosaic.Lib.ValueIdx
public import Idealize.ShloMosaic.Lib.Pipeline.Value

@[expose] public section

noncomputable section

namespace Cert.Proof

open Idealize.ShloMosaic Idealize.SL Idealize.ShloMosaic.ValueIdx Cert.KernelIdeal Cert.KernelIdeal.Gen

/-- The row of the whole array that row `s` of the block at grid point `i` is. -/
def rowOf (i : grid0.Coords) (s : Fin 8) : ℕ := 8 * (i 0).val + s.val

/-- The logits of row `s` of a block, by column. -/
def lgOf (x : Vec Ideal S8x100000 .f32) (s : Fin 8) (v : ℕ) : EReal := if h : v < 100000 then x (ix2 s ⟨v, h⟩) else ⊥

/-- The scores of row `s` of a block, by column. -/
def tOf (i : grid0.Coords) (x : Vec Ideal S8x100000 .f32) (s : Fin 8) (v : ℕ) : EReal :=
  score (lgOf x s v) (ctr (rowOf i s) v)

/-- The counter's arithmetic on words is the arithmetic on numbers. -/
theorem word_sum (a b d e n : ℕ) (h : n = (a + b * 8) * 100000 + d + 42 + e) :
    (BitVec.ofNat 32 a + BitVec.ofNat 32 b * 8#32) * 100000#32 + BitVec.ofNat 32 d + 42#32 + BitVec.ofNat 32 e
      = BitVec.ofNat 32 n := by
  subst h
  simp only [BitVec.ofNat_add, BitVec.ofNat_mul]

theorem word_sum' (a b d e n : ℕ) (h : n = (a + b * 8) * 100000 + d + e) :
    (BitVec.ofNat 32 a + BitVec.ofNat 32 b * 8#32) * 100000#32 + BitVec.ofNat 32 d + BitVec.ofNat 32 e
      = BitVec.ofNat 32 n := by
  subst h
  simp only [BitVec.ofNat_add, BitVec.ofNat_mul]

theorem base_eq (i : grid0.Coords) (s : Fin 8) (l : Fin 512) :
    k0_pay87 i (ix2 s l) =
      (BitVec.ofNat 32 s.val + BitVec.ofNat 32 (i 0).val * 8#32) * 100000#32 + BitVec.ofNat 32 l.val + 42#32 := by
  have e1 : iota .tc S8x512 32 [1] iota_S8x512_d1_w32 (ix2 s l) = BitVec.ofNat 32 l.val :=
    congrArg (BitVec.ofNat 32) (by simp [ix2])
  have e0 : iota .tc S8x512 32 [0] iota_S8x512_d0_w32 (ix2 s l) = BitVec.ofNat 32 s.val :=
    congrArg (BitVec.ofNat 32) (by simp [ix2])
  rw [← e1, ← e0]; rfl

theorem base128_eq (i : grid0.Coords) (s : Fin 8) (l : Fin 128) :
    k0_pay136 (kernelRun0_A.sl.v0 i) (ix2 s l) =
      (BitVec.ofNat 32 s.val + BitVec.ofNat 32 (i 0).val * 8#32) * 100000#32 + BitVec.ofNat 32 l.val := by
  have e1 : iota .tc S8x128 32 [1] iota_S8x128_d1_w32 (ix2 s l) = BitVec.ofNat 32 l.val :=
    congrArg (BitVec.ofNat 32) (by simp [ix2])
  have e0 : iota .tc S8x128 32 [0] iota_S8x128_d0_w32 (ix2 s l) = BitVec.ofNat 32 s.val :=
    congrArg (BitVec.ofNat 32) (by simp [ix2])
  rw [← e1, ← e0]; rfl

theorem base32_eq (i : grid0.Coords) (s : Fin 8) (l : Fin 32) :
    k0_pay177 (kernelRun0_A.sl.v0 i) (ix2 s l) =
      (BitVec.ofNat 32 s.val + BitVec.ofNat 32 (i 0).val * 8#32) * 100000#32 + BitVec.ofNat 32 l.val
        + BitVec.ofNat 32 100010 := by
  have e1 : iota .tc S8x32 32 [1] iota_S8x32_d1_w32 (ix2 s l) = BitVec.ofNat 32 l.val :=
    congrArg (BitVec.ofNat 32) (by simp [ix2])
  have e0 : iota .tc S8x32 32 [0] iota_S8x32_d0_w32 (ix2 s l) = BitVec.ofNat 32 s.val :=
    congrArg (BitVec.ofNat 32) (by simp [ix2])
  rw [← e1, ← e0]; rfl

theorem base_word (i : grid0.Coords) (s : Fin 8) (l : Fin 512) (e : ℕ) :
    IntOp.addi (k0_pay87 i (ix2 s l)) (BitVec.ofNat 32 e) = ctr (rowOf i s) (e + l.val) := by
  rw [base_eq]
  exact word_sum s.val (i 0).val l.val e (rowOf i s * 100000 + (e + l.val) + 42) (by unfold rowOf; ring)

theorem iv_mul (k n : ℕ) : Scalar.muli (Scf.iv 0#32 1#32 k) (BitVec.ofNat 32 n) = BitVec.ofNat 32 (n * k) := by
  simp only [Scf.iv, Scalar.muli, IntOp.muli, BitVec.ofNat_mul]
  simp [BitVec.mul_comm]

theorem base_A (k : Fin k0_t1_loop.trips) : trip_k0_t1.sl.v726 k = BitVec.ofNat 32 (1024 * k.val) := iv_mul k.val 1024

theorem base_B (k : Fin k0_t1_loop.trips) : trip_k0_t1.sl.v939 k = BitVec.ofNat 32 (1024 * k.val + 512) := by
  have : trip_k0_t1.sl.v939 k = trip_k0_t1.sl.v726 k + BitVec.ofNat 32 512 := rfl
  rw [this, base_A, BitVec.ofNat_add]

/-- The counter words of the two halves of a trip, -/
theorem ctr_A (i : grid0.Coords) (k : Fin k0_t1_loop.trips) (s : Fin 8) (l : Fin 512) :
    (trip_k0_t1.sl.v731 i k) (ix2 s l) = ctr (rowOf i s) (1024 * k.val + l.val) := by
  rw [← base_word, ← base_A]; rfl

theorem ctr_B (i : grid0.Coords) (k : Fin k0_t1_loop.trips) (s : Fin 8) (l : Fin 512) :
    (trip_k0_t1.sl.v944 i k) (ix2 s l) = ctr (rowOf i s) (1024 * k.val + 512 + l.val) := by
  rw [← base_word, ← base_B]; rfl

/-- of the remainder, -/
theorem ctr_C (i : grid0.Coords) (s : Fin 8) (l : Fin 512) :
    k0_pay93 i (ix2 s l) = ctr (rowOf i s) (99328 + l.val) := by
  rw [← base_word]; rfl

/-- of the 128 columns after it, -/
theorem ctr_D (i : grid0.Coords) (s : Fin 8) (l : Fin 128) :
    (kernelRun0_A.sl.v248 i) (ix2 s l) = ctr (rowOf i s) (99840 + l.val) := by
  have : (kernelRun0_A.sl.v248 i) (ix2 s l)
      = k0_pay136 (kernelRun0_A.sl.v0 i) (ix2 s l) + BitVec.ofNat 32 99882 := rfl
  rw [this, base128_eq]
  exact word_sum' s.val (i 0).val l.val 99882 (rowOf i s * 100000 + (99840 + l.val) + 42) (by unfold rowOf; ring)

/-- and of the last 32. -/
theorem ctr_E (i : grid0.Coords) (s : Fin 8) (l : Fin 32) :
    k0_pay177 (kernelRun0_A.sl.v0 i) (ix2 s l) = ctr (rowOf i s) (99968 + l.val) := by
  rw [base32_eq]
  exact word_sum' s.val (i 0).val l.val 100010 (rowOf i s * 100000 + (99968 + l.val) + 42) (by unfold rowOf; ring)

/-- Half A's drawn pattern. -/
theorem draw_A (i : grid0.Coords) (k : Fin k0_t1_loop.trips) (s : Fin 8) (l : Fin 512) :
    (trip_k0_t1.sl.v905 i k) (ix2 s l) = draw (ctr (rowOf i s) (1024 * k.val + l.val)) := by
  have : (trip_k0_t1.sl.v905 i k) (ix2 s l)
      = pattern ((trip_k0_t1.sl.v896 i k) (ix2 s l), (trip_k0_t1.sl.v900 i k) (ix2 s l)) := rfl
  rw [this, cipherA, ctr_A, draw]

/-- A vector of floats in [0, 1) is made of the drawn patterns; -/
theorem unit_of {t : Shape} {a : FVec Ideal t .f32} {W : IVec t 32}
    (h : a = subf (bitcastToFloat .f32 W) (broadcast t (Scalar.ofBits .f32 0x3F800000#32 : Ideal .f32)))
    {j : t.Idx} {w : BitVec 32} (hw : W j = draw w) : a j = unit01 w := by
  subst h
  exact congrArg (fun b => (FloatOps.ofBits .f32 b : Ideal .f32) - (FloatOps.ofBits .f32 1065353216#32 : Ideal .f32)) hw

/-- Half B's float in [0, 1). -/
theorem unit_B (i : grid0.Coords) (k : Fin k0_t1_loop.trips) (s : Fin 8) (l : Fin 512) :
    (trip_k0_t1.sl.r (F := Ideal) i k) (ix2 s l) = unit01 (ctr (rowOf i s) (1024 * k.val + 512 + l.val)) := by
  have h := cipherB i k (ix2 s l)
  rw [ctr_B] at h
  exact unit_of rfl ((rfl : _ = pattern (keyed key2 0#32 5#32 (rnd 6#32 26#32 (rnd 26#32 6#32 (rnd 15#32 17#32
    (rnd 13#32 19#32 (keyed 42#32 key2 4#32
      ((trip_k0_t1.sl.v1067 i k) (ix2 s l), (trip_k0_t1.sl.v1073 i k) (ix2 s l))))))))).trans (congrArg pattern h))

/-- The smallest normal number is added, -/
theorem plus_of {t : Shape} {a b : FVec Ideal t .f32}
    (h : a = addf b (broadcast t (Scalar.ofBits .f32 0x00800000#32 : Ideal .f32)))
    {j : t.Idx} {w : BitVec 32} (hw : b j = unit01 w) : a j = unit01 w + tiny := by
  subst h
  exact congrArg (fun b : EReal => b + tiny) hw

/-- the logarithm taken, -/
theorem log_of {t : Shape} {a b : FVec Ideal t .f32} (h : a = log b)
    {j : t.Idx} {w : BitVec 32} (hw : b j = unit01 w + tiny) : a j = Ideal.log (unit01 w + tiny) := by
  subst h
  exact congrArg Ideal.log hw

/-- and the logarithm of its negative is taken from the logit. -/
theorem score_of {t : Shape} {a b v : FVec Ideal t .f32}
    (h : a = subf v (log (subf (broadcast t (Scalar.ofBits .f32 0x00000000#32 : Ideal .f32)) b)))
    {j : t.Idx} {w : BitVec 32} (hw : b j = Ideal.log (unit01 w + tiny)) : a j = score (v j) w := by
  subst h
  exact congrArg (fun b : EReal => (v j : EReal) - Ideal.log ((FloatOps.ofBits .f32 0#32 : Ideal .f32) - b)) hw

/-- Half A's scores. -/
theorem score_A (i : grid0.Coords) (k : Fin k0_t1_loop.trips) (v : FVec Ideal S8x512 .f32) (s : Fin 8) (l : Fin 512) :
    k0_pay39 (F := Ideal) v (trip_k0_t1.sl.v905 i k) (ix2 s l)
      = score (v (ix2 s l)) (ctr (rowOf i s) (1024 * k.val + l.val)) :=
  score_of rfl (log_of rfl (plus_of rfl (unit_of rfl (draw_A i k s l))))

/-- Half B's scores. -/
theorem score_B (i : grid0.Coords) (k : Fin k0_t1_loop.trips) (v : FVec Ideal S8x512 .f32) (s : Fin 8) (l : Fin 512) :
    k0_pay81 (F := Ideal) v (trip_k0_t1.sl.r i k) trip_k0_t1.sl.cst_373 (ix2 s l)
      = score (v (ix2 s l)) (ctr (rowOf i s) (1024 * k.val + 512 + l.val)) :=
  score_of rfl (log_of rfl (plus_of rfl (unit_B i k s l)))

/-- The remainder's scores. -/
theorem score_C (i : grid0.Coords) (v : FVec Ideal S8x512 .f32) (s : Fin 8) (l : Fin 512) :
    k0_pay130 (F := Ideal) v (kernelRun0_A.sl.r_1 i) k0_pay129 (ix2 s l)
      = score (v (ix2 s l)) (ctr (rowOf i s) (99328 + l.val)) := by
  have h := cipherC i (ix2 s l)
  rw [ctr_C] at h
  exact score_of rfl (log_of rfl (plus_of rfl (unit_of rfl ((rfl : _ = pattern (keyed key2 0#32 5#32 (rnd 6#32 26#32
    (rnd 26#32 6#32 (rnd 15#32 17#32 (rnd 13#32 19#32
      ((kernelRun0_A.sl.v161 i) (ix2 s l), (kernelRun0_A.sl.v165 i) (ix2 s l)))))))).trans (congrArg pattern h)))))

/-- The 128 columns' scores. -/
theorem score_D (i : grid0.Coords) (v : FVec Ideal S8x128 .f32) (s : Fin 8) (l : Fin 128) :
    k0_pay174 (F := Ideal) v (kernelRun0_A.sl.r_4 i) (ix2 s l)
      = score (v (ix2 s l)) (ctr (rowOf i s) (99840 + l.val)) := by
  have h := cipherD i (ix2 s l)
  rw [ctr_D] at h
  exact score_of rfl (log_of rfl (plus_of rfl (unit_of rfl ((rfl : _ = pattern (keyed key2 0#32 5#32 (rnd 6#32 26#32
    (rnd 26#32 6#32 (rnd 15#32 17#32 (rnd 13#32 19#32 (keyed 42#32 key2 4#32
      ((kernelRun0_A.sl.v371 i) (ix2 s l), (kernelRun0_A.sl.v377 i) (ix2 s l))))))))).trans (congrArg pattern h)))))

/-- The last 32 columns' scores. -/
theorem score_E (i : grid0.Coords) (v : FVec Ideal S8x32 .f32) (s : Fin 8) (l : Fin 32) :
    k0_pay221 (F := Ideal) v (kernelRun0_A.sl.v602 i) (kernelRun0_A.sl.v608 i) 466689008#32 (ix2 s l)
      = score (v (ix2 s l)) (ctr (rowOf i s) (99968 + l.val)) := by
  have h := cipherE i (ix2 s l)
  rw [ctr_E] at h
  exact score_of rfl (log_of rfl (plus_of rfl (unit_of rfl ((rfl : _ = pattern (keyed key2 0#32 5#32
      ((kernelRun0_A.sl.v602 i) (ix2 s l), (kernelRun0_A.sl.v608 i) (ix2 s l)))).trans (congrArg pattern h)))))

end Cert.Proof

end
-- ==== Proof.KLanes.lean ====
/-
  The 8 by 1024 scratch vectors of the scan: what a read of a half of one is, and what a write of one half, or of both, leaves
  at each position.
-/
module

public import proofs.«01_k».proof.Proof.KWords
public import Idealize.ShloMosaic.Lib.WritesUnit

@[expose] public section

noncomputable section

namespace Cert.Proof

open Idealize.ShloMosaic Idealize.SL Idealize.ShloMosaic.ValueIdx Cert.KernelIdeal Cert.KernelIdeal.Gen

variable {κ : Kind} {sp : Space} {e : EltTy}

/-- The low half's rectangle and the high half's. -/
abbrev lo : Rect S8x1024 := Rect.unit (s := S8x1024) ![0, 0] S8x512.size inb_S8x1024_S8x512_0_0
abbrev hi : Rect S8x1024 := Rect.unit (s := S8x1024) ![0, 512] S8x512.size inb_S8x1024_S8x512_0_512
abbrev all : Rect S8x1024 := Rect.unit (s := S8x1024) ![0, 0] S8x1024.size inb_S8x1024_S8x1024_0_0

theorem read_lo (v : View sig κ sp S8x1024 e) (f : v.ty.Contents (Elt Ideal)) (s : Fin 8) (l : Fin 512) :
    View.readAt (Elt Ideal) v lo.toLoadRect f (ix2 s l) = v.read (Elt Ideal) f (ix2 s ⟨l.val, by omega⟩) := by
  refine congrArg (v.read (Elt Ideal) f) (funext fun a => Fin.ext ?_)
  fin_cases a <;> simp [ix2] <;> rfl

theorem read_hi (v : View sig κ sp S8x1024 e) (f : v.ty.Contents (Elt Ideal)) (s : Fin 8) (l : Fin 512) :
    View.readAt (Elt Ideal) v hi.toLoadRect f (ix2 s l) = v.read (Elt Ideal) f (ix2 s ⟨512 + l.val, by omega⟩) := by
  refine congrArg (v.read (Elt Ideal) f) (funext fun a => Fin.ext ?_)
  fin_cases a <;> simp [ix2] <;> rfl

theorem read_all (v : View sig κ sp S8x1024 e) (f : v.ty.Contents (Elt Ideal)) (j : S8x1024.Idx) :
    View.readAt (Elt Ideal) v all.toLoadRect f j = v.read (Elt Ideal) f j := by
  refine congrArg (v.read (Elt Ideal) f) (funext fun a => Fin.ext ?_)
  fin_cases a <;> simp <;> rfl

/-- A write of the low half: its positions, -/
theorem write_lo (v : View sig κ sp S8x1024 e) (f : v.ty.Contents (Elt Ideal)) (w : lo.shape.Idx → Elt Ideal e)
    (T : List (View.Piece (Elt Ideal) S8x1024 e)) (s : Fin 8) (l : Fin 512) :
    v.read (Elt Ideal) (v.writes (Elt Ideal) f (⟨lo, w⟩ :: T)) (ix2 s ⟨l.val, by omega⟩) = w (ix2 s l) :=
  View.read_writes_cons_unit_of_mem v f _ w T _ (ix2 s l) rfl (by intro a; fin_cases a <;> simp [ix2])

/-- and the others. -/
theorem write_lo' (v : View sig κ sp S8x1024 e) (f : v.ty.Contents (Elt Ideal)) (w : lo.shape.Idx → Elt Ideal e)
    (T : List (View.Piece (Elt Ideal) S8x1024 e)) (s : Fin 8) (l : Fin 512) :
    v.read (Elt Ideal) (v.writes (Elt Ideal) f (⟨lo, w⟩ :: T)) (ix2 s ⟨512 + l.val, by omega⟩)
      = v.read (Elt Ideal) (v.writes (Elt Ideal) f T) (ix2 s ⟨512 + l.val, by omega⟩) :=
  View.read_writes_cons_unit_of_not_mem v f _ w T _ rfl 1 (by right; simp [ix2])

/-- A write of the high half: its positions, -/
theorem write_hi (v : View sig κ sp S8x1024 e) (f : v.ty.Contents (Elt Ideal)) (w : hi.shape.Idx → Elt Ideal e)
    (T : List (View.Piece (Elt Ideal) S8x1024 e)) (s : Fin 8) (l : Fin 512) :
    v.read (Elt Ideal) (v.writes (Elt Ideal) f (⟨hi, w⟩ :: T)) (ix2 s ⟨512 + l.val, by omega⟩) = w (ix2 s l) :=
  View.read_writes_cons_unit_of_mem v f _ w T _ (ix2 s l) rfl (by intro a; fin_cases a <;> simp [ix2])

/-- and the others. -/
theorem write_hi' (v : View sig κ sp S8x1024 e) (f : v.ty.Contents (Elt Ideal)) (w : hi.shape.Idx → Elt Ideal e)
    (T : List (View.Piece (Elt Ideal) S8x1024 e)) (s : Fin 8) (l : Fin 512) :
    v.read (Elt Ideal) (v.writes (Elt Ideal) f (⟨hi, w⟩ :: T)) (ix2 s ⟨l.val, by omega⟩)
      = v.read (Elt Ideal) (v.writes (Elt Ideal) f T) (ix2 s ⟨l.val, by omega⟩) :=
  View.read_writes_cons_unit_of_not_mem v f _ w T _ rfl 1 (by left; simp [ix2])

/-- A write of the whole. -/
theorem write_all (v : View sig κ sp S8x1024 e) (f : v.ty.Contents (Elt Ideal)) (w : all.shape.Idx → Elt Ideal e)
    (T : List (View.Piece (Elt Ideal) S8x1024 e)) (j : S8x1024.Idx) :
    v.read (Elt Ideal) (v.writes (Elt Ideal) f (⟨all, w⟩ :: T)) j = w j :=
  View.read_writes_cons_unit_of_mem v f _ w T _ j rfl (by intro a; fin_cases a <;> simp)

theorem off1_eq : ∀ k : Fin k0_t1_loop.trips, k0_off1 k = ![0, 1024 * k.val] := by decide +kernel
theorem off2_eq : ∀ k : Fin k0_t1_loop.trips, k0_off2 k = ![0, 1024 * k.val + 512] := by decide +kernel
theorem off3_eq : ∀ k : Fin k0_t2_loop.trips, k0_off3 k = ![0, 512 * k.val] := by decide +kernel
theorem trips1 : k0_t1_loop.trips = 97 := by decide +kernel
theorem trips2 : k0_t2_loop.trips = 195 := by decide +kernel

/-- A read of `n` columns of the block from column `o` on. -/
theorem read_block {n o : ℕ} {off : Fin 2 → ℕ} {arg1 : Memref sig .tc .vmem S8x100000 .f32} (h1 : arg1.IsWhole)
    (x : Vec Ideal S8x100000 .f32) (inb : ∀ a, off a + (⟨2, ![8, n]⟩ : Shape).size a ≤ S8x100000.size a)
    (ho : off = ![0, o]) (s : Fin 8) (l : Fin n) (hl : o + l.val < 100000) :
    View.readAt (Elt Ideal) arg1.view (Rect.unit (s := S8x100000) off (⟨2, ![8, n]⟩ : Shape).size inb).toLoadRect
      (h1.unread x) (ix2 s l) = lgOf x s (o + l.val) := by
  subst ho
  rw [lgOf, dif_pos hl]
  refine Eq.trans (congrArg (arg1.view.read (Elt Ideal) (h1.unread x)) (a₂ := ix2 s ⟨o + l.val, hl⟩)
    (funext fun a => Fin.ext ?_)) (congrFun (h1.read_unread x) _)
  fin_cases a <;> simp [ix2] <;> rfl

end Cert.Proof

end
-- ==== Proof.KPass.lean ====
/-
  The scan of the first pass: 97 trips of 1024 columns, after which each lane of the scratch vectors holds the state of the
  columns it has seen.
-/
module

public import proofs.«01_k».proof.Proof.KLanes

@[expose] public section

noncomputable section

namespace Cert.Proof

open Idealize.ShloMosaic Idealize.SL Idealize.ShloMosaic.ValueIdx Cert.KernelIdeal Cert.KernelIdeal.Gen

/-- The lane's number, as the kernel keeps it. -/
theorem lane_eq (s : Fin 8) (l : Fin 512) : kernelRun0_A.sl.v1 (ix2 s l) = BitVec.ofNat 32 l.val :=
  congrArg (BitVec.ofNat 32) (by simp [ix2])

theorem cast512 {e : Type} (x : S8x512.Idx → e) : shapeCast S8x512 x shapeCasts_S8x512_S8x512 = x := shapeCast_self _ _

section Pieces

variable (v1 : IVec S8x512 32) (o : BitVec 32) (lg : FVec Ideal S8x512 .f32) (w : IVec S8x512 32)
  (u : FVec Ideal S8x512 .f32) (z : Ideal .f32) (tv lw : Vec Ideal S8x512 .f32) (col : Vec Ideal S8x512 .i32) (j : S8x512.Idx)

/-- What each half of a trip stores, position by position. -/
theorem pay43_at : k0_pay43 (F := Ideal) lg w tv j
    = Scalar.select (Ideal.cmp .ogt (k0_pay39 lg w j) (tv j)) (k0_pay39 lg w j) (tv j) := by
  unfold k0_pay43; rw [cast512]; rfl
theorem pay42_at : k0_pay42 (F := Ideal) lg w tv lw j
    = Scalar.select (Ideal.cmp .ogt (k0_pay39 lg w j) (tv j)) (lg j) (lw j) := by
  unfold k0_pay42; rw [cast512]; rfl
theorem pay41_at : k0_pay41 (F := Ideal) v1 o lg w tv col j
    = Scalar.select (Ideal.cmp .ogt (k0_pay39 lg w j) (tv j)) (v1 j + o) (col j) := by
  unfold k0_pay41; rw [cast512]; rfl
theorem pay44_at : k0_pay44 (F := Ideal) lg lw j = max (lw j : EReal) (lg j) := by
  unfold k0_pay44; rw [cast512]; rfl
theorem pay85_at : k0_pay85 (F := Ideal) lg u z tv j
    = Scalar.select (Ideal.cmp .ogt (k0_pay81 lg u z j) (tv j)) (k0_pay81 lg u z j) (tv j) := by
  unfold k0_pay85; rw [cast512]; rfl
theorem pay84_at : k0_pay84 (F := Ideal) lg u z tv lw j
    = Scalar.select (Ideal.cmp .ogt (k0_pay81 lg u z j) (tv j)) (lg j) (lw j) := by
  unfold k0_pay84; rw [cast512]; rfl
theorem pay83_at : k0_pay83 (F := Ideal) v1 o lg u z tv col j
    = Scalar.select (Ideal.cmp .ogt (k0_pay81 lg u z j) (tv j)) (v1 j + o) (col j) := by
  unfold k0_pay83; rw [cast512]; rfl
theorem pay86_at : k0_pay86 (F := Ideal) lg lw j = max (lw j : EReal) (lg j) := by
  unfold k0_pay86; rw [cast512]; rfl

/-- What the remainder stores. -/
theorem pay134_at (d c : FVec Ideal S8x512 .f32) : k0_pay134 (F := Ideal) lg d c tv j
    = Scalar.select (Ideal.cmp .ogt (k0_pay130 lg d c j) (tv j)) (k0_pay130 lg d c j) (tv j) := by
  unfold k0_pay134; rw [cast512]; rfl
theorem pay133_at (d c : FVec Ideal S8x512 .f32) : k0_pay133 (F := Ideal) lg d c tv lw j
    = Scalar.select (Ideal.cmp .ogt (k0_pay130 lg d c j) (tv j)) (lg j) (lw j) := by
  unfold k0_pay133; rw [cast512]; rfl
theorem pay132_at (d c : FVec Ideal S8x512 .f32) : k0_pay132 (F := Ideal) v1 lg d c tv col j
    = Scalar.select (Ideal.cmp .ogt (k0_pay130 lg d c j) (tv j)) (v1 j + 99328#32) (col j) := by
  unfold k0_pay132; rw [cast512]; rfl
theorem pay135_at : k0_pay135 (F := Ideal) lg lw j = max (lw j : EReal) (lg j) := by
  unfold k0_pay135; rw [cast512]; rfl

end Pieces

section Scan

variable (𝒱 : Variants) (c : Dev nD) (bd : Option 𝒱.V) (i : grid0.Coords)
    (arg1 : Memref sig .tc .vmem S8x100000 .f32) (harg1 : arg1.IsWhole) (arg2 : Memref sig .tc .vmem S1x8x1 .i32)
    (harg2 : arg2.IsWhole) (arg3 : Memref sig .tc .vmem S1x8x1 .f32) (harg3 : arg3.IsWhole)
    (arg4 : Memref sig .tc .vmem S8x1024 .f32) (harg4 : arg4.IsWhole) (arg5 : Memref sig .tc .vmem S8x1024 .i32)
    (harg5 : arg5.IsWhole) (arg6 : Memref sig .tc .vmem S8x1024 .f32) (harg6 : arg6.IsWhole)
    (arg7 : Memref sig .tc .vmem S8x1024 .f32) (harg7 : arg7.IsWhole) (x : Vec Ideal S8x100000 .f32)

/-- The state that four scratch vectors hold at a position. -/
def Scan (s : Fin 8) (L : Fin 1024) (P : ℕ → Prop) (A : arg4.view.ty.Contents (Elt Ideal)) (B : arg5.view.ty.Contents (Elt Ideal))
    (C : arg6.view.ty.Contents (Elt Ideal)) (D : arg7.view.ty.Contents (Elt Ideal)) : Prop :=
  Lane (tOf i x s) (lgOf x s) P (arg4.view.read (Elt Ideal) A (ix2 s L)) (arg5.view.read (Elt Ideal) B (ix2 s L))
    (arg7.view.read (Elt Ideal) D (ix2 s L)) (arg6.view.read (Elt Ideal) C (ix2 s L))

variable (A : arg4.view.ty.Contents (Elt Ideal)) (B : arg5.view.ty.Contents (Elt Ideal))
    (C : arg6.view.ty.Contents (Elt Ideal)) (D : arg7.view.ty.Contents (Elt Ideal))
    (X : arg1.view.ty.Contents (Elt Ideal)) (k : Fin k0_t1_loop.trips)

/-- The pieces one trip writes. -/
theorem trip4 : (trip_k0_t1 (F := Ideal) 𝒱 c bd i arg1 harg1 arg2 harg2 arg3 harg3 arg4 harg4 arg5 harg5 arg6 harg6 arg7 harg7 kernelRun0_A.sl.v1 X k).1 A B C D
    = [⟨hi, k0_pay85 (trip_k0_t1.sl.v942 arg1 X k) (trip_k0_t1.sl.r i k) trip_k0_t1.sl.cst_373
          (View.readAt (Elt Ideal) arg4.view hi.toLoadRect A)⟩,
       ⟨lo, k0_pay43 (trip_k0_t1.sl.v729 arg1 X k) (trip_k0_t1.sl.v905 i k) (View.readAt (Elt Ideal) arg4.view lo.toLoadRect A)⟩] := by
  unfold trip_k0_t1; rfl
theorem trip5 : (trip_k0_t1 (F := Ideal) 𝒱 c bd i arg1 harg1 arg2 harg2 arg3 harg3 arg4 harg4 arg5 harg5 arg6 harg6 arg7 harg7 kernelRun0_A.sl.v1 X k).2.1 A B C D
    = [⟨hi, k0_pay83 kernelRun0_A.sl.v1 (trip_k0_t1.sl.v939 k) (trip_k0_t1.sl.v942 arg1 X k) (trip_k0_t1.sl.r i k)
          trip_k0_t1.sl.cst_373 (View.readAt (Elt Ideal) arg4.view hi.toLoadRect A) (View.readAt (Elt Ideal) arg5.view hi.toLoadRect B)⟩,
       ⟨lo, k0_pay41 kernelRun0_A.sl.v1 (trip_k0_t1.sl.v726 k) (trip_k0_t1.sl.v729 arg1 X k) (trip_k0_t1.sl.v905 i k)
          (View.readAt (Elt Ideal) arg4.view lo.toLoadRect A) (View.readAt (Elt Ideal) arg5.view lo.toLoadRect B)⟩] := by
  unfold trip_k0_t1; rfl
theorem trip6 : (trip_k0_t1 (F := Ideal) 𝒱 c bd i arg1 harg1 arg2 harg2 arg3 harg3 arg4 harg4 arg5 harg5 arg6 harg6 arg7 harg7 kernelRun0_A.sl.v1 X k).2.2.1 A B C D
    = [⟨hi, k0_pay86 (trip_k0_t1.sl.v942 arg1 X k) (View.readAt (Elt Ideal) arg6.view hi.toLoadRect C)⟩,
       ⟨lo, k0_pay44 (trip_k0_t1.sl.v729 arg1 X k) (View.readAt (Elt Ideal) arg6.view lo.toLoadRect C)⟩] := by
  unfold trip_k0_t1; rfl
theorem trip7 : (trip_k0_t1 (F := Ideal) 𝒱 c bd i arg1 harg1 arg2 harg2 arg3 harg3 arg4 harg4 arg5 harg5 arg6 harg6 arg7 harg7 kernelRun0_A.sl.v1 X k).2.2.2.1 A B C D
    = [⟨hi, k0_pay84 (trip_k0_t1.sl.v942 arg1 X k) (trip_k0_t1.sl.r i k) trip_k0_t1.sl.cst_373
          (View.readAt (Elt Ideal) arg4.view hi.toLoadRect A) (View.readAt (Elt Ideal) arg7.view hi.toLoadRect D)⟩,
       ⟨lo, k0_pay42 (trip_k0_t1.sl.v729 arg1 X k) (trip_k0_t1.sl.v905 i k) (View.readAt (Elt Ideal) arg4.view lo.toLoadRect A)
          (View.readAt (Elt Ideal) arg7.view lo.toLoadRect D)⟩] := by
  unfold trip_k0_t1; rfl

theorem load_A (s : Fin 8) (l : Fin 512) :
    trip_k0_t1.sl.v729 arg1 (harg1.unread x) k (ix2 s l) = lgOf x s (1024 * k.val + l.val) := by
  have hk : k.val < 97 := trips1 ▸ k.isLt
  unfold trip_k0_t1.sl.v729
  rw [cast512]
  exact read_block harg1 x _ (off1_eq k) s l (by omega)

theorem load_B (s : Fin 8) (l : Fin 512) :
    trip_k0_t1.sl.v942 arg1 (harg1.unread x) k (ix2 s l) = lgOf x s (1024 * k.val + 512 + l.val) := by
  have hk : k.val < 97 := trips1 ▸ k.isLt
  unfold trip_k0_t1.sl.v942
  rw [cast512]
  exact read_block harg1 x _ (off2_eq k) s l (by omega)

/-- The columns of a lane before a bound. -/
def colsOf (n L v : ℕ) : Prop := v < n ∧ v % 1024 = L

/-- The lanes of the two halves. -/
abbrev lowLane (l : Fin 512) : Fin 1024 := ⟨l.val, by omega⟩
abbrev highLane (l : Fin 512) : Fin 1024 := ⟨512 + l.val, by omega⟩

theorem lane_cases (L : Fin 1024) : (∃ l, L = lowLane l) ∨ ∃ l, L = highLane l := by
  by_cases hL : L.val < 512
  · exact Or.inl ⟨⟨L.val, hL⟩, rfl⟩
  · exact Or.inr ⟨⟨L.val - 512, by omega⟩, Fin.ext (by simp; omega)⟩

/-- One trip advances every lane's state by one column. -/
theorem scan_trip (s : Fin 8) (L : Fin 1024)
    (h : Scan i arg4 arg5 arg6 arg7 x s L (colsOf (1024 * k.val) L) A B C D) :
    Scan i arg4 arg5 arg6 arg7 x s L (colsOf (1024 * (k.val + 1)) L)
      (arg4.view.writes (Elt Ideal) A ((trip_k0_t1 (F := Ideal) 𝒱 c bd i arg1 harg1 arg2 harg2 arg3 harg3 arg4 harg4 arg5 harg5 arg6 harg6 arg7 harg7 kernelRun0_A.sl.v1 (harg1.unread x) k).1 A B C D))
      (arg5.view.writes (Elt Ideal) B ((trip_k0_t1 (F := Ideal) 𝒱 c bd i arg1 harg1 arg2 harg2 arg3 harg3 arg4 harg4 arg5 harg5 arg6 harg6 arg7 harg7 kernelRun0_A.sl.v1 (harg1.unread x) k).2.1 A B C D))
      (arg6.view.writes (Elt Ideal) C ((trip_k0_t1 (F := Ideal) 𝒱 c bd i arg1 harg1 arg2 harg2 arg3 harg3 arg4 harg4 arg5 harg5 arg6 harg6 arg7 harg7 kernelRun0_A.sl.v1 (harg1.unread x) k).2.2.1 A B C D))
      (arg7.view.writes (Elt Ideal) D ((trip_k0_t1 (F := Ideal) 𝒱 c bd i arg1 harg1 arg2 harg2 arg3 harg3 arg4 harg4 arg5 harg5 arg6 harg6 arg7 harg7 kernelRun0_A.sl.v1 (harg1.unread x) k).2.2.2.1 A B C D)) := by
  rw [trip4, trip5, trip6, trip7]
  unfold Scan at h ⊢
  rcases lane_cases L with ⟨l, rfl⟩ | ⟨l, rfl⟩
  · rw [write_hi', write_lo, write_hi', write_lo, write_hi', write_lo, write_hi', write_lo, pay43_at, pay41_at, pay42_at, pay44_at,
      score_A, load_A arg1 harg1, read_lo, read_lo, read_lo, read_lo, base_A, lane_eq]
    exact h.step (1024 * k.val + l.val) (fun v hv => by unfold colsOf at hv; omega)
      (fun v => by unfold colsOf; simp only; omega) _ (by rw [← BitVec.ofNat_add, Nat.add_comm])
  · rw [write_hi, write_hi, write_hi, write_hi, pay85_at, pay83_at, pay84_at, pay86_at,
      score_B, load_B arg1 harg1, read_hi, read_hi, read_hi, read_hi, base_B, lane_eq]
    exact h.step (1024 * k.val + 512 + l.val) (fun v hv => by unfold colsOf at hv; simp only at hv; omega)
      (fun v => by unfold colsOf; simp only; omega) _ (by rw [← BitVec.ofNat_add, Nat.add_comm])

/-- After the trips before `n`, each lane holds its columns before `1024 n`. -/
theorem scan_loop (s : Fin 8) (L : Fin 1024) (h : Scan i arg4 arg5 arg6 arg7 x s L (colsOf 0 L) A B C D) (n : ℕ)
    (hn : n ≤ k0_t1_loop.trips) :
    Scan i arg4 arg5 arg6 arg7 x s L (colsOf (1024 * n) L)
      (arg4.view.writes (Elt Ideal) A (pb_k0_t1 (F := Ideal) 𝒱 c bd i arg1 harg1 arg2 harg2 arg3 harg3 arg4 harg4 arg5 harg5 arg6 harg6 arg7 harg7 kernelRun0_A.sl.v1 (harg1.unread x) A B C D n).1)
      (arg5.view.writes (Elt Ideal) B (pb_k0_t1 (F := Ideal) 𝒱 c bd i arg1 harg1 arg2 harg2 arg3 harg3 arg4 harg4 arg5 harg5 arg6 harg6 arg7 harg7 kernelRun0_A.sl.v1 (harg1.unread x) A B C D n).2.1)
      (arg6.view.writes (Elt Ideal) C (pb_k0_t1 (F := Ideal) 𝒱 c bd i arg1 harg1 arg2 harg2 arg3 harg3 arg4 harg4 arg5 harg5 arg6 harg6 arg7 harg7 kernelRun0_A.sl.v1 (harg1.unread x) A B C D n).2.2.1)
      (arg7.view.writes (Elt Ideal) D (pb_k0_t1 (F := Ideal) 𝒱 c bd i arg1 harg1 arg2 harg2 arg3 harg3 arg4 harg4 arg5 harg5 arg6 harg6 arg7 harg7 kernelRun0_A.sl.v1 (harg1.unread x) A B C D n).2.2.2) := by
  induction n with
  | zero => exact h
  | succ n ih =>
    have := pb_k0_t1_succ (F := Ideal) 𝒱 c bd i arg1 harg1 arg2 harg2 arg3 harg3 arg4 harg4 arg5 harg5 arg6 harg6 arg7 harg7 kernelRun0_A.sl.v1 (harg1.unread x) A B C D ⟨n, hn⟩
    simp only at this
    rw [this]
    simp only [View.writes_append]
    exact scan_trip 𝒱 c bd i arg1 harg1 arg2 harg2 arg3 harg3 arg4 harg4 arg5 harg5 arg6 harg6 arg7 harg7 x _ _ _ _ ⟨n, hn⟩ s L (ih (by omega))

end Scan

end Cert.Proof

end
-- ==== Proof.Pick.lean ====
/-
  From the scanned lanes and the two short pieces of columns to the row's answers: the best score is the picked column's, the
  least column holding it is that column, the masked sums hold its logit, and the sum of exponentials is that of the row.
-/
module

public import proofs.«01_k».proof.Proof.Row

@[expose] public section

namespace Cert.Proof

open Idealize.ShloMosaic

/-- The lesser of two small words is the word of the lesser number. -/
theorem minsi_ofNat (a b : ℕ) (ha : a ≤ 2147483647) (hb : b ≤ 2147483647) :
    IntOp.minsi (BitVec.ofNat 32 a) (BitVec.ofNat 32 b) = BitVec.ofNat 32 (min a b) := by
  have e : ∀ n : ℕ, n ≤ 2147483647 → (BitVec.ofNat 32 n).toInt = n := fun n hn => by
    rw [BitVec.toInt_eq_toNat_cond, BitVec.toNat_ofNat, Nat.mod_eq_of_lt (by omega), if_pos (by omega)]
  unfold IntOp.minsi
  rw [BitVec.slt_eq_decide, e a ha, e b hb]
  by_cases h : a < b
  · rw [if_pos (by simpa using h), min_eq_left h.le]
  · rw [if_neg (by simpa using h), min_eq_right (not_lt.mp h)]

/-- A word that stands for a number not below `s`. -/
def NotBelow (s : ℕ) (w : BitVec 32) : Prop := ∃ c, s ≤ c ∧ c ≤ 2147483647 ∧ w = BitVec.ofNat 32 c

variable {s : ℕ}

theorem NotBelow.min {a b : BitVec 32} (ha : NotBelow s a) (hb : NotBelow s b) : NotBelow s (IntOp.minsi a b) := by
  obtain ⟨c, h1, h2, rfl⟩ := ha
  obtain ⟨d, h3, h4, rfl⟩ := hb
  exact ⟨Min.min c d, le_min h1 h3, (min_le_left _ _).trans h2, minsi_ofNat c d h2 h4⟩

theorem NotBelow.min_left {b : BitVec 32} (hs : s ≤ 2147483647) (hb : NotBelow s b) :
    IntOp.minsi (BitVec.ofNat 32 s) b = BitVec.ofNat 32 s := by
  obtain ⟨d, h3, h4, rfl⟩ := hb
  rw [minsi_ofNat s d hs h4, min_eq_left h3]

theorem NotBelow.min_right {b : BitVec 32} (hs : s ≤ 2147483647) (hb : NotBelow s b) :
    IntOp.minsi b (BitVec.ofNat 32 s) = BitVec.ofNat 32 s := by
  obtain ⟨d, h3, h4, rfl⟩ := hb
  rw [minsi_ofNat d s h4 hs, min_eq_right h3]

instance : Std.Commutative (IntOp.minsi (w := 32)) := ⟨fun a b => by
  unfold IntOp.minsi; simp only [BitVec.slt_eq_decide, decide_eq_true_eq]
  have := @BitVec.toInt_inj 32 a b
  split <;> split <;> first | omega | rfl | (exact this.mp (by omega)) | (exact (this.mp (by omega)).symm)⟩

instance : Std.Associative (IntOp.minsi (w := 32)) := ⟨fun a b c => by
  unfold IntOp.minsi; simp only [BitVec.slt_eq_decide, decide_eq_true_eq]
  have h1 := @BitVec.toInt_inj 32 a b
  have h2 := @BitVec.toInt_inj 32 b c
  have h3 := @BitVec.toInt_inj 32 a c
  split <;> split <;> (try split) <;> first | rfl | omega | (exact h1.mp (by omega)) | (exact h2.mp (by omega)) | (exact h3.mp (by omega)) | (exact (h3.mp (by omega)).symm) ⟩

/-- The least of words none below `s`, from the greatest word on, is not below `s`; -/
theorem fold_notBelow {ι : Type} [DecidableEq ι] (S : Finset ι) (f : ι → BitVec 32) (hs : s ≤ 2147483647)
    (h : ∀ k ∈ S, NotBelow s (f k)) : NotBelow s (S.fold IntOp.minsi 2147483647#32 f) := by
  induction S using Finset.induction_on with
  | empty => exact ⟨2147483647, hs, le_rfl, rfl⟩
  | insert a S ha ih =>
    rw [Finset.fold_insert ha]
    exact (h a (Finset.mem_insert_self _ _)).min (ih fun k hk => h k (Finset.mem_insert_of_mem hk))

/-- it is `s` if one of them is. -/
theorem fold_eq {ι : Type} [DecidableEq ι] (S : Finset ι) (f : ι → BitVec 32) (hs : s ≤ 2147483647)
    (h : ∀ k ∈ S, NotBelow s (f k)) (k : ι) (hk : k ∈ S) (e : f k = BitVec.ofNat 32 s) :
    S.fold IntOp.minsi 2147483647#32 f = BitVec.ofNat 32 s := by
  rw [← Finset.insert_erase hk, Finset.fold_insert (Finset.notMem_erase _ _), e]
  exact (fold_notBelow _ f hs fun j hj => h j (Finset.mem_of_mem_erase hj)).min_left hs

variable {T lg : ℕ → EReal} {tv lgw lm : Fin 1024 → EReal} {col : Fin 1024 → BitVec 32}

/-- The lanes after the scan. -/
def Lanes (T lg : ℕ → EReal) (tv : Fin 1024 → EReal) (col : Fin 1024 → BitVec 32) (lgw lm : Fin 1024 → EReal) : Prop :=
  ∀ L : Fin 1024, Lane T lg (fun v => v < 99840 ∧ v % 1024 = L.val) (tv L) (col L) (lgw L) (lm L)

theorem lanes_lt {L : Fin 1024} : ∀ v, (v < 99840 ∧ v % 1024 = L.val) → v < 100000 := fun v h => by omega

/-- The best score. -/
theorem best_eq (h : Lanes T lg tv col lgw lm) (hs : IsPick T 100000 s) :
    max (max (Finset.univ.sup tv) (Finset.univ.sup fun k : Fin 128 => T (99840 + k.val)))
      (Finset.univ.sup fun k : Fin 32 => T (99968 + k.val)) = T s := by
  apply le_antisymm
  · refine max_le (max_le ?_ ?_) ?_
    · exact Finset.sup_le fun L _ => (h L).le_pick lanes_lt hs
    · exact Finset.sup_le fun k _ => hs.2.1 _ (by omega)
    · exact Finset.sup_le fun k _ => hs.2.1 _ (by omega)
  · have hlt := hs.1
    by_cases h1 : s < 99840
    · refine le_max_of_le_left (le_max_of_le_left ?_)
      have hL : s % 1024 < 1024 := Nat.mod_lt _ (by norm_num)
      exact ((h ⟨s % 1024, hL⟩).top s ⟨h1, rfl⟩).trans (Finset.le_sup (f := tv) (Finset.mem_univ _))
    · by_cases h2 : s < 99968
      · refine le_max_of_le_left (le_max_of_le_right ?_)
        have := Finset.le_sup (f := fun k : Fin 128 => T (99840 + k.val)) (Finset.mem_univ ⟨s - 99840, by omega⟩)
        simpa only [Nat.add_sub_cancel' (not_lt.mp h1)] using this
      · refine le_max_of_le_right ?_
        have := Finset.le_sup (f := fun k : Fin 32 => T (99968 + k.val)) (Finset.mem_univ ⟨s - 99968, by omega⟩)
        simpa only [Nat.add_sub_cancel' (not_lt.mp h2)] using this

theorem sel_eq {α : Type} {x y : EReal} (a b : α) (h : x = y) : Scalar.select (Ideal.cmp .oeq x y) a b = a := by
  simp [Scalar.select, Ideal.cmp, h]
theorem sel_ne {α : Type} {x y : EReal} (a b : α) (h : x ≠ y) : Scalar.select (Ideal.cmp .oeq x y) a b = b := by
  simp [Scalar.select, Ideal.cmp, h]

/-- The least column whose score is the best one. -/
theorem samp_eq (h : Lanes T lg tv col lgw lm) (hs : IsPick T 100000 s) (hb : ⊥ < T s) :
    IntOp.minsi (IntOp.minsi
      (Finset.univ.fold IntOp.minsi 2147483647#32
        fun L => Scalar.select (Ideal.cmp .oeq (tv L) (T s)) (col L) 100000#32)
      (Finset.univ.fold IntOp.minsi 2147483647#32
        fun k : Fin 128 => Scalar.select (Ideal.cmp .oeq (T (99840 + k.val)) (T s)) (BitVec.ofNat 32 (99840 + k.val)) 100000#32))
      (Finset.univ.fold IntOp.minsi 2147483647#32
        fun k : Fin 32 => Scalar.select (Ideal.cmp .oeq (T (99968 + k.val)) (T s)) (BitVec.ofNat 32 (99968 + k.val)) 100000#32)
      = BitVec.ofNat 32 s := by
  have hlt := hs.1
  have hs' : s ≤ 2147483647 := by omega
  have top : NotBelow s 100000#32 := ⟨100000, hlt.le, by norm_num, rfl⟩
  have piece : ∀ o v : ℕ, o + v < 100000 →
      NotBelow s (Scalar.select (Ideal.cmp .oeq (T (o + v)) (T s)) (BitVec.ofNat 32 (o + v)) 100000#32) := by
    intro o v hv
    by_cases e : T (o + v) = T s
    · rw [sel_eq _ _ e]
      refine ⟨o + v, ?_, by omega, rfl⟩
      by_contra hc
      exact absurd e (hs.2.2 _ (not_le.mp hc)).ne
    · rw [sel_ne _ _ e]; exact top
  have n1 : ∀ L ∈ (Finset.univ : Finset (Fin 1024)),
      NotBelow s (Scalar.select (Ideal.cmp .oeq (tv L) (T s)) (col L) 100000#32) := by
    intro L _
    by_cases e : tv L = T s
    · rw [sel_eq _ _ e]
      obtain ⟨c, _, h1, h2, h3, _⟩ := (h L).col_of_eq lanes_lt hs hb e
      exact ⟨c, h1, by omega, h3⟩
    · rw [sel_ne _ _ e]; exact top
  have n2 := fun (k : Fin 128) (_ : k ∈ Finset.univ) => piece 99840 k.val (by omega)
  have n3 := fun (k : Fin 32) (_ : k ∈ Finset.univ) => piece 99968 k.val (by omega)
  have g1 := fold_notBelow _ _ hs' n1
  have g2 := fold_notBelow _ _ hs' n2
  have g3 := fold_notBelow _ _ hs' n3
  by_cases h1 : s < 99840
  · have hL : s % 1024 < 1024 := Nat.mod_lt _ (by norm_num)
    obtain ⟨e1, e2, _⟩ := (h ⟨s % 1024, hL⟩).eq_pick lanes_lt hs hb ⟨h1, rfl⟩
    rw [fold_eq _ _ hs' n1 ⟨s % 1024, hL⟩ (Finset.mem_univ _) (by rw [sel_eq _ _ e1, e2]), g2.min_left hs', g3.min_left hs']
  · by_cases h2 : s < 99968
    · have e : 99840 + (s - 99840) = s := by omega
      rw [fold_eq _ _ hs' n2 ⟨s - 99840, by omega⟩ (Finset.mem_univ _) (by simp only [e]; rw [sel_eq _ _ rfl]),
        g1.min_right hs', g3.min_left hs']
    · have e : 99968 + (s - 99968) = s := by omega
      rw [fold_eq _ _ hs' n3 ⟨s - 99968, by omega⟩ (Finset.mem_univ _) (by simp only [e]; rw [sel_eq _ _ rfl]),
        (g1.min g2).min_right hs']

/-- The largest logit. -/
theorem top_eq (h : Lanes T lg tv col lgw lm) :
    max (max (Finset.univ.sup lm) (Finset.univ.sup fun k : Fin 128 => lg (99840 + k.val)))
      (Finset.univ.sup fun k : Fin 32 => lg (99968 + k.val)) = (Finset.range 100000).sup lg := by
  apply le_antisymm
  · refine max_le (max_le ?_ ?_) ?_
    · refine Finset.sup_le fun L _ => ?_
      rcases (h L).attained with e | ⟨c, hc, e⟩
      · rw [e]; exact bot_le
      · rw [e]; exact Finset.le_sup (f := lg) (Finset.mem_range.mpr (lanes_lt c hc))
    · exact Finset.sup_le fun k _ => Finset.le_sup (f := lg) (Finset.mem_range.mpr (by omega))
    · exact Finset.sup_le fun k _ => Finset.le_sup (f := lg) (Finset.mem_range.mpr (by omega))
  · refine Finset.sup_le fun v hv => ?_
    have hv := Finset.mem_range.mp hv
    by_cases h1 : v < 99840
    · refine le_max_of_le_left (le_max_of_le_left ?_)
      have hL : v % 1024 < 1024 := Nat.mod_lt _ (by norm_num)
      exact ((h ⟨v % 1024, hL⟩).logit v ⟨h1, rfl⟩).trans (Finset.le_sup (f := lm) (Finset.mem_univ _))
    · by_cases h2 : v < 99968
      · refine le_max_of_le_left (le_max_of_le_right ?_)
        have := Finset.le_sup (f := fun k : Fin 128 => lg (99840 + k.val)) (Finset.mem_univ ⟨v - 99840, by omega⟩)
        simpa only [Nat.add_sub_cancel' (not_lt.mp h1)] using this
      · refine le_max_of_le_right ?_
        have := Finset.le_sup (f := fun k : Fin 32 => lg (99968 + k.val)) (Finset.mem_univ ⟨v - 99968, by omega⟩)
        simpa only [Nat.add_sub_cancel' (not_lt.mp h2)] using this

theorem ofNat_ne {a b : ℕ} (ha : a < 100000) (hb : b < 100000) (h : a ≠ b) : BitVec.ofNat 32 a ≠ BitVec.ofNat 32 b := fun e => by
  have := congrArg BitVec.toNat e
  rw [BitVec.toNat_ofNat, BitVec.toNat_ofNat, Nat.mod_eq_of_lt (by omega), Nat.mod_eq_of_lt (by omega)] at this
  exact h this

theorem seli_eq {α : Type} {x y : BitVec 32} (a b : α) (h : x = y) : Scalar.select (IntOp.cmpi .eq x y) a b = a := by
  simp [Scalar.select, IntOp.cmpi, h]
theorem seli_ne {α : Type} {x y : BitVec 32} (a b : α) (h : x ≠ y) : Scalar.select (IntOp.cmpi .eq x y) a b = b := by
  have : (x == y) = false := beq_eq_false_iff_ne.mpr h
  simp [Scalar.select, IntOp.cmpi, this]

/-- The masked sums hold the picked column's logit and nothing else. -/
theorem chosen_eq (h : Lanes T lg tv col lgw lm) (hs : IsPick T 100000 s) (hb : ⊥ < T s) :
    (∑ L, Scalar.select (IntOp.andi (Ideal.cmp .oeq (tv L) (T s)) (IntOp.cmpi .eq (col L) (BitVec.ofNat 32 s))) (lgw L) 0
      + ∑ k : Fin 128, Scalar.select (IntOp.cmpi .eq (BitVec.ofNat 32 (99840 + k.val)) (BitVec.ofNat 32 s)) (lg (99840 + k.val)) 0)
      + ∑ k : Fin 32, Scalar.select (IntOp.cmpi .eq (BitVec.ofNat 32 (99968 + k.val)) (BitVec.ofNat 32 s)) (lg (99968 + k.val)) 0
      = lg s := by
  have hlt := hs.1
  have z1 : ∀ L : Fin 1024, (s < 99840 → s % 1024 ≠ L.val) →
      Scalar.select (IntOp.andi (Ideal.cmp .oeq (tv L) (T s)) (IntOp.cmpi .eq (col L) (BitVec.ofNat 32 s))) (lgw L) 0 = 0 := by
    intro L hL
    by_cases e : tv L = T s
    · obtain ⟨c, h0, h1, h2, h3, _⟩ := (h L).col_of_eq lanes_lt hs hb e
      have : c ≠ s := fun ec => by subst ec; exact hL h0.1 h0.2
      have hne : col L ≠ BitVec.ofNat 32 s := h3 ▸ ofNat_ne h2 hlt this
      have hf : (col L == BitVec.ofNat 32 s) = false := beq_eq_false_iff_ne.mpr hne
      simp [Scalar.select, IntOp.cmpi, IntOp.andi, hf]
    · simp [Scalar.select, Ideal.cmp, IntOp.andi, e]
  have z2 : ∀ k : Fin 128, 99840 + k.val ≠ s →
      Scalar.select (IntOp.cmpi .eq (BitVec.ofNat 32 (99840 + k.val)) (BitVec.ofNat 32 s)) (lg (99840 + k.val)) 0 = 0 :=
    fun k hk => seli_ne _ _ (ofNat_ne (by omega) hlt hk)
  have z3 : ∀ k : Fin 32, 99968 + k.val ≠ s →
      Scalar.select (IntOp.cmpi .eq (BitVec.ofNat 32 (99968 + k.val)) (BitVec.ofNat 32 s)) (lg (99968 + k.val)) 0 = 0 :=
    fun k hk => seli_ne _ _ (ofNat_ne (by omega) hlt hk)
  by_cases h1 : s < 99840
  · have hL : s % 1024 < 1024 := Nat.mod_lt _ (by norm_num)
    obtain ⟨e1, e2, e3⟩ := (h ⟨s % 1024, hL⟩).eq_pick lanes_lt hs hb ⟨h1, rfl⟩
    rw [Finset.sum_eq_zero (s := (Finset.univ : Finset (Fin 128))) fun k _ => z2 k (by omega),
      Finset.sum_eq_zero (s := (Finset.univ : Finset (Fin 32))) fun k _ => z3 k (by omega),
      Finset.sum_eq_single (⟨s % 1024, hL⟩ : Fin 1024) (fun L _ hne => z1 L fun _ e => hne (Fin.ext e.symm))
        (fun hn => (hn (Finset.mem_univ _)).elim), e1, e2, e3]
    simp [Scalar.select, Ideal.cmp, IntOp.cmpi, IntOp.andi]
  · rw [Finset.sum_eq_zero (s := (Finset.univ : Finset (Fin 1024))) fun L _ => z1 L fun hc => (h1 hc).elim]
    by_cases h2 : s < 99968
    · have e : 99840 + (s - 99840) = s := by omega
      rw [Finset.sum_eq_zero (s := (Finset.univ : Finset (Fin 32))) fun k _ => z3 k (by omega),
        Finset.sum_eq_single (⟨s - 99840, by omega⟩ : Fin 128)
          (fun k _ hne => z2 k fun e' => hne (Fin.ext (by simp; omega))) (fun hn => (hn (Finset.mem_univ _)).elim)]
      simp only [e, seli_eq _ _ rfl, zero_add, add_zero]
    · have e : 99968 + (s - 99968) = s := by omega
      rw [Finset.sum_eq_zero (s := (Finset.univ : Finset (Fin 128))) fun k _ => z2 k (by omega),
        Finset.sum_eq_single (⟨s - 99968, by omega⟩ : Fin 32)
          (fun k _ hne => z3 k fun e' => hne (Fin.ext (by simp; omega))) (fun hn => (hn (Finset.mem_univ _)).elim)]
      simp only [e, seli_eq _ _ rfl, zero_add, add_zero]

/-- A sum over the row from the sums of its parts: 195 times 512 columns, 128 and 32. -/
theorem sum_eq (f : ℕ → EReal) :
    (∑ l : Fin 512, ∑ k ∈ Finset.range 195, f (512 * k + l.val) + ∑ k : Fin 128, f (99840 + k.val))
      + ∑ k : Fin 32, f (99968 + k.val) = ∑ v ∈ Finset.range 100000, f v := by
  have blocks : ∀ n, ∑ l : Fin 512, ∑ k ∈ Finset.range n, f (512 * k + l.val) = ∑ v ∈ Finset.range (512 * n), f v := by
    intro n
    induction n with
    | zero => simp
    | succ n ih =>
      simp only [Finset.sum_range_succ, Finset.sum_add_distrib]
      rw [ih, Nat.mul_succ, Finset.sum_range_add, Fin.sum_univ_eq_sum_range (fun l => f (512 * n + l))]
  rw [blocks, Fin.sum_univ_eq_sum_range (fun k => f (99840 + k)), Fin.sum_univ_eq_sum_range (fun k => f (99968 + k)),
    show 512 * 195 = 99840 from rfl, ← Finset.sum_range_add, ← Finset.sum_range_add]

end Cert.Proof

end
-- ==== Proof.KReduce.lean ====
/-
  The kernel's reductions along a row and its spreading of a column over the row, read at a position.
-/
module

public import proofs.«01_k».proof.Proof.KPass
public import proofs.«01_k».proof.Proof.Pick
public import Idealize.ShloMosaic.Lib.Pointwise.Reduce

@[expose] public section

noncomputable section

namespace Cert.Proof

open Idealize.ShloMosaic hiding ix1 ix2 ix3 eq_ix2
open Idealize.SL Idealize.ShloMosaic.ValueIdx Cert.KernelIdeal Cert.KernelIdeal.Gen

theorem negInf : (FloatOps.ofBits .f32 0xFF800000#32 : Ideal .f32) = (⊥ : EReal) := by
  simp [FloatOps.ofBits, Ideal.ofBits, Ideal.ieee]
theorem zeroF : (FloatOps.ofBits .f32 0x00000000#32 : Ideal .f32) = (0 : EReal) := by
  simp [FloatOps.ofBits, Ideal.ofBits, Ideal.ieee]

theorem cast81 {e : Type} (x : S8.Idx → e) (s : Fin 8) (z : Fin 1) :
    shapeCast S8x1 x shapeCasts_S8_S8x1 (ix2 s z) = x (ix1 s) := by
  refine congrArg x ?_
  revert s z; decide +kernel

theorem row_max {n : ℕ} (x : FVec Ideal ⟨2, ![8, n]⟩ .f32) (h : (⟨2, ![8, n]⟩ : Shape).Reduces [1] S8) (s : Fin 8) (z : Fin 1) :
    shapeCast S8x1 (multiReduction .maximumf [1] S8 x 0xFF800000#32 h (.inl rfl) rfl) shapeCasts_S8_S8x1 (ix2 s z)
      = Finset.univ.sup fun k : Fin n => (x (ix2 s k) : EReal) := by
  rw [cast81]
  refine (multiReduction_maximumf_eq_fold x _ h (.inl rfl) rfl (ix1 s)).trans ?_
  rw [h.fold_fiber_r2_a1]
  show Finset.fold _ (FloatOps.ofBits .f32 0xFF800000#32 : Ideal .f32) _ _ = _
  rw [negInf]
  rfl

theorem row_sum {n : ℕ} (x : FVec Ideal ⟨2, ![8, n]⟩ .f32) (h : (⟨2, ![8, n]⟩ : Shape).Reduces [1] S8) (s : Fin 8) (z : Fin 1) :
    shapeCast S8x1 (multiReduction .add [1] S8 x 0x00000000#32 h (.inl rfl) rfl) shapeCasts_S8_S8x1 (ix2 s z)
      = ∑ k : Fin n, (x (ix2 s k) : EReal) := by
  rw [cast81]
  exact Ideal.reduceAdd_r2_a1 h x _

theorem row_min {n : ℕ} (x : IVec ⟨2, ![8, n]⟩ 32) (h : (⟨2, ![8, n]⟩ : Shape).Reduces [1] S8) (s : Fin 8) (z : Fin 1) :
    shapeCast S8x1 (multiReductionI .minsi [1] S8 x 2147483647#32 h rfl) shapeCasts_S8_S8x1 (ix2 s z)
      = Finset.univ.fold IntOp.minsi 2147483647#32 fun k : Fin n => x (ix2 s k) := by
  rw [cast81]
  refine (multiReductionI_eq_fold .minsi x _ h rfl (ix1 s)).trans ?_
  rw [h.fold_fiber_r2_a1]
  rfl

theorem spread1024 {e : Type} (x : S8x1.Idx → e) (s : Fin 8) (k : Fin 1024) :
    broadcastTo S8x1024 x broadcasts_S8x1_S8x1024 (ix2 s k) = x (ix2 s 0) :=
  congrArg x (funext fun a => by fin_cases a <;> rfl)
theorem spread512 {e : Type} (x : S8x1.Idx → e) (s : Fin 8) (k : Fin 512) :
    broadcastTo S8x512 x broadcasts_S8x1_S8x512 (ix2 s k) = x (ix2 s 0) :=
  congrArg x (funext fun a => by fin_cases a <;> rfl)
theorem spread128 {e : Type} (x : S8x1.Idx → e) (s : Fin 8) (k : Fin 128) :
    broadcastTo S8x128 x broadcasts_S8x1_S8x128 (ix2 s k) = x (ix2 s 0) :=
  congrArg x (funext fun a => by fin_cases a <;> rfl)
theorem spread32 {e : Type} (x : S8x1.Idx → e) (s : Fin 8) (k : Fin 32) :
    broadcastTo S8x32 x broadcasts_S8x1_S8x32 (ix2 s k) = x (ix2 s 0) :=
  congrArg x (funext fun a => by fin_cases a <;> rfl)

end Cert.Proof

end
-- ==== Proof.KScan.lean ====
/-
  The scratch vectors after the scan and its remainder: every lane holds the state of all its columns before 99840.
-/
module

public import proofs.«01_k».proof.Proof.KReduce

@[expose] public section

noncomputable section

namespace Cert.Proof

open Idealize.ShloMosaic hiding ix1 ix2 ix3 eq_ix2
open Idealize.SL Idealize.ShloMosaic.ValueIdx Cert.KernelIdeal Cert.KernelIdeal.Gen

variable (c : Dev nD) (i : grid0.Coords)
    (arg1 : Memref sig .tc .vmem S8x100000 .f32) (harg1 : arg1.IsWhole) (arg2 : Memref sig .tc .vmem S1x8x1 .i32)
    (harg2 : arg2.IsWhole) (arg3 : Memref sig .tc .vmem S1x8x1 .f32) (harg3 : arg3.IsWhole)
    (arg4 : Memref sig .tc .vmem S8x1024 .f32) (harg4 : arg4.IsWhole) (arg5 : Memref sig .tc .vmem S8x1024 .i32)
    (harg5 : arg5.IsWhole) (arg6 : Memref sig .tc .vmem S8x1024 .f32) (harg6 : arg6.IsWhole)
    (arg7 : Memref sig .tc .vmem S8x1024 .f32) (harg7 : arg7.IsWhole) (x : Vec Ideal S8x100000 .f32)

theorem cast1024 {e : Type} (x : S8x1024.Idx → e) : shapeCast S8x1024 x shapeCasts_S8x1024_S8x1024 = x := shapeCast_self _ _

theorem pay88_at (j : S8x1024.Idx) : k0_pay88 (F := Ideal) j = (⊥ : EReal) := by
  unfold k0_pay88; rw [cast1024]; exact negInf
theorem pay90_at (j : S8x1024.Idx) : k0_pay90 (F := Ideal) j = (⊥ : EReal) := by
  unfold k0_pay90; rw [cast1024]; exact negInf

/-- Before the scan every lane holds the state of no column. -/
theorem scan_start (s : Fin 8) (L : Fin 1024) :
    Scan i arg4 arg5 arg6 arg7 x s L (colsOf 0 L)
      (arg4.view.writes (Elt Ideal) arg4.view.junk kernelRun0_A.sl.HS0_1)
      (arg5.view.writes (Elt Ideal) arg5.view.junk kernelRun0_A.sl.HS1_1)
      (arg6.view.writes (Elt Ideal) arg6.view.junk kernelRun0_A.sl.HS2_1)
      (arg7.view.writes (Elt Ideal) arg7.view.junk kernelRun0_A.sl.HS3_1) := by
  unfold Scan kernelRun0_A.sl.HS0_1 kernelRun0_A.sl.HS1_1 kernelRun0_A.sl.HS2_1 kernelRun0_A.sl.HS3_1
  rw [write_all, write_all, write_all, write_all, pay88_at, pay90_at]
  exact Lane.empty (fun v hv => by unfold colsOf at hv; omega) _ _

/-- After the trips. -/
theorem scan_trips (s : Fin 8) (L : Fin 1024) :
    Scan i arg4 arg5 arg6 arg7 x s L (colsOf 99328 L)
      (arg4.view.writes (Elt Ideal) arg4.view.junk ((pb_k0_t1 (F := Ideal) Variants.none c none i arg1 harg1 arg2 harg2 arg3 harg3 arg4 harg4 arg5 harg5 arg6 harg6 arg7 harg7 kernelRun0_A.sl.v1 (harg1.unread x)
        (arg4.view.writes (Elt Ideal) arg4.view.junk kernelRun0_A.sl.HS0_1) (arg5.view.writes (Elt Ideal) arg5.view.junk kernelRun0_A.sl.HS1_1)
        (arg6.view.writes (Elt Ideal) arg6.view.junk kernelRun0_A.sl.HS2_1) (arg7.view.writes (Elt Ideal) arg7.view.junk kernelRun0_A.sl.HS3_1)
        k0_t1_loop.trips).1 ++ kernelRun0_A.sl.HS0_1))
      (arg5.view.writes (Elt Ideal) arg5.view.junk ((pb_k0_t1 (F := Ideal) Variants.none c none i arg1 harg1 arg2 harg2 arg3 harg3 arg4 harg4 arg5 harg5 arg6 harg6 arg7 harg7 kernelRun0_A.sl.v1 (harg1.unread x)
        (arg4.view.writes (Elt Ideal) arg4.view.junk kernelRun0_A.sl.HS0_1) (arg5.view.writes (Elt Ideal) arg5.view.junk kernelRun0_A.sl.HS1_1)
        (arg6.view.writes (Elt Ideal) arg6.view.junk kernelRun0_A.sl.HS2_1) (arg7.view.writes (Elt Ideal) arg7.view.junk kernelRun0_A.sl.HS3_1)
        k0_t1_loop.trips).2.1 ++ kernelRun0_A.sl.HS1_1))
      (arg6.view.writes (Elt Ideal) arg6.view.junk ((pb_k0_t1 (F := Ideal) Variants.none c none i arg1 harg1 arg2 harg2 arg3 harg3 arg4 harg4 arg5 harg5 arg6 harg6 arg7 harg7 kernelRun0_A.sl.v1 (harg1.unread x)
        (arg4.view.writes (Elt Ideal) arg4.view.junk kernelRun0_A.sl.HS0_1) (arg5.view.writes (Elt Ideal) arg5.view.junk kernelRun0_A.sl.HS1_1)
        (arg6.view.writes (Elt Ideal) arg6.view.junk kernelRun0_A.sl.HS2_1) (arg7.view.writes (Elt Ideal) arg7.view.junk kernelRun0_A.sl.HS3_1)
        k0_t1_loop.trips).2.2.1 ++ kernelRun0_A.sl.HS2_1))
      (arg7.view.writes (Elt Ideal) arg7.view.junk ((pb_k0_t1 (F := Ideal) Variants.none c none i arg1 harg1 arg2 harg2 arg3 harg3 arg4 harg4 arg5 harg5 arg6 harg6 arg7 harg7 kernelRun0_A.sl.v1 (harg1.unread x)
        (arg4.view.writes (Elt Ideal) arg4.view.junk kernelRun0_A.sl.HS0_1) (arg5.view.writes (Elt Ideal) arg5.view.junk kernelRun0_A.sl.HS1_1)
        (arg6.view.writes (Elt Ideal) arg6.view.junk kernelRun0_A.sl.HS2_1) (arg7.view.writes (Elt Ideal) arg7.view.junk kernelRun0_A.sl.HS3_1)
        k0_t1_loop.trips).2.2.2 ++ kernelRun0_A.sl.HS3_1)) := by
  have h := scan_loop Variants.none c none i arg1 harg1 arg2 harg2 arg3 harg3 arg4 harg4 arg5 harg5 arg6 harg6 arg7 harg7 x _ _ _ _ s L (scan_start i arg4 arg5 arg6 arg7 x s L) k0_t1_loop.trips le_rfl
  have e : 1024 * k0_t1_loop.trips = 99328 := by rw [trips1]
  rw [e] at h
  simp only [View.writes_append]
  exact h

theorem load_C (s : Fin 8) (l : Fin 512) :
    kernelRun0_A.sl.r (F := Ideal) arg1 harg1 x (ix2 s l) = lgOf x s (99328 + l.val) := by
  unfold kernelRun0_A.sl.r k0_pay92
  rw [cast512]
  exact read_block harg1 x _ rfl s l (by omega)

/-- What the remainder finds in the low half. -/
theorem v217_at (s : Fin 8) (l : Fin 512) : kernelRun0_A.sl.v217 (F := Ideal) c i arg1 harg1 arg2 harg2 arg3 harg3 arg4 harg4 arg5 harg5 arg6 harg6 arg7 harg7 x (ix2 s l)
    = arg4.view.read (Elt Ideal) (arg4.view.writes (Elt Ideal) arg4.view.junk ((pb_k0_t1 (F := Ideal) Variants.none c none i arg1 harg1 arg2 harg2 arg3 harg3 arg4 harg4 arg5 harg5 arg6 harg6 arg7 harg7 kernelRun0_A.sl.v1 (harg1.unread x)
        (arg4.view.writes (Elt Ideal) arg4.view.junk kernelRun0_A.sl.HS0_1) (arg5.view.writes (Elt Ideal) arg5.view.junk kernelRun0_A.sl.HS1_1)
        (arg6.view.writes (Elt Ideal) arg6.view.junk kernelRun0_A.sl.HS2_1) (arg7.view.writes (Elt Ideal) arg7.view.junk kernelRun0_A.sl.HS3_1)
        k0_t1_loop.trips).1 ++ kernelRun0_A.sl.HS0_1)) (ix2 s (lowLane l)) :=
  read_lo arg4.view _ s l
theorem v219_at (s : Fin 8) (l : Fin 512) : kernelRun0_A.sl.v219 (F := Ideal) c i arg1 harg1 arg2 harg2 arg3 harg3 arg4 harg4 arg5 harg5 arg6 harg6 arg7 harg7 x (ix2 s l)
    = arg5.view.read (Elt Ideal) (arg5.view.writes (Elt Ideal) arg5.view.junk ((pb_k0_t1 (F := Ideal) Variants.none c none i arg1 harg1 arg2 harg2 arg3 harg3 arg4 harg4 arg5 harg5 arg6 harg6 arg7 harg7 kernelRun0_A.sl.v1 (harg1.unread x)
        (arg4.view.writes (Elt Ideal) arg4.view.junk kernelRun0_A.sl.HS0_1) (arg5.view.writes (Elt Ideal) arg5.view.junk kernelRun0_A.sl.HS1_1)
        (arg6.view.writes (Elt Ideal) arg6.view.junk kernelRun0_A.sl.HS2_1) (arg7.view.writes (Elt Ideal) arg7.view.junk kernelRun0_A.sl.HS3_1)
        k0_t1_loop.trips).2.1 ++ kernelRun0_A.sl.HS1_1)) (ix2 s (lowLane l)) :=
  read_lo arg5.view _ s l
theorem v233_at (s : Fin 8) (l : Fin 512) : kernelRun0_A.sl.v233 (F := Ideal) c i arg1 harg1 arg2 harg2 arg3 harg3 arg4 harg4 arg5 harg5 arg6 harg6 arg7 harg7 x (ix2 s l)
    = arg6.view.read (Elt Ideal) (arg6.view.writes (Elt Ideal) arg6.view.junk ((pb_k0_t1 (F := Ideal) Variants.none c none i arg1 harg1 arg2 harg2 arg3 harg3 arg4 harg4 arg5 harg5 arg6 harg6 arg7 harg7 kernelRun0_A.sl.v1 (harg1.unread x)
        (arg4.view.writes (Elt Ideal) arg4.view.junk kernelRun0_A.sl.HS0_1) (arg5.view.writes (Elt Ideal) arg5.view.junk kernelRun0_A.sl.HS1_1)
        (arg6.view.writes (Elt Ideal) arg6.view.junk kernelRun0_A.sl.HS2_1) (arg7.view.writes (Elt Ideal) arg7.view.junk kernelRun0_A.sl.HS3_1)
        k0_t1_loop.trips).2.2.1 ++ kernelRun0_A.sl.HS2_1)) (ix2 s (lowLane l)) :=
  read_lo arg6.view _ s l
theorem v224_at (s : Fin 8) (l : Fin 512) : kernelRun0_A.sl.v224 (F := Ideal) c i arg1 harg1 arg2 harg2 arg3 harg3 arg4 harg4 arg5 harg5 arg6 harg6 arg7 harg7 x (ix2 s l)
    = arg7.view.read (Elt Ideal) (arg7.view.writes (Elt Ideal) arg7.view.junk ((pb_k0_t1 (F := Ideal) Variants.none c none i arg1 harg1 arg2 harg2 arg3 harg3 arg4 harg4 arg5 harg5 arg6 harg6 arg7 harg7 kernelRun0_A.sl.v1 (harg1.unread x)
        (arg4.view.writes (Elt Ideal) arg4.view.junk kernelRun0_A.sl.HS0_1) (arg5.view.writes (Elt Ideal) arg5.view.junk kernelRun0_A.sl.HS1_1)
        (arg6.view.writes (Elt Ideal) arg6.view.junk kernelRun0_A.sl.HS2_1) (arg7.view.writes (Elt Ideal) arg7.view.junk kernelRun0_A.sl.HS3_1)
        k0_t1_loop.trips).2.2.2 ++ kernelRun0_A.sl.HS3_1)) (ix2 s (lowLane l)) :=
  read_lo arg7.view _ s l

/-- The four scratch vectors as the rest of the body reads them. -/
theorem v632_at (j : S8x1024.Idx) : kernelRun0_A.sl.v632 (F := Ideal) c i arg1 harg1 arg2 harg2 arg3 harg3 arg4 harg4 arg5 harg5 arg6 harg6 arg7 harg7 x j
    = arg4.view.read (Elt Ideal) (arg4.view.writes (Elt Ideal) arg4.view.junk
        (⟨lo, k0_pay134 (kernelRun0_A.sl.r arg1 harg1 x) (kernelRun0_A.sl.r_1 i) k0_pay129 (kernelRun0_A.sl.v217 c i arg1 harg1 arg2 harg2 arg3 harg3 arg4 harg4 arg5 harg5 arg6 harg6 arg7 harg7 x)⟩ ::
          ((pb_k0_t1 (F := Ideal) Variants.none c none i arg1 harg1 arg2 harg2 arg3 harg3 arg4 harg4 arg5 harg5 arg6 harg6 arg7 harg7 kernelRun0_A.sl.v1 (harg1.unread x)
        (arg4.view.writes (Elt Ideal) arg4.view.junk kernelRun0_A.sl.HS0_1) (arg5.view.writes (Elt Ideal) arg5.view.junk kernelRun0_A.sl.HS1_1)
        (arg6.view.writes (Elt Ideal) arg6.view.junk kernelRun0_A.sl.HS2_1) (arg7.view.writes (Elt Ideal) arg7.view.junk kernelRun0_A.sl.HS3_1)
        k0_t1_loop.trips).1 ++ kernelRun0_A.sl.HS0_1))) j :=
  read_all arg4.view _ j
theorem v633_at (j : S8x1024.Idx) : kernelRun0_A.sl.v633 (F := Ideal) c i arg1 harg1 arg2 harg2 arg3 harg3 arg4 harg4 arg5 harg5 arg6 harg6 arg7 harg7 x j
    = arg5.view.read (Elt Ideal) (arg5.view.writes (Elt Ideal) arg5.view.junk
        (⟨lo, k0_pay132 kernelRun0_A.sl.v1 (kernelRun0_A.sl.r arg1 harg1 x) (kernelRun0_A.sl.r_1 i) k0_pay129
            (kernelRun0_A.sl.v217 c i arg1 harg1 arg2 harg2 arg3 harg3 arg4 harg4 arg5 harg5 arg6 harg6 arg7 harg7 x) (kernelRun0_A.sl.v219 c i arg1 harg1 arg2 harg2 arg3 harg3 arg4 harg4 arg5 harg5 arg6 harg6 arg7 harg7 x)⟩ ::
          ((pb_k0_t1 (F := Ideal) Variants.none c none i arg1 harg1 arg2 harg2 arg3 harg3 arg4 harg4 arg5 harg5 arg6 harg6 arg7 harg7 kernelRun0_A.sl.v1 (harg1.unread x)
        (arg4.view.writes (Elt Ideal) arg4.view.junk kernelRun0_A.sl.HS0_1) (arg5.view.writes (Elt Ideal) arg5.view.junk kernelRun0_A.sl.HS1_1)
        (arg6.view.writes (Elt Ideal) arg6.view.junk kernelRun0_A.sl.HS2_1) (arg7.view.writes (Elt Ideal) arg7.view.junk kernelRun0_A.sl.HS3_1)
        k0_t1_loop.trips).2.1 ++ kernelRun0_A.sl.HS1_1))) j :=
  read_all arg5.view _ j
theorem v662_at (j : S8x1024.Idx) : kernelRun0_A.sl.v662 (F := Ideal) c i arg1 harg1 arg2 harg2 arg3 harg3 arg4 harg4 arg5 harg5 arg6 harg6 arg7 harg7 x j
    = arg6.view.read (Elt Ideal) (arg6.view.writes (Elt Ideal) arg6.view.junk
        (⟨lo, k0_pay135 (kernelRun0_A.sl.r arg1 harg1 x) (kernelRun0_A.sl.v233 c i arg1 harg1 arg2 harg2 arg3 harg3 arg4 harg4 arg5 harg5 arg6 harg6 arg7 harg7 x)⟩ ::
          ((pb_k0_t1 (F := Ideal) Variants.none c none i arg1 harg1 arg2 harg2 arg3 harg3 arg4 harg4 arg5 harg5 arg6 harg6 arg7 harg7 kernelRun0_A.sl.v1 (harg1.unread x)
        (arg4.view.writes (Elt Ideal) arg4.view.junk kernelRun0_A.sl.HS0_1) (arg5.view.writes (Elt Ideal) arg5.view.junk kernelRun0_A.sl.HS1_1)
        (arg6.view.writes (Elt Ideal) arg6.view.junk kernelRun0_A.sl.HS2_1) (arg7.view.writes (Elt Ideal) arg7.view.junk kernelRun0_A.sl.HS3_1)
        k0_t1_loop.trips).2.2.1 ++ kernelRun0_A.sl.HS2_1))) j :=
  read_all arg6.view _ j
theorem v693_at (j : S8x1024.Idx) : kernelRun0_A.sl.v693 (F := Ideal) c i arg1 harg1 arg2 harg2 arg3 harg3 arg4 harg4 arg5 harg5 arg6 harg6 arg7 harg7 x j
    = arg7.view.read (Elt Ideal) (arg7.view.writes (Elt Ideal) arg7.view.junk
        (⟨lo, k0_pay133 (kernelRun0_A.sl.r arg1 harg1 x) (kernelRun0_A.sl.r_1 i) k0_pay129
            (kernelRun0_A.sl.v217 c i arg1 harg1 arg2 harg2 arg3 harg3 arg4 harg4 arg5 harg5 arg6 harg6 arg7 harg7 x) (kernelRun0_A.sl.v224 c i arg1 harg1 arg2 harg2 arg3 harg3 arg4 harg4 arg5 harg5 arg6 harg6 arg7 harg7 x)⟩ ::
          ((pb_k0_t1 (F := Ideal) Variants.none c none i arg1 harg1 arg2 harg2 arg3 harg3 arg4 harg4 arg5 harg5 arg6 harg6 arg7 harg7 kernelRun0_A.sl.v1 (harg1.unread x)
        (arg4.view.writes (Elt Ideal) arg4.view.junk kernelRun0_A.sl.HS0_1) (arg5.view.writes (Elt Ideal) arg5.view.junk kernelRun0_A.sl.HS1_1)
        (arg6.view.writes (Elt Ideal) arg6.view.junk kernelRun0_A.sl.HS2_1) (arg7.view.writes (Elt Ideal) arg7.view.junk kernelRun0_A.sl.HS3_1)
        k0_t1_loop.trips).2.2.2 ++ kernelRun0_A.sl.HS3_1))) j :=
  read_all arg7.view _ j

/-- Every lane's state after the scan and its remainder. -/
theorem lanes_end (s : Fin 8) : Lanes (tOf i x s) (lgOf x s)
    (fun L => kernelRun0_A.sl.v632 (F := Ideal) c i arg1 harg1 arg2 harg2 arg3 harg3 arg4 harg4 arg5 harg5 arg6 harg6 arg7 harg7 x (ix2 s L))
    (fun L => kernelRun0_A.sl.v633 (F := Ideal) c i arg1 harg1 arg2 harg2 arg3 harg3 arg4 harg4 arg5 harg5 arg6 harg6 arg7 harg7 x (ix2 s L))
    (fun L => kernelRun0_A.sl.v693 (F := Ideal) c i arg1 harg1 arg2 harg2 arg3 harg3 arg4 harg4 arg5 harg5 arg6 harg6 arg7 harg7 x (ix2 s L))
    (fun L => kernelRun0_A.sl.v662 (F := Ideal) c i arg1 harg1 arg2 harg2 arg3 harg3 arg4 harg4 arg5 harg5 arg6 harg6 arg7 harg7 x (ix2 s L)) := by
  intro L
  have h := scan_trips c i arg1 harg1 arg2 harg2 arg3 harg3 arg4 harg4 arg5 harg5 arg6 harg6 arg7 harg7 x s L
  unfold Scan at h
  simp only [v632_at, v633_at, v662_at, v693_at]
  rcases lane_cases L with ⟨l, rfl⟩ | ⟨l, rfl⟩
  · rw [write_lo, write_lo, write_lo, write_lo, pay134_at, pay132_at, pay133_at, pay135_at, score_C, load_C,
      v217_at, v219_at, v233_at, v224_at, lane_eq]
    exact h.step (99328 + l.val) (fun v hv => by unfold colsOf at hv; omega)
      (fun v => by unfold colsOf; simp only; omega) _ (by
        rw [show (99328#32 : BitVec 32) = BitVec.ofNat 32 99328 from rfl, ← BitVec.ofNat_add, Nat.add_comm])
  · rw [write_lo', write_lo', write_lo', write_lo']
    exact h.congr fun v => by unfold colsOf; simp only; omega

end Cert.Proof

end
-- ==== Proof.Rows.lean ====
/-
  The rows of the input array, their scores, and the two results as functions of the picks.
-/
module

public import proofs.«01_k».proof.Proof.Row
public import Idealize.ShloMosaic.Lib.ValueIdx

@[expose] public section

noncomputable section

namespace Cert.Proof

open Idealize.ShloMosaic Idealize.ShloMosaic.ValueIdx

/-- Logit `v` of row `(b, s)`. -/
def rowLg (X : (⟨4, ![64, 8, 1, 100000]⟩ : Shape).Idx → EReal) (b : Fin 64) (s : Fin 8) (v : ℕ) : EReal :=
  if h : v < 100000 then X (ix4 b s 0 ⟨v, h⟩) else ⊥

/-- Its score. -/
def rowT (X : (⟨4, ![64, 8, 1, 100000]⟩ : Shape).Idx → EReal) (b : Fin 64) (s : Fin 8) (v : ℕ) : EReal :=
  score (rowLg X b s v) (ctr (8 * b.val + s.val) v)

/-- The log-probability of row `lg` at column `n`. -/
def logProb (lg : ℕ → EReal) (n : ℕ) : EReal :=
  (lg n - (Finset.range 100000).sup lg)
    - Ideal.log (∑ v ∈ Finset.range 100000, Ideal.exp (lg v - (Finset.range 100000).sup lg))

/-- `p` picks a best column in every row, and its score is no `-∞`. -/
def Picks (X : (⟨4, ![64, 8, 1, 100000]⟩ : Shape).Idx → EReal) (p : Fin 64 → Fin 8 → ℕ) : Prop :=
  ∀ b s, IsPick (rowT X b s) 100000 (p b s) ∧ ⊥ < rowT X b s (p b s)

/-- The samples. -/
def sampleOf (p : Fin 64 → Fin 8 → ℕ) : (⟨2, ![64, 8]⟩ : Shape).Idx → BitVec 32 :=
  fun j => BitVec.ofNat 32 (p (j 0) (j 1))

/-- The log-probabilities, summed over the eight rows of each batch entry. -/
def lpSum (X : (⟨4, ![64, 8, 1, 100000]⟩ : Shape).Idx → EReal) (p : Fin 64 → Fin 8 → ℕ) : (⟨1, ![64]⟩ : Shape).Idx → EReal :=
  fun j => ∑ s : Fin 8, logProb (rowLg X (j 0) s) (p (j 0) s)

end Cert.Proof

end
-- ==== Proof.KLast.lean ====
/-
  The rest of the body: the pick and its log-probability from the scratch vectors and the last 160 columns.
-/
module

public import proofs.«01_k».proof.Proof.KScan
public import proofs.«01_k».proof.Proof.Rows

@[expose] public section

noncomputable section

namespace Cert.Proof

open Idealize.ShloMosaic hiding ix1 ix2 ix3 eq_ix2
open Idealize.SL Idealize.ShloMosaic.ValueIdx Cert.KernelIdeal Cert.KernelIdeal.Gen

theorem cast128 {e : Type} (x : S8x128.Idx → e) : shapeCast S8x128 x shapeCasts_S8x128_S8x128 = x := shapeCast_self _ _
theorem cast32 {e : Type} (x : S8x32.Idx → e) : shapeCast S8x32 x shapeCasts_S8x32_S8x32 = x := shapeCast_self _ _

/-! What each of the closing operations computes, for any vectors. -/
section Pieces

variable (va vl : FVec Ideal S8x128 .f32) (vb vt : FVec Ideal S8x32 .f32) (a b : IVec S8x32 32) (w : BitVec 32)
  (tv lm lw : Vec Ideal S8x1024 .f32) (col : Vec Ideal S8x1024 .i32) (ca : IVec S8x128 32) (cb : IVec S8x32 32)
  (M m z : FVec Ideal S8x1 .f32) (p p0 : IVec S8x1 32) (hit : IVec S8x128 1) (none : IVec S8x128 32) (on : IVec S8x1024 1)
  (acc : FVec Ideal S8x512 .f32) (v : Vec Ideal S8x512 .f32) (s : Fin 8)

theorem pay223_at : k0_pay223 va vb a b w tv (ix2 s 0)
    = max (max (Finset.univ.sup fun L : Fin 1024 => (tv (ix2 s L) : EReal)) (Finset.univ.sup fun k : Fin 128 => (va (ix2 s k) : EReal)))
        (Finset.univ.sup fun k : Fin 32 => (k0_pay221 vb a b w (ix2 s k) : EReal)) := by
  unfold k0_pay223
  exact congrArg₂ max (congrArg₂ max (row_max tv _ s 0) (row_max va _ s 0)) (row_max (k0_pay221 vb a b w) _ s 0)

theorem pay224_at : k0_pay224 va vb a b w tv col (ix2 s 0)
    = Finset.univ.fold IntOp.minsi 2147483647#32 fun L : Fin 1024 =>
        Scalar.select (Ideal.cmp .oeq (tv (ix2 s L)) (k0_pay223 va vb a b w tv (ix2 s 0))) (col (ix2 s L)) 100000#32 := by
  unfold k0_pay224
  refine (row_min _ _ s 0).trans ?_
  refine congrArg (Finset.univ.fold IntOp.minsi 2147483647#32) (funext fun L => ?_)
  exact congrArg (fun q => Scalar.select (Ideal.cmp .oeq (tv (ix2 s L)) q) (col (ix2 s L)) 100000#32) (spread1024 _ s L)

theorem pay225_at (k : Fin 128) : k0_pay225 va vb a b w tv (ix2 s k)
    = Ideal.cmp .oeq (va (ix2 s k)) (k0_pay223 va vb a b w tv (ix2 s 0)) := by
  unfold k0_pay225
  exact congrArg (fun q => Ideal.cmp .oeq (va (ix2 s k)) q) (spread128 _ s k)

theorem pay227_at : k0_pay227 ca vt cb M p hit none (ix2 s 0)
    = IntOp.minsi (IntOp.minsi (p (ix2 s 0))
        (Finset.univ.fold IntOp.minsi 2147483647#32 fun k : Fin 128 => Scalar.select (hit (ix2 s k)) (ca (ix2 s k)) (none (ix2 s k))))
        (Finset.univ.fold IntOp.minsi 2147483647#32 fun k : Fin 32 =>
          Scalar.select (Ideal.cmp .oeq (vt (ix2 s k)) (M (ix2 s 0))) (cb (ix2 s k)) 100000#32) := by
  unfold k0_pay227
  refine congrArg₂ IntOp.minsi (congrArg₂ IntOp.minsi rfl (row_min _ _ s 0)) ((row_min _ _ s 0).trans ?_)
  refine congrArg (Finset.univ.fold IntOp.minsi 2147483647#32) (funext fun k => ?_)
  exact congrArg (fun q => Scalar.select (Ideal.cmp .oeq (vt (ix2 s k)) q) (cb (ix2 s k)) 100000#32) (spread32 _ s k)

theorem pay228_at : k0_pay228 va vb lm (ix2 s 0)
    = max (max (Finset.univ.sup fun L : Fin 1024 => (lm (ix2 s L) : EReal)) (Finset.univ.sup fun k : Fin 128 => (va (ix2 s k) : EReal)))
        (Finset.univ.sup fun k : Fin 32 => (vb (ix2 s k) : EReal)) := by
  unfold k0_pay228
  exact congrArg₂ max (congrArg₂ max (row_max lm _ s 0) (row_max va _ s 0)) (row_max vb _ s 0)

theorem pay230_at (l : Fin 512) : k0_pay230 va vb lm acc v (ix2 s l)
    = (acc (ix2 s l) + Ideal.exp (v (ix2 s l) - k0_pay228 va vb lm (ix2 s 0)) : EReal) := by
  unfold k0_pay230
  rw [cast512]
  exact congrArg (fun q : EReal => (acc (ix2 s l) + Ideal.exp (v (ix2 s l) - q) : EReal)) (spread512 _ s l)

theorem pay231_at : k0_pay231 va vb lm acc (ix2 s 0)
    = ((∑ l : Fin 512, (acc (ix2 s l) : EReal)
        + ∑ k : Fin 128, Ideal.exp (va (ix2 s k) - k0_pay228 va vb lm (ix2 s 0)))
        + ∑ k : Fin 32, Ideal.exp (vb (ix2 s k) - k0_pay228 va vb lm (ix2 s 0)) : EReal) := by
  unfold k0_pay231
  refine congrArg₂ (· + · : EReal → EReal → EReal)
    (congrArg₂ (· + · : EReal → EReal → EReal) (row_sum acc _ s 0) ((row_sum _ _ s 0).trans ?_)) ((row_sum _ _ s 0).trans ?_)
  · exact Finset.sum_congr rfl fun k _ => congrArg (fun q : EReal => Ideal.exp (va (ix2 s k) - q)) (spread128 _ s k)
  · exact Finset.sum_congr rfl fun k _ => congrArg (fun q : EReal => Ideal.exp (vb (ix2 s k) - q)) (spread32 _ s k)

theorem pay232_at (L : Fin 1024) : k0_pay232 ca vt cb tv col M p hit none (ix2 s L)
    = IntOp.andi (Ideal.cmp .oeq (tv (ix2 s L)) (M (ix2 s 0)))
        (IntOp.cmpi .eq (col (ix2 s L)) (k0_pay227 ca vt cb M p hit none (ix2 s 0))) := by
  unfold k0_pay232
  exact congrArg₂ (fun q r => IntOp.andi (Ideal.cmp .oeq (tv (ix2 s L)) q) (IntOp.cmpi .eq (col (ix2 s L)) r))
    (spread1024 _ s L) (spread1024 _ s L)

/-- The log-probability of one row from its masked sums. -/
def lpOf : EReal :=
  (((∑ L : Fin 1024, (Scalar.select (on (ix2 s L)) (lw (ix2 s L)) (0 : EReal) : EReal)
    + ∑ k : Fin 128, (Scalar.select (IntOp.cmpi .eq (ca (ix2 s k)) (p (ix2 s 0))) (va (ix2 s k)) (0 : EReal) : EReal))
    + ∑ k : Fin 32, (Scalar.select (IntOp.cmpi .eq (cb (ix2 s k)) (p (ix2 s 0))) (vb (ix2 s k)) (0 : EReal) : EReal))
    - m (ix2 s 0)) - Ideal.log (z (ix2 s 0))

theorem total_at (x : FVec Ideal S8x1 .f32) (j : S8x1.Idx) :
    (broadcast S8x1 (extractAt ![0, 0, 0] (shapeCast S1x1x1 (multiReduction .add [1, 2] S1
      (shapeCast S1x8x1 x shapeCasts_S8x1_S1x8x1) 0x00000000#32 reduces_S1x8x1_S1 (.inl rfl) rfl) shapeCasts_S1_S1x1x1)
      inpos_S1x1x1_p0_0_0) : FVec Ideal S8x1 .f32) j = ∑ s : Fin 8, (x (ix2 s 0) : EReal) := by
  refine (Ideal.reduceAdd_r3_a12 reduces_S1x8x1_S1 _ _).trans ?_
  refine Finset.sum_congr rfl fun s _ => ?_
  rw [Fin.sum_univ_one]
  refine congrArg x ?_
  revert s; decide +kernel

theorem pay234_at (j : S8x1.Idx) : k0_pay234 va ca vb cb p m z on lw j = ∑ s : Fin 8, lpOf va vb lw ca cb m z p on s := by
  unfold k0_pay234
  refine (total_at _ j).trans (Finset.sum_congr rfl fun s _ => ?_)
  unfold lpOf
  refine congrArg (fun q : EReal => q - m (ix2 s 0) - Ideal.log (z (ix2 s 0))) ?_
  refine congrArg₂ (· + · : EReal → EReal → EReal)
    (congrArg₂ (· + · : EReal → EReal → EReal) ((row_sum _ _ s 0).trans ?_) ((row_sum _ _ s 0).trans ?_)) ((row_sum _ _ s 0).trans ?_)
  · exact Finset.sum_congr rfl fun L _ => congrArg (fun q : EReal => Scalar.select (on (ix2 s L)) (lw (ix2 s L)) q) zeroF
  · exact Finset.sum_congr rfl fun k _ => congrArg₂ (fun r (q : EReal) => Scalar.select (IntOp.cmpi .eq (ca (ix2 s k)) r) (va (ix2 s k)) q)
      (spread128 _ s k) zeroF
  · exact Finset.sum_congr rfl fun k _ => congrArg₂ (fun r (q : EReal) => Scalar.select (IntOp.cmpi .eq (cb (ix2 s k)) r) (vb (ix2 s k)) q)
      (spread32 _ s k) zeroF

end Pieces

theorem colA_at (s : Fin 8) (k : Fin 128) : k0_pay175 kernelRun0_A.sl.v238 (ix2 s k) = BitVec.ofNat 32 (99840 + k.val) := by
  revert s k; decide +kernel
theorem colB_at (s : Fin 8) (k : Fin 32) : k0_pay222 kernelRun0_A.sl.v435 (ix2 s k) = BitVec.ofNat 32 (99968 + k.val) := by
  revert s k; decide +kernel

section Body

variable (c : Dev nD) (i : grid0.Coords)
    (arg1 : Memref sig .tc .vmem S8x100000 .f32) (harg1 : arg1.IsWhole) (arg2 : Memref sig .tc .vmem S1x8x1 .i32)
    (harg2 : arg2.IsWhole) (arg3 : Memref sig .tc .vmem S1x8x1 .f32) (harg3 : arg3.IsWhole)
    (arg4 : Memref sig .tc .vmem S8x1024 .f32) (harg4 : arg4.IsWhole) (arg5 : Memref sig .tc .vmem S8x1024 .i32)
    (harg5 : arg5.IsWhole) (arg6 : Memref sig .tc .vmem S8x1024 .f32) (harg6 : arg6.IsWhole)
    (arg7 : Memref sig .tc .vmem S8x1024 .f32) (harg7 : arg7.IsWhole) (x : Vec Ideal S8x100000 .f32)

theorem load_D (s : Fin 8) (k : Fin 128) : kernelRun0_A.sl.r_3 (F := Ideal) arg1 harg1 x (ix2 s k) = lgOf x s (99840 + k.val) := by
  unfold kernelRun0_A.sl.r_3 k0_pay137
  rw [cast128]
  exact read_block harg1 x _ rfl s k (by omega)
theorem load_E (s : Fin 8) (k : Fin 32) : kernelRun0_A.sl.r_6 (F := Ideal) arg1 harg1 x (ix2 s k) = lgOf x s (99968 + k.val) := by
  unfold kernelRun0_A.sl.r_6 k0_pay176
  rw [cast32]
  exact read_block harg1 x _ rfl s k (by omega)

theorem tail_D (s : Fin 8) (k : Fin 128) : kernelRun0_A.sl.r_5 (F := Ideal) i arg1 harg1 x (ix2 s k) = tOf i x s (99840 + k.val) := by
  unfold kernelRun0_A.sl.r_5 tOf
  rw [score_D, load_D]
theorem tail_E (s : Fin 8) (k : Fin 32) : k0_pay221 (kernelRun0_A.sl.r_6 (F := Ideal) arg1 harg1 x) (kernelRun0_A.sl.v602 i)
    (kernelRun0_A.sl.v608 i) 466689008#32 (ix2 s k) = tOf i x s (99968 + k.val) := by
  unfold tOf
  rw [score_E, load_E]

variable (s : Fin 8) (n : ℕ) (hn : IsPick (tOf i x s) 100000 n) (hb : ⊥ < tOf i x s n)

include hn in
/-- The best score of the row. -/
theorem r10_at : kernelRun0_A.sl.r_10 (F := Ideal) c i arg1 harg1 arg2 harg2 arg3 harg3 arg4 harg4 arg5 harg5 arg6 harg6 arg7 harg7 x (ix2 s 0) = tOf i x s n := by
  unfold kernelRun0_A.sl.r_10
  rw [pay223_at]
  simp only [tail_D, tail_E]
  exact best_eq (lanes_end c i arg1 harg1 arg2 harg2 arg3 harg3 arg4 harg4 arg5 harg5 arg6 harg6 arg7 harg7 x s) hn

include hn hb in
/-- The picked column. -/
theorem r13_at : kernelRun0_A.sl.r_13 (F := Ideal) c i arg1 harg1 arg2 harg2 arg3 harg3 arg4 harg4 arg5 harg5 arg6 harg6 arg7 harg7 x (ix2 s 0) = BitVec.ofNat 32 n := by
  have hM := r10_at c i arg1 harg1 arg2 harg2 arg3 harg3 arg4 harg4 arg5 harg5 arg6 harg6 arg7 harg7 x s n hn
  unfold kernelRun0_A.sl.r_10 at hM
  unfold kernelRun0_A.sl.r_13
  rw [pay227_at]
  unfold kernelRun0_A.sl.r_10 kernelRun0_A.sl.r_11 kernelRun0_A.sl.r_12 kernelRun0_A.sl.r_9
  rw [pay224_at]
  simp only [pay225_at, hM, tail_D, tail_E, colA_at, colB_at]
  exact samp_eq (lanes_end c i arg1 harg1 arg2 harg2 arg3 harg3 arg4 harg4 arg5 harg5 arg6 harg6 arg7 harg7 x s) hn hb

/-- The largest logit of the row. -/
theorem r14_at : kernelRun0_A.sl.r_14 (F := Ideal) c i arg1 harg1 arg2 harg2 arg3 harg3 arg4 harg4 arg5 harg5 arg6 harg6 arg7 harg7 x (ix2 s 0) = (Finset.range 100000).sup (lgOf x s) := by
  unfold kernelRun0_A.sl.r_14
  rw [pay228_at]
  simp only [load_D, load_E]
  exact top_eq (lanes_end c i arg1 harg1 arg2 harg2 arg3 harg3 arg4 harg4 arg5 harg5 arg6 harg6 arg7 harg7 x s)

section Second

variable (v246 : FVec Ideal S8x128 .f32) (v434 : IVec S8x128 32) (v443 : FVec Ideal S8x32 .f32) (v629 : FVec Ideal S8x32 .f32)
  (v631 : IVec S8x32 32) (v632 : Vec Ideal S8x1024 .f32) (v633 : Vec Ideal S8x1024 .i32) (v641 : FVec Ideal S8x1 .f32)
  (v647 : IVec S8x1 32) (v649 : IVec S8x128 1) (v650 : IVec S8x128 32) (v662 : Vec Ideal S8x1024 .f32)

theorem tripR_eq (k : Fin k0_t2_loop.trips) (X : BufTy.Contents (Elt Ideal) arg1.view.ty) (acc : FVec Ideal S8x512 .f32) :
    tripR_k0_t2 Variants.none c none i arg1 harg1 arg2 harg2 arg3 harg3 arg4 harg4 arg5 harg5 arg6 harg6 arg7 harg7 v246 v434 v443 v629 v631 v632 v633 v641 v647 v649 v650 v662 X k acc
      = k0_pay230 v246 v443 v662 acc
        (View.readAt (Elt Ideal) arg1.view (Rect.unit (s := S8x100000) (k0_off3 k) S8x512.size (k0_off3_inb k)).toLoadRect X) := by
  unfold tripR_k0_t2 trip_k0_t2
  rfl

/-- The second pass: each lane sums the exponentials of its columns. -/
theorem second_at (l : Fin 512) (q : ℕ) (hq : q ≤ k0_t2_loop.trips) :
    (st_k0_t2 Variants.none c none i arg1 harg1 arg2 harg2 arg3 harg3 arg4 harg4 arg5 harg5 arg6 harg6 arg7 harg7 v246 v434 v443 v629 v631 v632 v633 v641 v647 v649 v650 v662 (harg1.unread x) k0_pay229 q (ix2 s l) : EReal)
      = ∑ k ∈ Finset.range q, Ideal.exp (lgOf x s (512 * k + l.val) - k0_pay228 v246 v443 v662 (ix2 s 0)) := by
  induction q with
  | zero => exact zeroF
  | succ q ih =>
    have h := st_k0_t2_succ Variants.none c none i arg1 harg1 arg2 harg2 arg3 harg3 arg4 harg4 arg5 harg5 arg6 harg6 arg7 harg7 v246 v434 v443 v629 v631 v632 v633 v641 v647 v649 v650 v662 (harg1.unread x) k0_pay229 ⟨q, hq⟩
    simp only at h
    rw [h, tripR_eq, pay230_at, ih (Nat.le_of_succ_le hq), Finset.sum_range_succ]
    refine congrArg (fun y : EReal => _ + Ideal.exp (y - k0_pay228 v246 v443 v662 (ix2 s 0))) ?_
    have hq' : q < 195 := lt_of_lt_of_eq hq trips2
    exact read_block harg1 x _ (off3_eq ⟨q, hq⟩) s l (by show 512 * q + l.val < 100000; omega)

end Second

/-- The sum of the exponentials of the row. -/
theorem r15_at : kernelRun0_A.sl.r_15 (F := Ideal) c i arg1 harg1 arg2 harg2 arg3 harg3 arg4 harg4 arg5 harg5 arg6 harg6 arg7 harg7 x (ix2 s 0)
    = ∑ v ∈ Finset.range 100000, Ideal.exp (lgOf x s v - (Finset.range 100000).sup (lgOf x s)) := by
  have hm := r14_at c i arg1 harg1 arg2 harg2 arg3 harg3 arg4 harg4 arg5 harg5 arg6 harg6 arg7 harg7 x s
  unfold kernelRun0_A.sl.r_14 at hm
  unfold kernelRun0_A.sl.r_15
  rw [pay231_at]
  have h2 : ∀ l : Fin 512, _ = _ := fun l => second_at c i arg1 harg1 arg2 harg2 arg3 harg3 arg4 harg4 arg5 harg5 arg6 harg6 arg7 harg7 x s (kernelRun0_A.sl.r_3 arg1 harg1 x) (k0_pay175 kernelRun0_A.sl.v238)
    (kernelRun0_A.sl.r_6 arg1 harg1 x) (kernelRun0_A.sl.r_9 i arg1 harg1 x) (k0_pay222 kernelRun0_A.sl.v435)
    (kernelRun0_A.sl.v632 c i arg1 harg1 arg2 harg2 arg3 harg3 arg4 harg4 arg5 harg5 arg6 harg6 arg7 harg7 x) (kernelRun0_A.sl.v633 c i arg1 harg1 arg2 harg2 arg3 harg3 arg4 harg4 arg5 harg5 arg6 harg6 arg7 harg7 x) (kernelRun0_A.sl.r_10 c i arg1 harg1 arg2 harg2 arg3 harg3 arg4 harg4 arg5 harg5 arg6 harg6 arg7 harg7 x)
    (kernelRun0_A.sl.r_11 c i arg1 harg1 arg2 harg2 arg3 harg3 arg4 harg4 arg5 harg5 arg6 harg6 arg7 harg7 x) (kernelRun0_A.sl.r_12 c i arg1 harg1 arg2 harg2 arg3 harg3 arg4 harg4 arg5 harg5 arg6 harg6 arg7 harg7 x) k0_pay226
    (kernelRun0_A.sl.v662 c i arg1 harg1 arg2 harg2 arg3 harg3 arg4 harg4 arg5 harg5 arg6 harg6 arg7 harg7 x) l k0_t2_loop.trips le_rfl
  rw [Finset.sum_congr rfl fun l _ => h2 l]
  simp only [hm, load_D, load_E, trips2]
  exact sum_eq fun v => Ideal.exp (lgOf x s v - (Finset.range 100000).sup (lgOf x s))

include hn hb in
theorem lp_at : lpOf (kernelRun0_A.sl.r_3 (F := Ideal) arg1 harg1 x) (kernelRun0_A.sl.r_6 arg1 harg1 x)
    (kernelRun0_A.sl.v693 c i arg1 harg1 arg2 harg2 arg3 harg3 arg4 harg4 arg5 harg5 arg6 harg6 arg7 harg7 x) (k0_pay175 kernelRun0_A.sl.v238) (k0_pay222 kernelRun0_A.sl.v435)
    (kernelRun0_A.sl.r_14 c i arg1 harg1 arg2 harg2 arg3 harg3 arg4 harg4 arg5 harg5 arg6 harg6 arg7 harg7 x) (kernelRun0_A.sl.r_15 c i arg1 harg1 arg2 harg2 arg3 harg3 arg4 harg4 arg5 harg5 arg6 harg6 arg7 harg7 x) (kernelRun0_A.sl.r_13 c i arg1 harg1 arg2 harg2 arg3 harg3 arg4 harg4 arg5 harg5 arg6 harg6 arg7 harg7 x)
    (kernelRun0_A.sl.r_16 c i arg1 harg1 arg2 harg2 arg3 harg3 arg4 harg4 arg5 harg5 arg6 harg6 arg7 harg7 x) s = logProb (lgOf x s) n := by
  have hp := r13_at c i arg1 harg1 arg2 harg2 arg3 harg3 arg4 harg4 arg5 harg5 arg6 harg6 arg7 harg7 x s n hn hb
  have hM := r10_at c i arg1 harg1 arg2 harg2 arg3 harg3 arg4 harg4 arg5 harg5 arg6 harg6 arg7 harg7 x s n hn
  have hsel : ∀ L : Fin 1024, kernelRun0_A.sl.r_16 (F := Ideal) c i arg1 harg1 arg2 harg2 arg3 harg3 arg4 harg4 arg5 harg5 arg6 harg6 arg7 harg7 x (ix2 s L)
      = IntOp.andi (Ideal.cmp .oeq (kernelRun0_A.sl.v632 c i arg1 harg1 arg2 harg2 arg3 harg3 arg4 harg4 arg5 harg5 arg6 harg6 arg7 harg7 x (ix2 s L)) (tOf i x s n))
        (IntOp.cmpi .eq (kernelRun0_A.sl.v633 c i arg1 harg1 arg2 harg2 arg3 harg3 arg4 harg4 arg5 harg5 arg6 harg6 arg7 harg7 x (ix2 s L)) (BitVec.ofNat 32 n)) := fun L => by
    unfold kernelRun0_A.sl.r_13 at hp
    unfold kernelRun0_A.sl.r_16
    rw [pay232_at, hM, hp]
  unfold lpOf logProb
  rw [r14_at, r15_at, hp]
  simp only [hsel, load_D, load_E, colA_at, colB_at]
  rw [chosen_eq (lanes_end c i arg1 harg1 arg2 harg2 arg3 harg3 arg4 harg4 arg5 harg5 arg6 harg6 arg7 harg7 x s) hn hb]

end Body

end Cert.Proof

end
-- ==== Proof.KBlock.lean ====
/-
  What one grid point writes: the picks of its eight rows and the sum of their log-probabilities.
-/
module

public import proofs.«01_k».proof.Proof.KLast
public import proofs.«01_k».proof.Proof.Gen.KernelIdeal.Frame
public import Idealize.ShloMosaic.Lib.Pipeline.Value
public import Idealize.ShloMosaic.Lib.ValueLayout

@[expose] public section

noncomputable section

namespace Cert.Proof

open Idealize.ShloMosaic hiding ix1 ix2 ix3 ix4 eq_ix1 eq_ix2
open Idealize.SL Idealize.ShloMosaic.ValueIdx Cert.KernelIdeal Cert.KernelIdeal.Gen Idealize.ShloMosaic.TcCoe

section Point

variable (c : Dev nD) (i : grid0.Coords)
    (arg1 : Memref sig .tc .vmem S8x100000 .f32) (harg1 : arg1.IsWhole) (arg2 : Memref sig .tc .vmem S1x8x1 .i32)
    (harg2 : arg2.IsWhole) (arg3 : Memref sig .tc .vmem S1x8x1 .f32) (harg3 : arg3.IsWhole)
    (arg4 : Memref sig .tc .vmem S8x1024 .f32) (harg4 : arg4.IsWhole) (arg5 : Memref sig .tc .vmem S8x1024 .i32)
    (harg5 : arg5.IsWhole) (arg6 : Memref sig .tc .vmem S8x1024 .f32) (harg6 : arg6.IsWhole)
    (arg7 : Memref sig .tc .vmem S8x1024 .f32) (harg7 : arg7.IsWhole) (x : Vec Ideal S8x100000 .f32)

/-- The one store of the picks covers its block. -/
theorem out1_eq (s : Fin 8) : out0_A_1 (F := Ideal) c i arg1 harg1 arg2 harg2 arg3 harg3 arg4 harg4 arg5 harg5 arg6 harg6 arg7 harg7 x (ix3 0 s 0) = kernelRun0_A.sl.r_13 c i arg1 harg1 arg2 harg2 arg3 harg3 arg4 harg4 arg5 harg5 arg6 harg6 arg7 harg7 x (ix2 s 0) := by
  have h : (kernelRun0_A (F := Ideal) c i arg1 harg1 arg2 harg2 arg3 harg3 arg4 harg4 arg5 harg5 arg6 harg6 arg7 harg7 x).1
      = [⟨Rect.unit ![0, 0, 0] ![1, 8, 1] inb_S1x8x1_S1x8x1_0_0_0, k0_pay233 (kernelRun0_A.sl.r_13 c i arg1 harg1 arg2 harg2 arg3 harg3 arg4 harg4 arg5 harg5 arg6 harg6 arg7 harg7 x)⟩] := by
    unfold kernelRun0_A; rfl
  unfold out0_A_1
  rw [h]
  refine (View.read_writes_cons_unit_of_mem VO0_1 _ _ _ _ _ (ix3 0 s 0) rfl (by intro a; fin_cases a <;> simp [ix3])).trans ?_
  unfold k0_pay233
  exact shapeCast_ab_1ab_apply ..

/-- The one store of the sum covers its block. -/
theorem out2_eq (s : Fin 8) : out0_A_2 (F := Ideal) c i arg1 harg1 arg2 harg2 arg3 harg3 arg4 harg4 arg5 harg5 arg6 harg6 arg7 harg7 x (ix3 0 s 0) = kernelRun0_A.sl.r_17 c i arg1 harg1 arg2 harg2 arg3 harg3 arg4 harg4 arg5 harg5 arg6 harg6 arg7 harg7 x (ix2 s 0) := by
  have h : (kernelRun0_A (F := Ideal) c i arg1 harg1 arg2 harg2 arg3 harg3 arg4 harg4 arg5 harg5 arg6 harg6 arg7 harg7 x).2.1
      = [⟨Rect.unit ![0, 0, 0] ![1, 8, 1] inb_S1x8x1_S1x8x1_0_0_0, k0_pay1 (kernelRun0_A.sl.r_17 c i arg1 harg1 arg2 harg2 arg3 harg3 arg4 harg4 arg5 harg5 arg6 harg6 arg7 harg7 x)⟩] := by
    unfold kernelRun0_A; rfl
  unfold out0_A_2
  rw [h]
  refine (View.read_writes_cons_unit_of_mem VO0_2 _ _ _ _ _ (ix3 0 s 0) rfl (by intro a; fin_cases a <;> simp [ix3])).trans ?_
  unfold k0_pay1
  exact shapeCast_ab_1ab_apply ..

theorem out1_at (s : Fin 8) (n : ℕ) (hn : IsPick (tOf i x s) 100000 n) (hb : ⊥ < tOf i x s n) :
    out0_A_1 (F := Ideal) c i arg1 harg1 arg2 harg2 arg3 harg3 arg4 harg4 arg5 harg5 arg6 harg6 arg7 harg7 x (ix3 0 s 0) = BitVec.ofNat 32 n := by
  rw [out1_eq, r13_at c i arg1 harg1 arg2 harg2 arg3 harg3 arg4 harg4 arg5 harg5 arg6 harg6 arg7 harg7 x s n hn hb]

theorem out2_at (s : Fin 8) (p : Fin 8 → ℕ) (hp : ∀ s, IsPick (tOf i x s) 100000 (p s) ∧ ⊥ < tOf i x s (p s)) :
    out0_A_2 (F := Ideal) c i arg1 harg1 arg2 harg2 arg3 harg3 arg4 harg4 arg5 harg5 arg6 harg6 arg7 harg7 x (ix3 0 s 0) = (∑ s : Fin 8, logProb (lgOf x s) (p s) : EReal) := by
  rw [out2_eq]
  unfold kernelRun0_A.sl.r_17
  rw [pay234_at]
  exact Finset.sum_congr rfl fun s _ => lp_at c i arg1 harg1 arg2 harg2 arg3 harg3 arg4 harg4 arg5 harg5 arg6 harg6 arg7 harg7 x s (p s) (hp s).1 (hp s).2

end Point

variable (m : (ℓ : Loc nD τ sig) → Buf (Elt Ideal) ℓ) (c : Dev nD)

/-- The input array. -/
abbrev inp : (⟨4, ![64, 8, 1, 100000]⟩ : Shape).Idx → EReal := m ((c : Thread nD τ).loc main_arg0)

theorem coords_eq (t : Fin cfg0.N) : (grid0.coords t 0).val = t.val := by revert t; decide +kernel

theorem idx0 : ∀ t : Fin grid0.N, win0_0.index t 0 = t.val ∧ win0_0.index t 1 = 0 := by decide +kernel

theorem N64 : cfg0.N = 64 := N_0

/-- The block of point `t` is rows `8 t` to `8 t + 7`. -/
theorem block_at (t : Fin cfg0.N) (s : Fin 8) (v : Fin 100000) :
    (iblk m c 0 t : Vec Ideal S8x100000 .f32) (ix2 s v) = inp m c (ix4 ⟨t.val, t.isLt.trans_eq N64⟩ s 0 v) := by
  have hi := idx0 t
  unfold iblk
  rw [View.read_apply]
  entry_read
  show shapeCast S512x100000 (m ((c : Thread nD τ).loc main_arg0)) _ _ = _
  refine (congrArg (shapeCast S512x100000 (m ((c : Thread nD τ).loc main_arg0)) shapeCasts_S64x8x1x100000_S512x100000)
    (a₂ := ix2 ⟨8 * t.val + s.val, by have := t.isLt.trans_eq N64; omega⟩ v) ?_).trans ?_
  · funext a
    apply Fin.ext
    match a with
    | ⟨0, _⟩ => show win0_0.index t 0 * 8 + 1 * s.val = 8 * t.val + s.val; rw [hi.1]; omega
    | ⟨1, _⟩ => show win0_0.index t 1 * 100000 + 1 * v.val = v.val; rw [hi.2]; omega
  · refine congrArg (m ((c : Thread nD τ).loc main_arg0)) ?_
    refine Shape.reshapeEquiv_eq_of_rowMajor _ ?_
    show ((⟨4, ![64, 8, 1, 100000]⟩ : Shape).rowMajor (ix4 _ s 0 v)).val = ((⟨2, ![512, 100000]⟩ : Shape).rowMajor (ix2 _ v)).val
    rw [Shape.rowMajor_val_four, Shape.rowMajor_val_two]
    show ((t.val * 8 + s.val) * 1 + 0) * 100000 + v.val = (8 * t.val + s.val) * 100000 + v.val
    omega

/-- So its rows are the array's, -/
theorem block_lg (t : Fin cfg0.N) (s : Fin 8) :
    lgOf (iblk m c 0 t) s = rowLg (inp m c) ⟨t.val, t.isLt.trans_eq N64⟩ s := by
  funext v
  unfold lgOf rowLg
  by_cases h : v < 100000
  · rw [dif_pos h, dif_pos h]; exact block_at m c t s ⟨v, h⟩
  · rw [dif_neg h, dif_neg h]

/-- and so are their scores. -/
theorem block_t (t : Fin cfg0.N) (s : Fin 8) :
    tOf (grid0.coords t) (iblk m c 0 t) s = rowT (inp m c) ⟨t.val, t.isLt.trans_eq N64⟩ s := by
  funext v
  unfold tOf rowT
  rw [block_lg]
  unfold rowOf
  rw [coords_eq]

variable (p : Fin 64 → Fin 8 → ℕ) (hp : Picks (inp m c) p)

/-! The arrays after the run, block by block: each point writes its own block, once. -/

theorem inj1 : ∀ t t' : Fin grid0.N, win0_1.index t = win0_1.index t' → t = t' := by decide +kernel
theorem inj2 : ∀ t t' : Fin grid0.N, win0_2.index t = win0_2.index t' → t = t' := by decide +kernel
theorem idx1 : ∀ t : Fin grid0.N, win0_1.index t 0 = t.val ∧ win0_1.index t 1 = 0 ∧ win0_1.index t 2 = 0 := by decide +kernel
theorem idx2 : ∀ t : Fin grid0.N, win0_2.index t 0 = t.val ∧ win0_2.index t 1 = 0 ∧ win0_2.index t 2 = 0 := by decide +kernel

theorem written1 (t : Fin cfg0.N) : ((cfg0.win 1).blk t).view.read (Elt Ideal) ((dats m 0 c).arrAt 1 cfg0.N)
    = (cfg0.win 1).cut (grid0.coords t) ((outsAt0 m c t).1) := by
  refine ((dats m 0 c).read_blk_arrAt_eq_flushed 1
    (fun t t' _ _ hne => (cfg0.win 1).disjoint_blk fun h => hne (inj1 t t' h)) cfg0.N t t.isLt (flush0_1 t)).trans ?_
  show (cfg0.win 1).cut (grid0.coords t) ((dats m 0 c).after 1 t) = _
  rw [after0_1]

theorem written2 (t : Fin cfg0.N) : ((cfg0.win 2).blk t).view.read (Elt Ideal) ((dats m 0 c).arrAt 2 cfg0.N)
    = (cfg0.win 2).cut (grid0.coords t) ((outsAt0 m c t).2) := by
  refine ((dats m 0 c).read_blk_arrAt_eq_flushed 2
    (fun t t' _ _ hne => (cfg0.win 2).disjoint_blk fun h => hne (inj2 t t' h)) cfg0.N t t.isLt (flush0_2 t)).trans ?_
  show (cfg0.win 2).cut (grid0.coords t) ((dats m 0 c).after 2 t) = _
  rw [after0_2]

theorem read1 (t : Fin cfg0.N) (A : S64x8x1.Idx → BitVec 32) (s : Fin 8) :
    ((cfg0.win 1).blk t).view.read (Elt Ideal) A (ix3 0 s 0) = A (ix3 ⟨t.val, t.isLt.trans_eq N64⟩ s 0) := by
  have hi := idx1 t
  rw [View.read_apply]
  refine congrArg A ?_
  funext a
  apply Fin.ext
  match a with
  | ⟨0, _⟩ => show win0_1.index t 0 * 1 + 1 * 0 = t.val; rw [hi.1]; omega
  | ⟨1, _⟩ => show win0_1.index t 1 * 8 + 1 * s.val = s.val; rw [hi.2.1]; omega
  | ⟨2, _⟩ => show win0_1.index t 2 * 1 + 1 * 0 = 0; rw [hi.2.2]

theorem read2 (t : Fin cfg0.N) (A : S64x8x1.Idx → EReal) (s : Fin 8) :
    ((cfg0.win 2).blk t).view.read (Elt Ideal) A (ix3 0 s 0) = A (ix3 ⟨t.val, t.isLt.trans_eq N64⟩ s 0) := by
  have hi := idx2 t
  rw [View.read_apply]
  refine congrArg A ?_
  funext a
  apply Fin.ext
  match a with
  | ⟨0, _⟩ => show win0_2.index t 0 * 1 + 1 * 0 = t.val; rw [hi.1]; omega
  | ⟨1, _⟩ => show win0_2.index t 1 * 8 + 1 * s.val = s.val; rw [hi.2.1]; omega
  | ⟨2, _⟩ => show win0_2.index t 2 * 1 + 1 * 0 = 0; rw [hi.2.2]

include hp in
/-- The array of picks. -/
theorem final1 (b : Fin 64) (s : Fin 8) :
    ((dats m 0 c).arrAt 1 cfg0.N : S64x8x1.Idx → BitVec 32) (ix3 b s 0) = BitVec.ofNat 32 (p b s) := by
  let t : Fin cfg0.N := ⟨b.val, b.isLt.trans_eq N64.symm⟩
  refine (read1 t _ s).symm.trans ((congrFun (written1 m c t) (ix3 0 s 0)).trans ?_)
  have h := hp b s
  refine out1_at c (grid0.coords t) _ _ _ _ _ _ _ _ _ _ _ _ _ _ (iblk m c 0 t) s (p b s) ?_ ?_ <;> rw [block_t]
  · exact h.1
  · exact h.2

include hp in
/-- The array of sums. -/
theorem final2 (b : Fin 64) (s : Fin 8) :
    ((dats m 0 c).arrAt 2 cfg0.N : S64x8x1.Idx → EReal) (ix3 b s 0) = lpSum (inp m c) p (ix1 b) := by
  let t : Fin cfg0.N := ⟨b.val, b.isLt.trans_eq N64.symm⟩
  refine (read2 t _ s).symm.trans ((congrFun (written2 m c t) (ix3 0 s 0)).trans ?_)
  refine (out2_at c (grid0.coords t) _ _ _ _ _ _ _ _ _ _ _ _ _ _ (iblk m c 0 t) s (p b) fun s => ?_).trans ?_
  · rw [block_t]; exact hp b s
  · simp only [block_lg]; rfl

/-! The two results, off the arrays. -/

theorem picks_read (A : S64x8x1.Idx → BitVec 32) (B : S64x8.Idx → BitVec 32)
    (h : ∀ b s, A (ix3 b s 0) = B (ix2 b s)) : shapeCast S64x8 A shapeCasts_S64x8x1_S64x8 = B := by
  funext j
  obtain ⟨b, s, rfl⟩ : ∃ (b : Fin 64) (s : Fin 8), j = ix2 b s := ⟨j 0, j 1, eq_ix2 j⟩
  refine Eq.trans ?_ (h b s)
  refine congrArg A (Shape.reshapeEquiv_eq_of_rowMajor _ ?_)
  rw [Shape.rowMajor_val_three, Shape.rowMajor_val_two]
  show (b.val * 8 + s.val) * 1 + 0 = b.val * 8 + s.val
  omega

theorem sums_read (A : S64x8x1.Idx → EReal) (B : S64.Idx → EReal) (h : ∀ b, A (ix3 b 0 0) = B (ix1 b)) :
    shapeCast S64 (extractStridedSlice S64x1x1 ![0, 0, 0] A slices_S64x8x1_S64x1x1_0_0_0) shapeCasts_S64x1x1_S64 = B := by
  funext j
  obtain ⟨b, rfl⟩ : ∃ b : Fin 64, j = ix1 b := ⟨j 0, eq_ix1 j⟩
  refine Eq.trans ?_ (h b)
  refine (congrArg (extractStridedSlice S64x1x1 ![0, 0, 0] A slices_S64x8x1_S64x1x1_0_0_0)
    (a₂ := ix3 b 0 0) (Shape.reshapeEquiv_eq_of_rowMajor _ ?_)).trans (congrArg A ?_)
  · rw [Shape.rowMajor_val_three, Shape.rowMajor_val_one]
    show (b.val * 1 + 0) * 1 + 0 = b.val
    omega
  · funext a
    apply Fin.ext
    match a with
    | ⟨0, _⟩ => show 0 + b.val = b.val; omega
    | ⟨1, _⟩ => rfl
    | ⟨2, _⟩ => rfl

theorem arr_inj : Function.Injective (Pipeline.arrRef (cfgs 0).spec) := by decide

include hp in
theorem tail_picks : Pipeline.afterTail₀ cfgs (dats m) 0 (V0 m) [hostOps1] c main_v2 = sampleOf p := by
  refine Eq.trans ?_ (picks_read ((dats m 0 c).arrAt 1 cfg0.N) (sampleOf p) (final1 m c p hp))
  unfold Pipeline.afterTail₀
  simp only [hostOps1, List.flatten_cons, List.flatten_nil, List.append_nil]
  after_results_simp
  exact congrArg (fun A : S64x8x1.Idx → BitVec 32 => shapeCast S64x8 A shapeCasts_S64x8x1_S64x8)
    (Pipeline.withArrays_arr (cfgs 0).spec arr_inj c (V0 m c) (fun w => (dats m 0 c).arrAt w (cfgs 0).N) 1)

include hp in
theorem tail_sums : Pipeline.afterTail₀ cfgs (dats m) 0 (V0 m) [hostOps1] c main_v4 = lpSum (inp m c) p := by
  refine Eq.trans ?_ (sums_read ((dats m 0 c).arrAt 2 cfg0.N) (lpSum (inp m c) p) fun b => final2 m c p hp b 0)
  unfold Pipeline.afterTail₀
  simp only [hostOps1, List.flatten_cons, List.flatten_nil, List.append_nil]
  after_results_simp
  exact congrArg (fun A : S64x8x1.Idx → EReal => shapeCast S64 (extractStridedSlice S64x1x1 ![0, 0, 0] A slices_S64x8x1_S64x1x1_0_0_0)
      shapeCasts_S64x1x1_S64)
    (Pipeline.withArrays_arr (cfgs 0).spec arr_inj c (V0 m c) (fun w => (dats m 0 c).arrAt w (cfgs 0).N) 2)

/-- The kernel's run: the two results as functions of the picks, the input unchanged. -/
theorem kernel_run (ρ : Dev nD → PrngReg) (p : Dev nD → Fin 64 → Fin 8 → ℕ) (hp : ∀ c, Picks (inp m c) (p c)) :
    θ_run defs (onTc (τ := τ) (main (F := Ideal))) ⟨m, fun _ => 0, ρ⟩ fun r => ∀ c : Dev nD,
      r.2.mem ((c : Thread nD τ).loc main_v2) = sampleOf (p c)
      ∧ r.2.mem ((c : Thread nD τ).loc main_v4) = lpSum (inp m c) (p c)
      ∧ r.2.mem ((c : Thread nD τ).loc main_arg0) = m ((c : Thread nD τ).loc main_arg0) := by
  refine (θ_run defs _ _).mono (fun r h c => ⟨?_, ?_, ?_⟩) (run_main m ρ)
  · exact ((h c).2 main_v2 (Pipeline.mem_restRefs_of main_v2 (by decide) (by decide))).trans (tail_picks m c (p c) (hp c))
  · exact ((h c).2 main_v4 (Pipeline.mem_restRefs_of main_v4 (by decide) (by decide))).trans (tail_sums m c (p c) (hp c))
  · exact ((h c).2 main_arg0 (Pipeline.mem_restRefs_of main_arg0 (by decide) (by decide))).trans (W_main_arg0 m (dats m) c)

end Cert.Proof

end
-- ==== Proof.RefHashOps.lean ====
/-
  The reference's block cipher, operation by operation: the lists of host operations of each of its twenty rounds and of each
  of its five key additions, with the buffers that each list writes and the statement that it keeps every other buffer.
-/
module

public import Idealize.ShloMosaic.Lib.StableHlo.Run
public import proofs.«01_k».proof.Proof.Gen.ReferenceIdeal

@[expose] public section

noncomputable section

namespace Cert.Proof.Ref

open Cert.ReferenceIdeal Cert.ReferenceIdeal.Gen
open Idealize.ShloMosaic Idealize.ShloMosaic.TcCoe Idealize.ShloMosaic.StableHlo Idealize.SL.Sem

variable {F : FTy → Type} [FloatOps F]

/-- The key words and the two counter words with the first two key words added. -/
abbrev hash0 : List (HloOp τ sig (Elt F)) :=
  [ TRef.binary main_call0.v5 main_call0.v7 main_call0_call0.v0 xori,
    TRef.nullary main_call0_call0.c (constantI S_ 32 466688986#32),
    TRef.binary main_call0_call0.v0 main_call0_call0.c main_call0_call0.v1 xori,
    TRef.unary main_call0.v5 main_call0_call0.v2 (broadcastInDim S64x8x100000 ![] bcast_S_S64x8x100000),
    TRef.binary main_call0.v22 main_call0_call0.v2 main_call0_call0.v3 addi,
    TRef.unary main_call0.v7 main_call0_call0.v4 (broadcastInDim S64x8x100000 ![] bcast_S_S64x8x100000),
    TRef.binary main_call0.v21 main_call0_call0.v4 main_call0_call0.v5 addi ]

/-- The buffers they write. -/
abbrev hash0W : List (Ref sig .tc) :=
  [main_call0_call0.v0.ref, main_call0_call0.c.ref, main_call0_call0.v1.ref, main_call0_call0.v2.ref, main_call0_call0.v3.ref, main_call0_call0.v4.ref, main_call0_call0.v5.ref]

theorem hash0_keep (V : Valuation τ sig (Elt F)) {r : Ref sig .tc} (h : r ∉ hash0W) :
    after hash0 V (Proc.devRef .tc r) = V (Proc.devRef .tc r) :=
  after_of_writes_sub (W := hash0W) hash0 V (forall_writes_sub_of_map rfl) h

theorem hash0_sub : (hash0 : List (HloOp τ sig (Elt F))).Forall fun op => op.bufs ⊆ tcRefs τ sig :=
  ⟨binary_bufs_sub .., nullary_bufs_sub .., binary_bufs_sub .., unary_bufs_sub .., binary_bufs_sub .., unary_bufs_sub .., binary_bufs_sub ..⟩

theorem hash0_fresh : (hash0 : List (HloOp τ sig (Elt F))).Forall fun op => op.fresh = ∅ :=
  forall_fresh_of_map rfl

/-- Round 1. -/
abbrev round1 : List (HloOp τ sig (Elt F)) :=
  [ TRef.binary main_call0_call0.v3 main_call0_call0.v5 main_call0_call0.v6 addi,
    TRef.nullary main_call0_call0.c_0 (constantI S_ 32 13#32),
    TRef.unary main_call0_call0.c_0 main_call0_call0.v7 (broadcastInDim S64x8x100000 ![] bcast_S_S64x8x100000),
    TRef.binary main_call0_call0.v5 main_call0_call0.v7 main_call0_call0.v8 Host.shli,
    TRef.nullary main_call0_call0.c_1 (constantI S_ 32 19#32),
    TRef.unary main_call0_call0.c_1 main_call0_call0.v9 (broadcastInDim S64x8x100000 ![] bcast_S_S64x8x100000),
    TRef.binary main_call0_call0.v5 main_call0_call0.v9 main_call0_call0.v10 Host.shrui,
    TRef.binary main_call0_call0.v8 main_call0_call0.v10 main_call0_call0.v11 ori,
    TRef.binary main_call0_call0.v6 main_call0_call0.v11 main_call0_call0.v12 xori ]

/-- The buffers they write. -/
abbrev round1W : List (Ref sig .tc) :=
  [main_call0_call0.v6.ref, main_call0_call0.c_0.ref, main_call0_call0.v7.ref, main_call0_call0.v8.ref, main_call0_call0.c_1.ref, main_call0_call0.v9.ref, main_call0_call0.v10.ref, main_call0_call0.v11.ref, main_call0_call0.v12.ref]

theorem round1_keep (V : Valuation τ sig (Elt F)) {r : Ref sig .tc} (h : r ∉ round1W) :
    after round1 V (Proc.devRef .tc r) = V (Proc.devRef .tc r) :=
  after_of_writes_sub (W := round1W) round1 V (forall_writes_sub_of_map rfl) h

theorem round1_sub : (round1 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub ..⟩

theorem round1_fresh : (round1 : List (HloOp τ sig (Elt F))).Forall fun op => op.fresh = ∅ :=
  forall_fresh_of_map rfl

/-- Round 2. -/
abbrev round2 : List (HloOp τ sig (Elt F)) :=
  [ TRef.binary main_call0_call0.v6 main_call0_call0.v12 main_call0_call0.v13 addi,
    TRef.nullary main_call0_call0.c_2 (constantI S_ 32 15#32),
    TRef.unary main_call0_call0.c_2 main_call0_call0.v14 (broadcastInDim S64x8x100000 ![] bcast_S_S64x8x100000),
    TRef.binary main_call0_call0.v12 main_call0_call0.v14 main_call0_call0.v15 Host.shli,
    TRef.nullary main_call0_call0.c_3 (constantI S_ 32 17#32),
    TRef.unary main_call0_call0.c_3 main_call0_call0.v16 (broadcastInDim S64x8x100000 ![] bcast_S_S64x8x100000),
    TRef.binary main_call0_call0.v12 main_call0_call0.v16 main_call0_call0.v17 Host.shrui,
    TRef.binary main_call0_call0.v15 main_call0_call0.v17 main_call0_call0.v18 ori,
    TRef.binary main_call0_call0.v13 main_call0_call0.v18 main_call0_call0.v19 xori ]

/-- The buffers they write. -/
abbrev round2W : List (Ref sig .tc) :=
  [main_call0_call0.v13.ref, main_call0_call0.c_2.ref, main_call0_call0.v14.ref, main_call0_call0.v15.ref, main_call0_call0.c_3.ref, main_call0_call0.v16.ref, main_call0_call0.v17.ref, main_call0_call0.v18.ref, main_call0_call0.v19.ref]

theorem round2_keep (V : Valuation τ sig (Elt F)) {r : Ref sig .tc} (h : r ∉ round2W) :
    after round2 V (Proc.devRef .tc r) = V (Proc.devRef .tc r) :=
  after_of_writes_sub (W := round2W) round2 V (forall_writes_sub_of_map rfl) h

theorem round2_sub : (round2 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub ..⟩

theorem round2_fresh : (round2 : List (HloOp τ sig (Elt F))).Forall fun op => op.fresh = ∅ :=
  forall_fresh_of_map rfl

/-- Round 3. -/
abbrev round3 : List (HloOp τ sig (Elt F)) :=
  [ TRef.binary main_call0_call0.v13 main_call0_call0.v19 main_call0_call0.v20 addi,
    TRef.nullary main_call0_call0.c_4 (constantI S_ 32 26#32),
    TRef.unary main_call0_call0.c_4 main_call0_call0.v21 (broadcastInDim S64x8x100000 ![] bcast_S_S64x8x100000),
    TRef.binary main_call0_call0.v19 main_call0_call0.v21 main_call0_call0.v22 Host.shli,
    TRef.nullary main_call0_call0.c_5 (constantI S_ 32 6#32),
    TRef.unary main_call0_call0.c_5 main_call0_call0.v23 (broadcastInDim S64x8x100000 ![] bcast_S_S64x8x100000),
    TRef.binary main_call0_call0.v19 main_call0_call0.v23 main_call0_call0.v24 Host.shrui,
    TRef.binary main_call0_call0.v22 main_call0_call0.v24 main_call0_call0.v25 ori,
    TRef.binary main_call0_call0.v20 main_call0_call0.v25 main_call0_call0.v26 xori ]

/-- The buffers they write. -/
abbrev round3W : List (Ref sig .tc) :=
  [main_call0_call0.v20.ref, main_call0_call0.c_4.ref, main_call0_call0.v21.ref, main_call0_call0.v22.ref, main_call0_call0.c_5.ref, main_call0_call0.v23.ref, main_call0_call0.v24.ref, main_call0_call0.v25.ref, main_call0_call0.v26.ref]

theorem round3_keep (V : Valuation τ sig (Elt F)) {r : Ref sig .tc} (h : r ∉ round3W) :
    after round3 V (Proc.devRef .tc r) = V (Proc.devRef .tc r) :=
  after_of_writes_sub (W := round3W) round3 V (forall_writes_sub_of_map rfl) h

theorem round3_sub : (round3 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub ..⟩

theorem round3_fresh : (round3 : List (HloOp τ sig (Elt F))).Forall fun op => op.fresh = ∅ :=
  forall_fresh_of_map rfl

/-- Round 4. -/
abbrev round4 : List (HloOp τ sig (Elt F)) :=
  [ TRef.binary main_call0_call0.v20 main_call0_call0.v26 main_call0_call0.v27 addi,
    TRef.nullary main_call0_call0.c_6 (constantI S_ 32 6#32),
    TRef.unary main_call0_call0.c_6 main_call0_call0.v28 (broadcastInDim S64x8x100000 ![] bcast_S_S64x8x100000),
    TRef.binary main_call0_call0.v26 main_call0_call0.v28 main_call0_call0.v29 Host.shli,
    TRef.nullary main_call0_call0.c_7 (constantI S_ 32 26#32),
    TRef.unary main_call0_call0.c_7 main_call0_call0.v30 (broadcastInDim S64x8x100000 ![] bcast_S_S64x8x100000),
    TRef.binary main_call0_call0.v26 main_call0_call0.v30 main_call0_call0.v31 Host.shrui,
    TRef.binary main_call0_call0.v29 main_call0_call0.v31 main_call0_call0.v32 ori,
    TRef.binary main_call0_call0.v27 main_call0_call0.v32 main_call0_call0.v33 xori ]

/-- The buffers they write. -/
abbrev round4W : List (Ref sig .tc) :=
  [main_call0_call0.v27.ref, main_call0_call0.c_6.ref, main_call0_call0.v28.ref, main_call0_call0.v29.ref, main_call0_call0.c_7.ref, main_call0_call0.v30.ref, main_call0_call0.v31.ref, main_call0_call0.v32.ref, main_call0_call0.v33.ref]

theorem round4_keep (V : Valuation τ sig (Elt F)) {r : Ref sig .tc} (h : r ∉ round4W) :
    after round4 V (Proc.devRef .tc r) = V (Proc.devRef .tc r) :=
  after_of_writes_sub (W := round4W) round4 V (forall_writes_sub_of_map rfl) h

theorem round4_sub : (round4 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub ..⟩

theorem round4_fresh : (round4 : List (HloOp τ sig (Elt F))).Forall fun op => op.fresh = ∅ :=
  forall_fresh_of_map rfl

/-- The key words added after round 4. -/
abbrev inject1 : List (HloOp τ sig (Elt F)) :=
  [ TRef.unary main_call0.v7 main_call0_call0.v34 (broadcastInDim S64x8x100000 ![] bcast_S_S64x8x100000),
    TRef.binary main_call0_call0.v27 main_call0_call0.v34 main_call0_call0.v35 addi,
    TRef.unary main_call0_call0.v1 main_call0_call0.v36 (broadcastInDim S64x8x100000 ![] bcast_S_S64x8x100000),
    TRef.binary main_call0_call0.v33 main_call0_call0.v36 main_call0_call0.v37 addi,
    TRef.nullary main_call0_call0.c_8 (constantI S_ 32 1#32),
    TRef.unary main_call0_call0.c_8 main_call0_call0.v38 (broadcastInDim S64x8x100000 ![] bcast_S_S64x8x100000),
    TRef.binary main_call0_call0.v37 main_call0_call0.v38 main_call0_call0.v39 addi ]

/-- The buffers they write. -/
abbrev inject1W : List (Ref sig .tc) :=
  [main_call0_call0.v34.ref, main_call0_call0.v35.ref, main_call0_call0.v36.ref, main_call0_call0.v37.ref, main_call0_call0.c_8.ref, main_call0_call0.v38.ref, main_call0_call0.v39.ref]

theorem inject1_keep (V : Valuation τ sig (Elt F)) {r : Ref sig .tc} (h : r ∉ inject1W) :
    after inject1 V (Proc.devRef .tc r) = V (Proc.devRef .tc r) :=
  after_of_writes_sub (W := inject1W) inject1 V (forall_writes_sub_of_map rfl) h

theorem inject1_sub : (inject1 : List (HloOp τ sig (Elt F))).Forall fun op => op.bufs ⊆ tcRefs τ sig :=
  ⟨unary_bufs_sub .., binary_bufs_sub .., unary_bufs_sub .., binary_bufs_sub .., nullary_bufs_sub .., unary_bufs_sub .., binary_bufs_sub ..⟩

theorem inject1_fresh : (inject1 : List (HloOp τ sig (Elt F))).Forall fun op => op.fresh = ∅ :=
  forall_fresh_of_map rfl

/-- Round 5. -/
abbrev round5 : List (HloOp τ sig (Elt F)) :=
  [ TRef.binary main_call0_call0.v35 main_call0_call0.v39 main_call0_call0.v40 addi,
    TRef.nullary main_call0_call0.c_9 (constantI S_ 32 17#32),
    TRef.unary main_call0_call0.c_9 main_call0_call0.v41 (broadcastInDim S64x8x100000 ![] bcast_S_S64x8x100000),
    TRef.binary main_call0_call0.v39 main_call0_call0.v41 main_call0_call0.v42 Host.shli,
    TRef.nullary main_call0_call0.c_10 (constantI S_ 32 15#32),
    TRef.unary main_call0_call0.c_10 main_call0_call0.v43 (broadcastInDim S64x8x100000 ![] bcast_S_S64x8x100000),
    TRef.binary main_call0_call0.v39 main_call0_call0.v43 main_call0_call0.v44 Host.shrui,
    TRef.binary main_call0_call0.v42 main_call0_call0.v44 main_call0_call0.v45 ori,
    TRef.binary main_call0_call0.v40 main_call0_call0.v45 main_call0_call0.v46 xori ]

/-- The buffers they write. -/
abbrev round5W : List (Ref sig .tc) :=
  [main_call0_call0.v40.ref, main_call0_call0.c_9.ref, main_call0_call0.v41.ref, main_call0_call0.v42.ref, main_call0_call0.c_10.ref, main_call0_call0.v43.ref, main_call0_call0.v44.ref, main_call0_call0.v45.ref, main_call0_call0.v46.ref]

theorem round5_keep (V : Valuation τ sig (Elt F)) {r : Ref sig .tc} (h : r ∉ round5W) :
    after round5 V (Proc.devRef .tc r) = V (Proc.devRef .tc r) :=
  after_of_writes_sub (W := round5W) round5 V (forall_writes_sub_of_map rfl) h

theorem round5_sub : (round5 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub ..⟩

theorem round5_fresh : (round5 : List (HloOp τ sig (Elt F))).Forall fun op => op.fresh = ∅ :=
  forall_fresh_of_map rfl

/-- Round 6. -/
abbrev round6 : List (HloOp τ sig (Elt F)) :=
  [ TRef.binary main_call0_call0.v40 main_call0_call0.v46 main_call0_call0.v47 addi,
    TRef.nullary main_call0_call0.c_11 (constantI S_ 32 29#32),
    TRef.unary main_call0_call0.c_11 main_call0_call0.v48 (broadcastInDim S64x8x100000 ![] bcast_S_S64x8x100000),
    TRef.binary main_call0_call0.v46 main_call0_call0.v48 main_call0_call0.v49 Host.shli,
    TRef.nullary main_call0_call0.c_12 (constantI S_ 32 3#32),
    TRef.unary main_call0_call0.c_12 main_call0_call0.v50 (broadcastInDim S64x8x100000 ![] bcast_S_S64x8x100000),
    TRef.binary main_call0_call0.v46 main_call0_call0.v50 main_call0_call0.v51 Host.shrui,
    TRef.binary main_call0_call0.v49 main_call0_call0.v51 main_call0_call0.v52 ori,
    TRef.binary main_call0_call0.v47 main_call0_call0.v52 main_call0_call0.v53 xori ]

/-- The buffers they write. -/
abbrev round6W : List (Ref sig .tc) :=
  [main_call0_call0.v47.ref, main_call0_call0.c_11.ref, main_call0_call0.v48.ref, main_call0_call0.v49.ref, main_call0_call0.c_12.ref, main_call0_call0.v50.ref, main_call0_call0.v51.ref, main_call0_call0.v52.ref, main_call0_call0.v53.ref]

theorem round6_keep (V : Valuation τ sig (Elt F)) {r : Ref sig .tc} (h : r ∉ round6W) :
    after round6 V (Proc.devRef .tc r) = V (Proc.devRef .tc r) :=
  after_of_writes_sub (W := round6W) round6 V (forall_writes_sub_of_map rfl) h

theorem round6_sub : (round6 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub ..⟩

theorem round6_fresh : (round6 : List (HloOp τ sig (Elt F))).Forall fun op => op.fresh = ∅ :=
  forall_fresh_of_map rfl

/-- Round 7. -/
abbrev round7 : List (HloOp τ sig (Elt F)) :=
  [ TRef.binary main_call0_call0.v47 main_call0_call0.v53 main_call0_call0.v54 addi,
    TRef.nullary main_call0_call0.c_13 (constantI S_ 32 16#32),
    TRef.unary main_call0_call0.c_13 main_call0_call0.v55 (broadcastInDim S64x8x100000 ![] bcast_S_S64x8x100000),
    TRef.binary main_call0_call0.v53 main_call0_call0.v55 main_call0_call0.v56 Host.shli,
    TRef.nullary main_call0_call0.c_14 (constantI S_ 32 16#32),
    TRef.unary main_call0_call0.c_14 main_call0_call0.v57 (broadcastInDim S64x8x100000 ![] bcast_S_S64x8x100000),
    TRef.binary main_call0_call0.v53 main_call0_call0.v57 main_call0_call0.v58 Host.shrui,
    TRef.binary main_call0_call0.v56 main_call0_call0.v58 main_call0_call0.v59 ori,
    TRef.binary main_call0_call0.v54 main_call0_call0.v59 main_call0_call0.v60 xori ]

/-- The buffers they write. -/
abbrev round7W : List (Ref sig .tc) :=
  [main_call0_call0.v54.ref, main_call0_call0.c_13.ref, main_call0_call0.v55.ref, main_call0_call0.v56.ref, main_call0_call0.c_14.ref, main_call0_call0.v57.ref, main_call0_call0.v58.ref, main_call0_call0.v59.ref, main_call0_call0.v60.ref]

theorem round7_keep (V : Valuation τ sig (Elt F)) {r : Ref sig .tc} (h : r ∉ round7W) :
    after round7 V (Proc.devRef .tc r) = V (Proc.devRef .tc r) :=
  after_of_writes_sub (W := round7W) round7 V (forall_writes_sub_of_map rfl) h

theorem round7_sub : (round7 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub ..⟩

theorem round7_fresh : (round7 : List (HloOp τ sig (Elt F))).Forall fun op => op.fresh = ∅ :=
  forall_fresh_of_map rfl

/-- Round 8. -/
abbrev round8 : List (HloOp τ sig (Elt F)) :=
  [ TRef.binary main_call0_call0.v54 main_call0_call0.v60 main_call0_call0.v61 addi,
    TRef.nullary main_call0_call0.c_15 (constantI S_ 32 24#32),
    TRef.unary main_call0_call0.c_15 main_call0_call0.v62 (broadcastInDim S64x8x100000 ![] bcast_S_S64x8x100000),
    TRef.binary main_call0_call0.v60 main_call0_call0.v62 main_call0_call0.v63 Host.shli,
    TRef.nullary main_call0_call0.c_16 (constantI S_ 32 8#32),
    TRef.unary main_call0_call0.c_16 main_call0_call0.v64 (broadcastInDim S64x8x100000 ![] bcast_S_S64x8x100000),
    TRef.binary main_call0_call0.v60 main_call0_call0.v64 main_call0_call0.v65 Host.shrui,
    TRef.binary main_call0_call0.v63 main_call0_call0.v65 main_call0_call0.v66 ori,
    TRef.binary main_call0_call0.v61 main_call0_call0.v66 main_call0_call0.v67 xori ]

/-- The buffers they write. -/
abbrev round8W : List (Ref sig .tc) :=
  [main_call0_call0.v61.ref, main_call0_call0.c_15.ref, main_call0_call0.v62.ref, main_call0_call0.v63.ref, main_call0_call0.c_16.ref, main_call0_call0.v64.ref, main_call0_call0.v65.ref, main_call0_call0.v66.ref, main_call0_call0.v67.ref]

theorem round8_keep (V : Valuation τ sig (Elt F)) {r : Ref sig .tc} (h : r ∉ round8W) :
    after round8 V (Proc.devRef .tc r) = V (Proc.devRef .tc r) :=
  after_of_writes_sub (W := round8W) round8 V (forall_writes_sub_of_map rfl) h

theorem round8_sub : (round8 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub ..⟩

theorem round8_fresh : (round8 : List (HloOp τ sig (Elt F))).Forall fun op => op.fresh = ∅ :=
  forall_fresh_of_map rfl

/-- The key words added after round 8. -/
abbrev inject2 : List (HloOp τ sig (Elt F)) :=
  [ TRef.unary main_call0_call0.v1 main_call0_call0.v68 (broadcastInDim S64x8x100000 ![] bcast_S_S64x8x100000),
    TRef.binary main_call0_call0.v61 main_call0_call0.v68 main_call0_call0.v69 addi,
    TRef.unary main_call0.v5 main_call0_call0.v70 (broadcastInDim S64x8x100000 ![] bcast_S_S64x8x100000),
    TRef.binary main_call0_call0.v67 main_call0_call0.v70 main_call0_call0.v71 addi,
    TRef.nullary main_call0_call0.c_17 (constantI S_ 32 2#32),
    TRef.unary main_call0_call0.c_17 main_call0_call0.v72 (broadcastInDim S64x8x100000 ![] bcast_S_S64x8x100000),
    TRef.binary main_call0_call0.v71 main_call0_call0.v72 main_call0_call0.v73 addi ]

/-- The buffers they write. -/
abbrev inject2W : List (Ref sig .tc) :=
  [main_call0_call0.v68.ref, main_call0_call0.v69.ref, main_call0_call0.v70.ref, main_call0_call0.v71.ref, main_call0_call0.c_17.ref, main_call0_call0.v72.ref, main_call0_call0.v73.ref]

theorem inject2_keep (V : Valuation τ sig (Elt F)) {r : Ref sig .tc} (h : r ∉ inject2W) :
    after inject2 V (Proc.devRef .tc r) = V (Proc.devRef .tc r) :=
  after_of_writes_sub (W := inject2W) inject2 V (forall_writes_sub_of_map rfl) h

theorem inject2_sub : (inject2 : List (HloOp τ sig (Elt F))).Forall fun op => op.bufs ⊆ tcRefs τ sig :=
  ⟨unary_bufs_sub .., binary_bufs_sub .., unary_bufs_sub .., binary_bufs_sub .., nullary_bufs_sub .., unary_bufs_sub .., binary_bufs_sub ..⟩

theorem inject2_fresh : (inject2 : List (HloOp τ sig (Elt F))).Forall fun op => op.fresh = ∅ :=
  forall_fresh_of_map rfl

/-- Round 9. -/
abbrev round9 : List (HloOp τ sig (Elt F)) :=
  [ TRef.binary main_call0_call0.v69 main_call0_call0.v73 main_call0_call0.v74 addi,
    TRef.nullary main_call0_call0.c_18 (constantI S_ 32 13#32),
    TRef.unary main_call0_call0.c_18 main_call0_call0.v75 (broadcastInDim S64x8x100000 ![] bcast_S_S64x8x100000),
    TRef.binary main_call0_call0.v73 main_call0_call0.v75 main_call0_call0.v76 Host.shli,
    TRef.nullary main_call0_call0.c_19 (constantI S_ 32 19#32),
    TRef.unary main_call0_call0.c_19 main_call0_call0.v77 (broadcastInDim S64x8x100000 ![] bcast_S_S64x8x100000),
    TRef.binary main_call0_call0.v73 main_call0_call0.v77 main_call0_call0.v78 Host.shrui,
    TRef.binary main_call0_call0.v76 main_call0_call0.v78 main_call0_call0.v79 ori,
    TRef.binary main_call0_call0.v74 main_call0_call0.v79 main_call0_call0.v80 xori ]

/-- The buffers they write. -/
abbrev round9W : List (Ref sig .tc) :=
  [main_call0_call0.v74.ref, main_call0_call0.c_18.ref, main_call0_call0.v75.ref, main_call0_call0.v76.ref, main_call0_call0.c_19.ref, main_call0_call0.v77.ref, main_call0_call0.v78.ref, main_call0_call0.v79.ref, main_call0_call0.v80.ref]

theorem round9_keep (V : Valuation τ sig (Elt F)) {r : Ref sig .tc} (h : r ∉ round9W) :
    after round9 V (Proc.devRef .tc r) = V (Proc.devRef .tc r) :=
  after_of_writes_sub (W := round9W) round9 V (forall_writes_sub_of_map rfl) h

theorem round9_sub : (round9 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub ..⟩

theorem round9_fresh : (round9 : List (HloOp τ sig (Elt F))).Forall fun op => op.fresh = ∅ :=
  forall_fresh_of_map rfl

/-- Round 10. -/
abbrev round10 : List (HloOp τ sig (Elt F)) :=
  [ TRef.binary main_call0_call0.v74 main_call0_call0.v80 main_call0_call0.v81 addi,
    TRef.nullary main_call0_call0.c_20 (constantI S_ 32 15#32),
    TRef.unary main_call0_call0.c_20 main_call0_call0.v82 (broadcastInDim S64x8x100000 ![] bcast_S_S64x8x100000),
    TRef.binary main_call0_call0.v80 main_call0_call0.v82 main_call0_call0.v83 Host.shli,
    TRef.nullary main_call0_call0.c_21 (constantI S_ 32 17#32),
    TRef.unary main_call0_call0.c_21 main_call0_call0.v84 (broadcastInDim S64x8x100000 ![] bcast_S_S64x8x100000),
    TRef.binary main_call0_call0.v80 main_call0_call0.v84 main_call0_call0.v85 Host.shrui,
    TRef.binary main_call0_call0.v83 main_call0_call0.v85 main_call0_call0.v86 ori,
    TRef.binary main_call0_call0.v81 main_call0_call0.v86 main_call0_call0.v87 xori ]

/-- The buffers they write. -/
abbrev round10W : List (Ref sig .tc) :=
  [main_call0_call0.v81.ref, main_call0_call0.c_20.ref, main_call0_call0.v82.ref, main_call0_call0.v83.ref, main_call0_call0.c_21.ref, main_call0_call0.v84.ref, main_call0_call0.v85.ref, main_call0_call0.v86.ref, main_call0_call0.v87.ref]

theorem round10_keep (V : Valuation τ sig (Elt F)) {r : Ref sig .tc} (h : r ∉ round10W) :
    after round10 V (Proc.devRef .tc r) = V (Proc.devRef .tc r) :=
  after_of_writes_sub (W := round10W) round10 V (forall_writes_sub_of_map rfl) h

theorem round10_sub : (round10 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub ..⟩

theorem round10_fresh : (round10 : List (HloOp τ sig (Elt F))).Forall fun op => op.fresh = ∅ :=
  forall_fresh_of_map rfl

/-- Round 11. -/
abbrev round11 : List (HloOp τ sig (Elt F)) :=
  [ TRef.binary main_call0_call0.v81 main_call0_call0.v87 main_call0_call0.v88 addi,
    TRef.nullary main_call0_call0.c_22 (constantI S_ 32 26#32),
    TRef.unary main_call0_call0.c_22 main_call0_call0.v89 (broadcastInDim S64x8x100000 ![] bcast_S_S64x8x100000),
    TRef.binary main_call0_call0.v87 main_call0_call0.v89 main_call0_call0.v90 Host.shli,
    TRef.nullary main_call0_call0.c_23 (constantI S_ 32 6#32),
    TRef.unary main_call0_call0.c_23 main_call0_call0.v91 (broadcastInDim S64x8x100000 ![] bcast_S_S64x8x100000),
    TRef.binary main_call0_call0.v87 main_call0_call0.v91 main_call0_call0.v92 Host.shrui,
    TRef.binary main_call0_call0.v90 main_call0_call0.v92 main_call0_call0.v93 ori,
    TRef.binary main_call0_call0.v88 main_call0_call0.v93 main_call0_call0.v94 xori ]

/-- The buffers they write. -/
abbrev round11W : List (Ref sig .tc) :=
  [main_call0_call0.v88.ref, main_call0_call0.c_22.ref, main_call0_call0.v89.ref, main_call0_call0.v90.ref, main_call0_call0.c_23.ref, main_call0_call0.v91.ref, main_call0_call0.v92.ref, main_call0_call0.v93.ref, main_call0_call0.v94.ref]

theorem round11_keep (V : Valuation τ sig (Elt F)) {r : Ref sig .tc} (h : r ∉ round11W) :
    after round11 V (Proc.devRef .tc r) = V (Proc.devRef .tc r) :=
  after_of_writes_sub (W := round11W) round11 V (forall_writes_sub_of_map rfl) h

theorem round11_sub : (round11 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub ..⟩

theorem round11_fresh : (round11 : List (HloOp τ sig (Elt F))).Forall fun op => op.fresh = ∅ :=
  forall_fresh_of_map rfl

/-- Round 12. -/
abbrev round12 : List (HloOp τ sig (Elt F)) :=
  [ TRef.binary main_call0_call0.v88 main_call0_call0.v94 main_call0_call0.v95 addi,
    TRef.nullary main_call0_call0.c_24 (constantI S_ 32 6#32),
    TRef.unary main_call0_call0.c_24 main_call0_call0.v96 (broadcastInDim S64x8x100000 ![] bcast_S_S64x8x100000),
    TRef.binary main_call0_call0.v94 main_call0_call0.v96 main_call0_call0.v97 Host.shli,
    TRef.nullary main_call0_call0.c_25 (constantI S_ 32 26#32),
    TRef.unary main_call0_call0.c_25 main_call0_call0.v98 (broadcastInDim S64x8x100000 ![] bcast_S_S64x8x100000),
    TRef.binary main_call0_call0.v94 main_call0_call0.v98 main_call0_call0.v99 Host.shrui,
    TRef.binary main_call0_call0.v97 main_call0_call0.v99 main_call0_call0.v100 ori,
    TRef.binary main_call0_call0.v95 main_call0_call0.v100 main_call0_call0.v101 xori ]

/-- The buffers they write. -/
abbrev round12W : List (Ref sig .tc) :=
  [main_call0_call0.v95.ref, main_call0_call0.c_24.ref, main_call0_call0.v96.ref, main_call0_call0.v97.ref, main_call0_call0.c_25.ref, main_call0_call0.v98.ref, main_call0_call0.v99.ref, main_call0_call0.v100.ref, main_call0_call0.v101.ref]

theorem round12_keep (V : Valuation τ sig (Elt F)) {r : Ref sig .tc} (h : r ∉ round12W) :
    after round12 V (Proc.devRef .tc r) = V (Proc.devRef .tc r) :=
  after_of_writes_sub (W := round12W) round12 V (forall_writes_sub_of_map rfl) h

theorem round12_sub : (round12 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub ..⟩

theorem round12_fresh : (round12 : List (HloOp τ sig (Elt F))).Forall fun op => op.fresh = ∅ :=
  forall_fresh_of_map rfl

/-- The key words added after round 12. -/
abbrev inject3 : List (HloOp τ sig (Elt F)) :=
  [ TRef.unary main_call0.v5 main_call0_call0.v102 (broadcastInDim S64x8x100000 ![] bcast_S_S64x8x100000),
    TRef.binary main_call0_call0.v95 main_call0_call0.v102 main_call0_call0.v103 addi,
    TRef.unary main_call0.v7 main_call0_call0.v104 (broadcastInDim S64x8x100000 ![] bcast_S_S64x8x100000),
    TRef.binary main_call0_call0.v101 main_call0_call0.v104 main_call0_call0.v105 addi,
    TRef.nullary main_call0_call0.c_26 (constantI S_ 32 3#32),
    TRef.unary main_call0_call0.c_26 main_call0_call0.v106 (broadcastInDim S64x8x100000 ![] bcast_S_S64x8x100000),
    TRef.binary main_call0_call0.v105 main_call0_call0.v106 main_call0_call0.v107 addi ]

/-- The buffers they write. -/
abbrev inject3W : List (Ref sig .tc) :=
  [main_call0_call0.v102.ref, main_call0_call0.v103.ref, main_call0_call0.v104.ref, main_call0_call0.v105.ref, main_call0_call0.c_26.ref, main_call0_call0.v106.ref, main_call0_call0.v107.ref]

theorem inject3_keep (V : Valuation τ sig (Elt F)) {r : Ref sig .tc} (h : r ∉ inject3W) :
    after inject3 V (Proc.devRef .tc r) = V (Proc.devRef .tc r) :=
  after_of_writes_sub (W := inject3W) inject3 V (forall_writes_sub_of_map rfl) h

theorem inject3_sub : (inject3 : List (HloOp τ sig (Elt F))).Forall fun op => op.bufs ⊆ tcRefs τ sig :=
  ⟨unary_bufs_sub .., binary_bufs_sub .., unary_bufs_sub .., binary_bufs_sub .., nullary_bufs_sub .., unary_bufs_sub .., binary_bufs_sub ..⟩

theorem inject3_fresh : (inject3 : List (HloOp τ sig (Elt F))).Forall fun op => op.fresh = ∅ :=
  forall_fresh_of_map rfl

/-- Round 13. -/
abbrev round13 : List (HloOp τ sig (Elt F)) :=
  [ TRef.binary main_call0_call0.v103 main_call0_call0.v107 main_call0_call0.v108 addi,
    TRef.nullary main_call0_call0.c_27 (constantI S_ 32 17#32),
    TRef.unary main_call0_call0.c_27 main_call0_call0.v109 (broadcastInDim S64x8x100000 ![] bcast_S_S64x8x100000),
    TRef.binary main_call0_call0.v107 main_call0_call0.v109 main_call0_call0.v110 Host.shli,
    TRef.nullary main_call0_call0.c_28 (constantI S_ 32 15#32),
    TRef.unary main_call0_call0.c_28 main_call0_call0.v111 (broadcastInDim S64x8x100000 ![] bcast_S_S64x8x100000),
    TRef.binary main_call0_call0.v107 main_call0_call0.v111 main_call0_call0.v112 Host.shrui,
    TRef.binary main_call0_call0.v110 main_call0_call0.v112 main_call0_call0.v113 ori,
    TRef.binary main_call0_call0.v108 main_call0_call0.v113 main_call0_call0.v114 xori ]

/-- The buffers they write. -/
abbrev round13W : List (Ref sig .tc) :=
  [main_call0_call0.v108.ref, main_call0_call0.c_27.ref, main_call0_call0.v109.ref, main_call0_call0.v110.ref, main_call0_call0.c_28.ref, main_call0_call0.v111.ref, main_call0_call0.v112.ref, main_call0_call0.v113.ref, main_call0_call0.v114.ref]

theorem round13_keep (V : Valuation τ sig (Elt F)) {r : Ref sig .tc} (h : r ∉ round13W) :
    after round13 V (Proc.devRef .tc r) = V (Proc.devRef .tc r) :=
  after_of_writes_sub (W := round13W) round13 V (forall_writes_sub_of_map rfl) h

theorem round13_sub : (round13 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub ..⟩

theorem round13_fresh : (round13 : List (HloOp τ sig (Elt F))).Forall fun op => op.fresh = ∅ :=
  forall_fresh_of_map rfl

/-- Round 14. -/
abbrev round14 : List (HloOp τ sig (Elt F)) :=
  [ TRef.binary main_call0_call0.v108 main_call0_call0.v114 main_call0_call0.v115 addi,
    TRef.nullary main_call0_call0.c_29 (constantI S_ 32 29#32),
    TRef.unary main_call0_call0.c_29 main_call0_call0.v116 (broadcastInDim S64x8x100000 ![] bcast_S_S64x8x100000),
    TRef.binary main_call0_call0.v114 main_call0_call0.v116 main_call0_call0.v117 Host.shli,
    TRef.nullary main_call0_call0.c_30 (constantI S_ 32 3#32),
    TRef.unary main_call0_call0.c_30 main_call0_call0.v118 (broadcastInDim S64x8x100000 ![] bcast_S_S64x8x100000),
    TRef.binary main_call0_call0.v114 main_call0_call0.v118 main_call0_call0.v119 Host.shrui,
    TRef.binary main_call0_call0.v117 main_call0_call0.v119 main_call0_call0.v120 ori,
    TRef.binary main_call0_call0.v115 main_call0_call0.v120 main_call0_call0.v121 xori ]

/-- The buffers they write. -/
abbrev round14W : List (Ref sig .tc) :=
  [main_call0_call0.v115.ref, main_call0_call0.c_29.ref, main_call0_call0.v116.ref, main_call0_call0.v117.ref, main_call0_call0.c_30.ref, main_call0_call0.v118.ref, main_call0_call0.v119.ref, main_call0_call0.v120.ref, main_call0_call0.v121.ref]

theorem round14_keep (V : Valuation τ sig (Elt F)) {r : Ref sig .tc} (h : r ∉ round14W) :
    after round14 V (Proc.devRef .tc r) = V (Proc.devRef .tc r) :=
  after_of_writes_sub (W := round14W) round14 V (forall_writes_sub_of_map rfl) h

theorem round14_sub : (round14 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub ..⟩

theorem round14_fresh : (round14 : List (HloOp τ sig (Elt F))).Forall fun op => op.fresh = ∅ :=
  forall_fresh_of_map rfl

/-- Round 15. -/
abbrev round15 : List (HloOp τ sig (Elt F)) :=
  [ TRef.binary main_call0_call0.v115 main_call0_call0.v121 main_call0_call0.v122 addi,
    TRef.nullary main_call0_call0.c_31 (constantI S_ 32 16#32),
    TRef.unary main_call0_call0.c_31 main_call0_call0.v123 (broadcastInDim S64x8x100000 ![] bcast_S_S64x8x100000),
    TRef.binary main_call0_call0.v121 main_call0_call0.v123 main_call0_call0.v124 Host.shli,
    TRef.nullary main_call0_call0.c_32 (constantI S_ 32 16#32),
    TRef.unary main_call0_call0.c_32 main_call0_call0.v125 (broadcastInDim S64x8x100000 ![] bcast_S_S64x8x100000),
    TRef.binary main_call0_call0.v121 main_call0_call0.v125 main_call0_call0.v126 Host.shrui,
    TRef.binary main_call0_call0.v124 main_call0_call0.v126 main_call0_call0.v127 ori,
    TRef.binary main_call0_call0.v122 main_call0_call0.v127 main_call0_call0.v128 xori ]

/-- The buffers they write. -/
abbrev round15W : List (Ref sig .tc) :=
  [main_call0_call0.v122.ref, main_call0_call0.c_31.ref, main_call0_call0.v123.ref, main_call0_call0.v124.ref, main_call0_call0.c_32.ref, main_call0_call0.v125.ref, main_call0_call0.v126.ref, main_call0_call0.v127.ref, main_call0_call0.v128.ref]

theorem round15_keep (V : Valuation τ sig (Elt F)) {r : Ref sig .tc} (h : r ∉ round15W) :
    after round15 V (Proc.devRef .tc r) = V (Proc.devRef .tc r) :=
  after_of_writes_sub (W := round15W) round15 V (forall_writes_sub_of_map rfl) h

theorem round15_sub : (round15 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub ..⟩

theorem round15_fresh : (round15 : List (HloOp τ sig (Elt F))).Forall fun op => op.fresh = ∅ :=
  forall_fresh_of_map rfl

/-- Round 16. -/
abbrev round16 : List (HloOp τ sig (Elt F)) :=
  [ TRef.binary main_call0_call0.v122 main_call0_call0.v128 main_call0_call0.v129 addi,
    TRef.nullary main_call0_call0.c_33 (constantI S_ 32 24#32),
    TRef.unary main_call0_call0.c_33 main_call0_call0.v130 (broadcastInDim S64x8x100000 ![] bcast_S_S64x8x100000),
    TRef.binary main_call0_call0.v128 main_call0_call0.v130 main_call0_call0.v131 Host.shli,
    TRef.nullary main_call0_call0.c_34 (constantI S_ 32 8#32),
    TRef.unary main_call0_call0.c_34 main_call0_call0.v132 (broadcastInDim S64x8x100000 ![] bcast_S_S64x8x100000),
    TRef.binary main_call0_call0.v128 main_call0_call0.v132 main_call0_call0.v133 Host.shrui,
    TRef.binary main_call0_call0.v131 main_call0_call0.v133 main_call0_call0.v134 ori,
    TRef.binary main_call0_call0.v129 main_call0_call0.v134 main_call0_call0.v135 xori ]

/-- The buffers they write. -/
abbrev round16W : List (Ref sig .tc) :=
  [main_call0_call0.v129.ref, main_call0_call0.c_33.ref, main_call0_call0.v130.ref, main_call0_call0.v131.ref, main_call0_call0.c_34.ref, main_call0_call0.v132.ref, main_call0_call0.v133.ref, main_call0_call0.v134.ref, main_call0_call0.v135.ref]

theorem round16_keep (V : Valuation τ sig (Elt F)) {r : Ref sig .tc} (h : r ∉ round16W) :
    after round16 V (Proc.devRef .tc r) = V (Proc.devRef .tc r) :=
  after_of_writes_sub (W := round16W) round16 V (forall_writes_sub_of_map rfl) h

theorem round16_sub : (round16 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub ..⟩

theorem round16_fresh : (round16 : List (HloOp τ sig (Elt F))).Forall fun op => op.fresh = ∅ :=
  forall_fresh_of_map rfl

/-- The key words added after round 16. -/
abbrev inject4 : List (HloOp τ sig (Elt F)) :=
  [ TRef.unary main_call0.v7 main_call0_call0.v136 (broadcastInDim S64x8x100000 ![] bcast_S_S64x8x100000),
    TRef.binary main_call0_call0.v129 main_call0_call0.v136 main_call0_call0.v137 addi,
    TRef.unary main_call0_call0.v1 main_call0_call0.v138 (broadcastInDim S64x8x100000 ![] bcast_S_S64x8x100000),
    TRef.binary main_call0_call0.v135 main_call0_call0.v138 main_call0_call0.v139 addi,
    TRef.nullary main_call0_call0.c_35 (constantI S_ 32 4#32),
    TRef.unary main_call0_call0.c_35 main_call0_call0.v140 (broadcastInDim S64x8x100000 ![] bcast_S_S64x8x100000),
    TRef.binary main_call0_call0.v139 main_call0_call0.v140 main_call0_call0.v141 addi ]

/-- The buffers they write. -/
abbrev inject4W : List (Ref sig .tc) :=
  [main_call0_call0.v136.ref, main_call0_call0.v137.ref, main_call0_call0.v138.ref, main_call0_call0.v139.ref, main_call0_call0.c_35.ref, main_call0_call0.v140.ref, main_call0_call0.v141.ref]

theorem inject4_keep (V : Valuation τ sig (Elt F)) {r : Ref sig .tc} (h : r ∉ inject4W) :
    after inject4 V (Proc.devRef .tc r) = V (Proc.devRef .tc r) :=
  after_of_writes_sub (W := inject4W) inject4 V (forall_writes_sub_of_map rfl) h

theorem inject4_sub : (inject4 : List (HloOp τ sig (Elt F))).Forall fun op => op.bufs ⊆ tcRefs τ sig :=
  ⟨unary_bufs_sub .., binary_bufs_sub .., unary_bufs_sub .., binary_bufs_sub .., nullary_bufs_sub .., unary_bufs_sub .., binary_bufs_sub ..⟩

theorem inject4_fresh : (inject4 : List (HloOp τ sig (Elt F))).Forall fun op => op.fresh = ∅ :=
  forall_fresh_of_map rfl

/-- Round 17. -/
abbrev round17 : List (HloOp τ sig (Elt F)) :=
  [ TRef.binary main_call0_call0.v137 main_call0_call0.v141 main_call0_call0.v142 addi,
    TRef.nullary main_call0_call0.c_36 (constantI S_ 32 13#32),
    TRef.unary main_call0_call0.c_36 main_call0_call0.v143 (broadcastInDim S64x8x100000 ![] bcast_S_S64x8x100000),
    TRef.binary main_call0_call0.v141 main_call0_call0.v143 main_call0_call0.v144 Host.shli,
    TRef.nullary main_call0_call0.c_37 (constantI S_ 32 19#32),
    TRef.unary main_call0_call0.c_37 main_call0_call0.v145 (broadcastInDim S64x8x100000 ![] bcast_S_S64x8x100000),
    TRef.binary main_call0_call0.v141 main_call0_call0.v145 main_call0_call0.v146 Host.shrui,
    TRef.binary main_call0_call0.v144 main_call0_call0.v146 main_call0_call0.v147 ori,
    TRef.binary main_call0_call0.v142 main_call0_call0.v147 main_call0_call0.v148 xori ]

/-- The buffers they write. -/
abbrev round17W : List (Ref sig .tc) :=
  [main_call0_call0.v142.ref, main_call0_call0.c_36.ref, main_call0_call0.v143.ref, main_call0_call0.v144.ref, main_call0_call0.c_37.ref, main_call0_call0.v145.ref, main_call0_call0.v146.ref, main_call0_call0.v147.ref, main_call0_call0.v148.ref]

theorem round17_keep (V : Valuation τ sig (Elt F)) {r : Ref sig .tc} (h : r ∉ round17W) :
    after round17 V (Proc.devRef .tc r) = V (Proc.devRef .tc r) :=
  after_of_writes_sub (W := round17W) round17 V (forall_writes_sub_of_map rfl) h

theorem round17_sub : (round17 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub ..⟩

theorem round17_fresh : (round17 : List (HloOp τ sig (Elt F))).Forall fun op => op.fresh = ∅ :=
  forall_fresh_of_map rfl

/-- Round 18. -/
abbrev round18 : List (HloOp τ sig (Elt F)) :=
  [ TRef.binary main_call0_call0.v142 main_call0_call0.v148 main_call0_call0.v149 addi,
    TRef.nullary main_call0_call0.c_38 (constantI S_ 32 15#32),
    TRef.unary main_call0_call0.c_38 main_call0_call0.v150 (broadcastInDim S64x8x100000 ![] bcast_S_S64x8x100000),
    TRef.binary main_call0_call0.v148 main_call0_call0.v150 main_call0_call0.v151 Host.shli,
    TRef.nullary main_call0_call0.c_39 (constantI S_ 32 17#32),
    TRef.unary main_call0_call0.c_39 main_call0_call0.v152 (broadcastInDim S64x8x100000 ![] bcast_S_S64x8x100000),
    TRef.binary main_call0_call0.v148 main_call0_call0.v152 main_call0_call0.v153 Host.shrui,
    TRef.binary main_call0_call0.v151 main_call0_call0.v153 main_call0_call0.v154 ori,
    TRef.binary main_call0_call0.v149 main_call0_call0.v154 main_call0_call0.v155 xori ]

/-- The buffers they write. -/
abbrev round18W : List (Ref sig .tc) :=
  [main_call0_call0.v149.ref, main_call0_call0.c_38.ref, main_call0_call0.v150.ref, main_call0_call0.v151.ref, main_call0_call0.c_39.ref, main_call0_call0.v152.ref, main_call0_call0.v153.ref, main_call0_call0.v154.ref, main_call0_call0.v155.ref]

theorem round18_keep (V : Valuation τ sig (Elt F)) {r : Ref sig .tc} (h : r ∉ round18W) :
    after round18 V (Proc.devRef .tc r) = V (Proc.devRef .tc r) :=
  after_of_writes_sub (W := round18W) round18 V (forall_writes_sub_of_map rfl) h

theorem round18_sub : (round18 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub ..⟩

theorem round18_fresh : (round18 : List (HloOp τ sig (Elt F))).Forall fun op => op.fresh = ∅ :=
  forall_fresh_of_map rfl

/-- Round 19. -/
abbrev round19 : List (HloOp τ sig (Elt F)) :=
  [ TRef.binary main_call0_call0.v149 main_call0_call0.v155 main_call0_call0.v156 addi,
    TRef.nullary main_call0_call0.c_40 (constantI S_ 32 26#32),
    TRef.unary main_call0_call0.c_40 main_call0_call0.v157 (broadcastInDim S64x8x100000 ![] bcast_S_S64x8x100000),
    TRef.binary main_call0_call0.v155 main_call0_call0.v157 main_call0_call0.v158 Host.shli,
    TRef.nullary main_call0_call0.c_41 (constantI S_ 32 6#32),
    TRef.unary main_call0_call0.c_41 main_call0_call0.v159 (broadcastInDim S64x8x100000 ![] bcast_S_S64x8x100000),
    TRef.binary main_call0_call0.v155 main_call0_call0.v159 main_call0_call0.v160 Host.shrui,
    TRef.binary main_call0_call0.v158 main_call0_call0.v160 main_call0_call0.v161 ori,
    TRef.binary main_call0_call0.v156 main_call0_call0.v161 main_call0_call0.v162 xori ]

/-- The buffers they write. -/
abbrev round19W : List (Ref sig .tc) :=
  [main_call0_call0.v156.ref, main_call0_call0.c_40.ref, main_call0_call0.v157.ref, main_call0_call0.v158.ref, main_call0_call0.c_41.ref, main_call0_call0.v159.ref, main_call0_call0.v160.ref, main_call0_call0.v161.ref, main_call0_call0.v162.ref]

theorem round19_keep (V : Valuation τ sig (Elt F)) {r : Ref sig .tc} (h : r ∉ round19W) :
    after round19 V (Proc.devRef .tc r) = V (Proc.devRef .tc r) :=
  after_of_writes_sub (W := round19W) round19 V (forall_writes_sub_of_map rfl) h

theorem round19_sub : (round19 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub ..⟩

theorem round19_fresh : (round19 : List (HloOp τ sig (Elt F))).Forall fun op => op.fresh = ∅ :=
  forall_fresh_of_map rfl

/-- Round 20. -/
abbrev round20 : List (HloOp τ sig (Elt F)) :=
  [ TRef.binary main_call0_call0.v156 main_call0_call0.v162 main_call0_call0.v163 addi,
    TRef.nullary main_call0_call0.c_42 (constantI S_ 32 6#32),
    TRef.unary main_call0_call0.c_42 main_call0_call0.v164 (broadcastInDim S64x8x100000 ![] bcast_S_S64x8x100000),
    TRef.binary main_call0_call0.v162 main_call0_call0.v164 main_call0_call0.v165 Host.shli,
    TRef.nullary main_call0_call0.c_43 (constantI S_ 32 26#32),
    TRef.unary main_call0_call0.c_43 main_call0_call0.v166 (broadcastInDim S64x8x100000 ![] bcast_S_S64x8x100000),
    TRef.binary main_call0_call0.v162 main_call0_call0.v166 main_call0_call0.v167 Host.shrui,
    TRef.binary main_call0_call0.v165 main_call0_call0.v167 main_call0_call0.v168 ori,
    TRef.binary main_call0_call0.v163 main_call0_call0.v168 main_call0_call0.v169 xori ]

/-- The buffers they write. -/
abbrev round20W : List (Ref sig .tc) :=
  [main_call0_call0.v163.ref, main_call0_call0.c_42.ref, main_call0_call0.v164.ref, main_call0_call0.v165.ref, main_call0_call0.c_43.ref, main_call0_call0.v166.ref, main_call0_call0.v167.ref, main_call0_call0.v168.ref, main_call0_call0.v169.ref]

theorem round20_keep (V : Valuation τ sig (Elt F)) {r : Ref sig .tc} (h : r ∉ round20W) :
    after round20 V (Proc.devRef .tc r) = V (Proc.devRef .tc r) :=
  after_of_writes_sub (W := round20W) round20 V (forall_writes_sub_of_map rfl) h

theorem round20_sub : (round20 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub ..⟩

theorem round20_fresh : (round20 : List (HloOp τ sig (Elt F))).Forall fun op => op.fresh = ∅ :=
  forall_fresh_of_map rfl

/-- The key words added after round 20. -/
abbrev inject5 : List (HloOp τ sig (Elt F)) :=
  [ TRef.unary main_call0_call0.v1 main_call0_call0.v170 (broadcastInDim S64x8x100000 ![] bcast_S_S64x8x100000),
    TRef.binary main_call0_call0.v163 main_call0_call0.v170 main_call0_call0.v171 addi,
    TRef.unary main_call0.v5 main_call0_call0.v172 (broadcastInDim S64x8x100000 ![] bcast_S_S64x8x100000),
    TRef.binary main_call0_call0.v169 main_call0_call0.v172 main_call0_call0.v173 addi,
    TRef.nullary main_call0_call0.c_44 (constantI S_ 32 5#32),
    TRef.unary main_call0_call0.c_44 main_call0_call0.v174 (broadcastInDim S64x8x100000 ![] bcast_S_S64x8x100000),
    TRef.binary main_call0_call0.v173 main_call0_call0.v174 main_call0_call0.v175 addi ]

/-- The buffers they write. -/
abbrev inject5W : List (Ref sig .tc) :=
  [main_call0_call0.v170.ref, main_call0_call0.v171.ref, main_call0_call0.v172.ref, main_call0_call0.v173.ref, main_call0_call0.c_44.ref, main_call0_call0.v174.ref, main_call0_call0.v175.ref]

theorem inject5_keep (V : Valuation τ sig (Elt F)) {r : Ref sig .tc} (h : r ∉ inject5W) :
    after inject5 V (Proc.devRef .tc r) = V (Proc.devRef .tc r) :=
  after_of_writes_sub (W := inject5W) inject5 V (forall_writes_sub_of_map rfl) h

theorem inject5_sub : (inject5 : List (HloOp τ sig (Elt F))).Forall fun op => op.bufs ⊆ tcRefs τ sig :=
  ⟨unary_bufs_sub .., binary_bufs_sub .., unary_bufs_sub .., binary_bufs_sub .., nullary_bufs_sub .., unary_bufs_sub .., binary_bufs_sub ..⟩

theorem inject5_fresh : (inject5 : List (HloOp τ sig (Elt F))).Forall fun op => op.fresh = ∅ :=
  forall_fresh_of_map rfl

end Cert.Proof.Ref

end
-- ==== Proof.RefOps.lean ====
/-
  The reference as a straight line of host operations: its main function with the called functions written out, cut into
  stretches; with each stretch the buffers that it writes and the statement that it keeps every other buffer.
-/
module

public import Idealize.ShloMosaic.Lib.StableHlo.Run
public import proofs.«01_k».proof.Proof.Gen.ReferenceIdeal
public import proofs.«01_k».proof.Proof.RefHashOps

@[expose] public section

noncomputable section

namespace Cert.Proof.Ref

open Cert.ReferenceIdeal Cert.ReferenceIdeal.Gen
open Idealize.ShloMosaic Idealize.ShloMosaic.TcCoe Idealize.ShloMosaic.StableHlo Idealize.SL.Sem

variable {F : FTy → Type} [FloatOps F]

/-- The logits reshaped, the two key words and the bounds of the uniform draw. -/
abbrev opsKey : List (HloOp τ sig (Elt F)) :=
  [ reshape main_arg0 main_v0 (rfl : (.f32 : EltTy) = .f32) shapeCasts_S64x8x1x100000_S64x8x100000,
    nullary main_c (constantI S_ 32 42#32),
    nullary main_c_0 (constantI S_ 32 32#32),
    binary main_c main_c_0 main_v1 (Host.shrui : (⟨S_, .i32⟩ : BufTy).Contents (Elt F) → (⟨S_, .i32⟩ : BufTy).Contents (Elt F) → (⟨S_, .i32⟩ : BufTy).Contents (Elt F)),
    unary main_v1 main_v2 (id : (⟨S_, .i32⟩ : BufTy).Contents (Elt F) → (⟨S_, .i32⟩ : BufTy).Contents (Elt F)),
    unary main_v2 main_v3 (broadcastInDim S1 ![] bcast_S_S1 : (⟨S_, .i32⟩ : BufTy).Contents (Elt F) → (⟨S1, .i32⟩ : BufTy).Contents (Elt F)),
    nullary main_c_1 (constantI S_ 32 4294967295#32),
    binary main_c main_c_1 main_v4 (andi : (⟨S_, .i32⟩ : BufTy).Contents (Elt F) → (⟨S_, .i32⟩ : BufTy).Contents (Elt F) → (⟨S_, .i32⟩ : BufTy).Contents (Elt F)),
    unary main_v4 main_v5 (id : (⟨S_, .i32⟩ : BufTy).Contents (Elt F) → (⟨S_, .i32⟩ : BufTy).Contents (Elt F)),
    unary main_v5 main_v6 (broadcastInDim S1 ![] bcast_S_S1 : (⟨S_, .i32⟩ : BufTy).Contents (Elt F) → (⟨S1, .i32⟩ : BufTy).Contents (Elt F)),
    binary main_v3 main_v6 main_v7 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    nullary main_cst (constant S_ .f32 0x00000000#32),
    nullary main_cst_2 (constant S_ .f32 0x3F800000#32) ]

/-- The buffers they write. -/
abbrev opsKeyW : List (Ref sig .tc) :=
  [main_v0, main_c, main_c_0, main_v1, main_v2, main_v3, main_c_1, main_v4, main_v5, main_v6, main_v7, main_cst, main_cst_2]

theorem opsKey_keep (V : Valuation τ sig (Elt F)) {r : Ref sig .tc} (h : r ∉ opsKeyW) :
    after opsKey V (Proc.devRef .tc r) = V (Proc.devRef .tc r) :=
  after_of_writes_sub (W := opsKeyW) opsKey V (forall_writes_sub_of_map rfl) h

theorem opsKey_sub : (opsKey : List (HloOp τ sig (Elt F))).Forall fun op => op.bufs ⊆ tcRefs τ sig :=
  ⟨reshape_bufs_sub .., nullary_bufs_sub .., nullary_bufs_sub .., binary_bufs_sub .., unary_bufs_sub .., unary_bufs_sub .., nullary_bufs_sub .., binary_bufs_sub .., unary_bufs_sub .., unary_bufs_sub .., binary_bufs_sub .., nullary_bufs_sub .., nullary_bufs_sub ..⟩

theorem opsKey_fresh : (opsKey : List (HloOp τ sig (Elt F))).Forall fun op => op.fresh = ∅ :=
  forall_fresh_of_map rfl

/-- The counter of each element, and the key words apart. -/
abbrev opsCtr : List (HloOp τ sig (Elt F)) :=
  [ TRef.unary (.of main_cst : TRef sig ⟨S_, .f32⟩) main_call0.v0 id,
    TRef.unary (.of main_cst_2 : TRef sig ⟨S_, .f32⟩) main_call0.v1 id,
    TRef.unary main_call0.v0 main_call0.v2 (broadcastInDim S1x1x1 ![] bcast_S_S1x1x1),
    TRef.unary main_call0.v1 main_call0.v3 (broadcastInDim S1x1x1 ![] bcast_S_S1x1x1),
    TRef.unary (.of main_v7 : TRef sig ⟨S2, .i32⟩) main_call0.v4 (extractStridedSlice S1 ![0] · slices_S2_S1_0),
    TRef.reshape main_call0.v4 main_call0.v5 (rfl : (.i32 : EltTy) = .i32) shapeCasts_S1_S_,
    TRef.unary (.of main_v7 : TRef sig ⟨S2, .i32⟩) main_call0.v6 (extractStridedSlice S1 ![1] · slices_S2_S1_1),
    TRef.reshape main_call0.v6 main_call0.v7 (rfl : (.i32 : EltTy) = .i32) shapeCasts_S1_S_,
    TRef.nullary main_call0.v8 (iotaInDim S64x8x100000 64 0),
    TRef.nullary main_call0.v9 (iotaInDim S64x8x100000 64 1),
    TRef.nullary main_call0.v10 (iotaInDim S64x8x100000 64 2),
    TRef.nullary main_call0.c (constantI S_ 64 800000#64),
    TRef.unary main_call0.c main_call0.v11 (broadcastInDim S64x8x100000 ![] bcast_S_S64x8x100000),
    TRef.binary main_call0.v11 main_call0.v8 main_call0.v12 muli,
    TRef.nullary main_call0.c_0 (constantI S_ 64 100000#64),
    TRef.unary main_call0.c_0 main_call0.v13 (broadcastInDim S64x8x100000 ![] bcast_S_S64x8x100000),
    TRef.binary main_call0.v13 main_call0.v9 main_call0.v14 muli,
    TRef.nullary main_call0.c_1 (constantI S_ 64 1#64),
    TRef.unary main_call0.c_1 main_call0.v15 (broadcastInDim S64x8x100000 ![] bcast_S_S64x8x100000),
    TRef.binary main_call0.v15 main_call0.v10 main_call0.v16 muli,
    TRef.binary main_call0.v12 main_call0.v14 main_call0.v17 addi,
    TRef.binary main_call0.v17 main_call0.v16 main_call0.v18 addi,
    TRef.nullary main_call0.c_2 (constantI S_ 64 32#64),
    TRef.unary main_call0.c_2 main_call0.v19 (broadcastInDim S64x8x100000 ![] bcast_S_S64x8x100000),
    TRef.binary main_call0.v18 main_call0.v19 main_call0.v20 Host.shrui,
    TRef.unary main_call0.v18 main_call0.v21 (trunci 32 · natLt_32_64),
    TRef.unary main_call0.v20 main_call0.v22 (trunci 32 · natLt_32_64) ]

/-- The buffers they write. -/
abbrev opsCtrW : List (Ref sig .tc) :=
  [main_call0.v0.ref, main_call0.v1.ref, main_call0.v2.ref, main_call0.v3.ref, main_call0.v4.ref, main_call0.v5.ref, main_call0.v6.ref, main_call0.v7.ref, main_call0.v8.ref, main_call0.v9.ref, main_call0.v10.ref, main_call0.c.ref, main_call0.v11.ref, main_call0.v12.ref, main_call0.c_0.ref, main_call0.v13.ref, main_call0.v14.ref, main_call0.c_1.ref, main_call0.v15.ref, main_call0.v16.ref, main_call0.v17.ref, main_call0.v18.ref, main_call0.c_2.ref, main_call0.v19.ref, main_call0.v20.ref, main_call0.v21.ref, main_call0.v22.ref]

theorem opsCtr_keep (V : Valuation τ sig (Elt F)) {r : Ref sig .tc} (h : r ∉ opsCtrW) :
    after opsCtr V (Proc.devRef .tc r) = V (Proc.devRef .tc r) :=
  after_of_writes_sub (W := opsCtrW) opsCtr V (forall_writes_sub_of_map rfl) h

theorem opsCtr_sub : (opsCtr : List (HloOp τ sig (Elt F))).Forall fun op => op.bufs ⊆ tcRefs τ sig :=
  ⟨unary_bufs_sub .., unary_bufs_sub .., unary_bufs_sub .., unary_bufs_sub .., unary_bufs_sub .., reshape_bufs_sub .., unary_bufs_sub .., reshape_bufs_sub .., nullary_bufs_sub .., nullary_bufs_sub .., nullary_bufs_sub .., nullary_bufs_sub .., unary_bufs_sub .., binary_bufs_sub .., nullary_bufs_sub .., unary_bufs_sub .., binary_bufs_sub .., nullary_bufs_sub .., unary_bufs_sub .., binary_bufs_sub .., binary_bufs_sub .., binary_bufs_sub .., nullary_bufs_sub .., unary_bufs_sub .., binary_bufs_sub .., unary_bufs_sub .., unary_bufs_sub ..⟩

theorem opsCtr_fresh : (opsCtr : List (HloOp τ sig (Elt F))).Forall fun op => op.fresh = ∅ :=
  forall_fresh_of_map rfl

/-- From the cipher's two words to the uniform draw. -/
abbrev opsUni : List (HloOp τ sig (Elt F)) :=
  [ TRef.binary main_call0.call0.v171 main_call0.call0.v175 main_call0.v24 xori,
    TRef.nullary main_call0.c_3 (constantI S_ 32 9#32),
    TRef.unary main_call0.c_3 main_call0.v25 (broadcastInDim S64x8x100000 ![] bcast_S_S64x8x100000),
    TRef.binary main_call0.v24 main_call0.v25 main_call0.v26 Host.shrui,
    TRef.nullary main_call0.c_4 (constantI S_ 32 1065353216#32),
    TRef.unary main_call0.c_4 main_call0.v27 (broadcastInDim S64x8x100000 ![] bcast_S_S64x8x100000),
    TRef.binary main_call0.v26 main_call0.v27 main_call0.v28 ori,
    TRef.unary main_call0.v28 main_call0.v29 (bitcastToFloat .f32),
    TRef.nullary main_call0.cst (constant S_ .f32 0x3F800000#32),
    TRef.unary main_call0.cst main_call0.v30 (broadcastInDim S64x8x100000 ![] bcast_S_S64x8x100000),
    TRef.binary main_call0.v29 main_call0.v30 main_call0.v31 subf,
    TRef.binary main_call0.v3 main_call0.v2 main_call0.v32 subf,
    TRef.unary main_call0.v32 main_call0.v33 (broadcastInDim S64x8x100000 ![0, 1, 2] bcast_S1x1x1_S64x8x100000_0_1_2),
    TRef.binary main_call0.v31 main_call0.v33 main_call0.v34 mulf,
    TRef.unary main_call0.v2 main_call0.v35 (broadcastInDim S64x8x100000 ![0, 1, 2] bcast_S1x1x1_S64x8x100000_0_1_2),
    TRef.binary main_call0.v34 main_call0.v35 main_call0.v36 addf,
    TRef.unary main_call0.v2 main_call0.v37 (broadcastInDim S64x8x100000 ![0, 1, 2] bcast_S1x1x1_S64x8x100000_0_1_2),
    TRef.binary main_call0.v37 main_call0.v36 main_call0.v38 maximumf ]

/-- The buffers they write. -/
abbrev opsUniW : List (Ref sig .tc) :=
  [main_call0.v24.ref, main_call0.c_3.ref, main_call0.v25.ref, main_call0.v26.ref, main_call0.c_4.ref, main_call0.v27.ref, main_call0.v28.ref, main_call0.v29.ref, main_call0.cst.ref, main_call0.v30.ref, main_call0.v31.ref, main_call0.v32.ref, main_call0.v33.ref, main_call0.v34.ref, main_call0.v35.ref, main_call0.v36.ref, main_call0.v37.ref, main_call0.v38.ref]

theorem opsUni_keep (V : Valuation τ sig (Elt F)) {r : Ref sig .tc} (h : r ∉ opsUniW) :
    after opsUni V (Proc.devRef .tc r) = V (Proc.devRef .tc r) :=
  after_of_writes_sub (W := opsUniW) opsUni V (forall_writes_sub_of_map rfl) h

theorem opsUni_sub : (opsUni : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., unary_bufs_sub .., nullary_bufs_sub .., unary_bufs_sub .., binary_bufs_sub .., binary_bufs_sub .., unary_bufs_sub .., binary_bufs_sub .., unary_bufs_sub .., binary_bufs_sub .., unary_bufs_sub .., binary_bufs_sub ..⟩

theorem opsUni_fresh : (opsUni : List (HloOp τ sig (Elt F))).Forall fun op => op.fresh = ∅ :=
  forall_fresh_of_map rfl

/-- From the uniform draw to the perturbed logits. -/
abbrev opsGum : List (HloOp τ sig (Elt F)) :=
  [ nullary main_cst_3 (constant S_ .f32 0x3F800000#32),
    unary main_cst_3 main_v9 (broadcastInDim S64x8x100000 ![] bcast_S_S64x8x100000 : (⟨S_, .f32⟩ : BufTy).Contents (Elt F) → (⟨S64x8x100000, .f32⟩ : BufTy).Contents (Elt F)),
    binary main_v8 main_v9 main_v10 (mulf : (⟨S64x8x100000, .f32⟩ : BufTy).Contents (Elt F) → (⟨S64x8x100000, .f32⟩ : BufTy).Contents (Elt F) → (⟨S64x8x100000, .f32⟩ : BufTy).Contents (Elt F)),
    nullary main_cst_4 (constant S_ .f32 0x00800000#32),
    unary main_cst_4 main_v11 (broadcastInDim S64x8x100000 ![] bcast_S_S64x8x100000 : (⟨S_, .f32⟩ : BufTy).Contents (Elt F) → (⟨S64x8x100000, .f32⟩ : BufTy).Contents (Elt F)),
    binary main_v10 main_v11 main_v12 (addf : (⟨S64x8x100000, .f32⟩ : BufTy).Contents (Elt F) → (⟨S64x8x100000, .f32⟩ : BufTy).Contents (Elt F) → (⟨S64x8x100000, .f32⟩ : BufTy).Contents (Elt F)),
    nullary main_cst_5 (constant S_ .f32 0x00800000#32),
    unary main_cst_5 main_v13 (broadcastInDim S64x8x100000 ![] bcast_S_S64x8x100000 : (⟨S_, .f32⟩ : BufTy).Contents (Elt F) → (⟨S64x8x100000, .f32⟩ : BufTy).Contents (Elt F)),
    binary main_v13 main_v12 main_v14 (maximumf : (⟨S64x8x100000, .f32⟩ : BufTy).Contents (Elt F) → (⟨S64x8x100000, .f32⟩ : BufTy).Contents (Elt F) → (⟨S64x8x100000, .f32⟩ : BufTy).Contents (Elt F)),
    unary main_v14 main_v15 (Host.log : (⟨S64x8x100000, .f32⟩ : BufTy).Contents (Elt F) → (⟨S64x8x100000, .f32⟩ : BufTy).Contents (Elt F)),
    unary main_v15 main_v16 (Host.negf : (⟨S64x8x100000, .f32⟩ : BufTy).Contents (Elt F) → (⟨S64x8x100000, .f32⟩ : BufTy).Contents (Elt F)),
    unary main_v16 main_v17 (Host.log : (⟨S64x8x100000, .f32⟩ : BufTy).Contents (Elt F) → (⟨S64x8x100000, .f32⟩ : BufTy).Contents (Elt F)),
    unary main_v17 main_v18 (Host.negf : (⟨S64x8x100000, .f32⟩ : BufTy).Contents (Elt F) → (⟨S64x8x100000, .f32⟩ : BufTy).Contents (Elt F)),
    binary main_v18 main_v0 main_v19 (addf : (⟨S64x8x100000, .f32⟩ : BufTy).Contents (Elt F) → (⟨S64x8x100000, .f32⟩ : BufTy).Contents (Elt F) → (⟨S64x8x100000, .f32⟩ : BufTy).Contents (Elt F)) ]

/-- The buffers they write. -/
abbrev opsGumW : List (Ref sig .tc) :=
  [main_cst_3, main_v9, main_v10, main_cst_4, main_v11, main_v12, main_cst_5, main_v13, main_v14, main_v15, main_v16, main_v17, main_v18, main_v19]

theorem opsGum_keep (V : Valuation τ sig (Elt F)) {r : Ref sig .tc} (h : r ∉ opsGumW) :
    after opsGum V (Proc.devRef .tc r) = V (Proc.devRef .tc r) :=
  after_of_writes_sub (W := opsGumW) opsGum V (forall_writes_sub_of_map rfl) h

theorem opsGum_sub : (opsGum : List (HloOp τ sig (Elt F))).Forall fun op => op.bufs ⊆ tcRefs τ sig :=
  ⟨nullary_bufs_sub .., unary_bufs_sub .., binary_bufs_sub .., nullary_bufs_sub .., unary_bufs_sub .., binary_bufs_sub .., nullary_bufs_sub .., unary_bufs_sub .., binary_bufs_sub .., unary_bufs_sub .., unary_bufs_sub .., unary_bufs_sub .., unary_bufs_sub .., binary_bufs_sub ..⟩

theorem opsGum_fresh : (opsGum : List (HloOp τ sig (Elt F))).Forall fun op => op.fresh = ∅ :=
  forall_fresh_of_map rfl

/-- The arg-max along the columns. -/
abbrev opsArg : List (HloOp τ sig (Elt F)) :=
  [ TRef.nullary main_call1.v0 (iotaInDim S64x8x100000 32 2),
    TRef.nullary main_call1.cst (constant S_ .f32 0xFF800000#32),
    TRef.nullary main_call1.c (constantI S_ 32 0#32),
    TRef.quaternary (.of main_v19 : TRef sig ⟨S64x8x100000, .f32⟩) main_call1.v0 main_call1.cst main_call1.c main_call1.v1_0 (fun x y u v j => (Host.argReduce reducer_argmax_f32_i32 x y u v reducesTo_S64x8x100000_S64x8_d2 h_S_ j).1),
    TRef.quaternary (.of main_v19 : TRef sig ⟨S64x8x100000, .f32⟩) main_call1.v0 main_call1.cst main_call1.c main_call1.v1_1 (fun x y u v j => (Host.argReduce reducer_argmax_f32_i32 x y u v reducesTo_S64x8x100000_S64x8_d2 h_S_ j).2) ]

/-- The buffers they write. -/
abbrev opsArgW : List (Ref sig .tc) :=
  [main_call1.v0.ref, main_call1.cst.ref, main_call1.c.ref, main_call1.v1_0.ref, main_call1.v1_1.ref]

theorem opsArg_keep (V : Valuation τ sig (Elt F)) {r : Ref sig .tc} (h : r ∉ opsArgW) :
    after opsArg V (Proc.devRef .tc r) = V (Proc.devRef .tc r) :=
  after_of_writes_sub (W := opsArgW) opsArg V (forall_writes_sub_of_map rfl) h

theorem opsArg_sub : (opsArg : List (HloOp τ sig (Elt F))).Forall fun op => op.bufs ⊆ tcRefs τ sig :=
  ⟨nullary_bufs_sub .., nullary_bufs_sub .., nullary_bufs_sub .., quaternary_bufs_sub .., quaternary_bufs_sub ..⟩

theorem opsArg_fresh : (opsArg : List (HloOp τ sig (Elt F))).Forall fun op => op.fresh = ∅ :=
  forall_fresh_of_map rfl

/-- The log-softmax along the columns. -/
abbrev opsLsm : List (HloOp τ sig (Elt F)) :=
  [ TRef.nullary main_call2.cst (constant S_ .f32 0xFF800000#32),
    TRef.binary (.of main_v0 : TRef sig ⟨S64x8x100000, .f32⟩) main_call2.cst main_call2.v0 (fun x v => Host.reduce FloatOps.maximumf x v reducesTo_S64x8x100000_S64x8_d2 h_S_),
    TRef.nullary main_call2.cst_0 (constant S_ .f32 0xFF800000#32),
    TRef.unary main_call2.cst_0 main_call2.v1 (broadcastInDim S64x8 ![] bcast_S_S64x8),
    TRef.binary main_call2.v1 main_call2.v0 main_call2.v2 maximumf,
    TRef.unary main_call2.v2 main_call2.v3 (broadcastInDim S64x8x1 ![0, 1] bcast_S64x8_S64x8x1_0_1),
    TRef.unary main_call2.v3 main_call2.v4 (broadcastInDim S64x8x100000 ![0, 1, 2] bcast_S64x8x1_S64x8x100000_0_1_2),
    TRef.binary (.of main_v0 : TRef sig ⟨S64x8x100000, .f32⟩) main_call2.v4 main_call2.v5 subf,
    TRef.unary main_call2.v5 main_call2.v6 Host.exp,
    TRef.nullary main_call2.cst_1 (constant S_ .f32 0x00000000#32),
    TRef.binary main_call2.v6 main_call2.cst_1 main_call2.v7 (fun x v => Host.reduceAdd x v reducesTo_S64x8x100000_S64x8_d2 h_S_),
    TRef.unary main_call2.v7 main_call2.v8 (broadcastInDim S64x8x1 ![0, 1] bcast_S64x8_S64x8x1_0_1),
    TRef.unary main_call2.v8 main_call2.v9 Host.log,
    TRef.unary main_call2.v9 main_call2.v10 (broadcastInDim S64x8x100000 ![0, 1, 2] bcast_S64x8x1_S64x8x100000_0_1_2),
    TRef.binary main_call2.v5 main_call2.v10 main_call2.v11 subf ]

/-- The buffers they write. -/
abbrev opsLsmW : List (Ref sig .tc) :=
  [main_call2.cst.ref, main_call2.v0.ref, main_call2.cst_0.ref, main_call2.v1.ref, main_call2.v2.ref, main_call2.v3.ref, main_call2.v4.ref, main_call2.v5.ref, main_call2.v6.ref, main_call2.cst_1.ref, main_call2.v7.ref, main_call2.v8.ref, main_call2.v9.ref, main_call2.v10.ref, main_call2.v11.ref]

theorem opsLsm_keep (V : Valuation τ sig (Elt F)) {r : Ref sig .tc} (h : r ∉ opsLsmW) :
    after opsLsm V (Proc.devRef .tc r) = V (Proc.devRef .tc r) :=
  after_of_writes_sub (W := opsLsmW) opsLsm V (forall_writes_sub_of_map rfl) h

theorem opsLsm_sub : (opsLsm : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

theorem opsLsm_fresh : (opsLsm : List (HloOp τ sig (Elt F))).Forall fun op => op.fresh = ∅ :=
  forall_fresh_of_map rfl

/-- The sampled columns as an index table. -/
abbrev opsIdx : List (HloOp τ sig (Elt F)) :=
  [ unary main_v20 main_v22 (broadcastInDim S64x8x1 ![0, 1] bcast_S64x8_S64x8x1_0_1 : (⟨S64x8, .i32⟩ : BufTy).Contents (Elt F) → (⟨S64x8x1, .i32⟩ : BufTy).Contents (Elt F)) ]

/-- The buffers they write. -/
abbrev opsIdxW : List (Ref sig .tc) :=
  [main_v22]

theorem opsIdx_keep (V : Valuation τ sig (Elt F)) {r : Ref sig .tc} (h : r ∉ opsIdxW) :
    after opsIdx V (Proc.devRef .tc r) = V (Proc.devRef .tc r) :=
  after_of_writes_sub (W := opsIdxW) opsIdx V (forall_writes_sub_of_map rfl) h

theorem opsIdx_sub : (opsIdx : List (HloOp τ sig (Elt F))).Forall fun op => op.bufs ⊆ tcRefs τ sig :=
  unary_bufs_sub ..

theorem opsIdx_fresh : (opsIdx : List (HloOp τ sig (Elt F))).Forall fun op => op.fresh = ∅ :=
  forall_fresh_of_map rfl

/-- The log-softmax taken at the index table. -/
abbrev opsTak : List (HloOp τ sig (Elt F)) :=
  [ TRef.nullary main_call3.c (constantI S_ 32 0#32),
    TRef.unary main_call3.c main_call3.v0 (broadcastInDim S64x8x1 ![] bcast_S_S64x8x1),
    TRef.binary (.of main_v22 : TRef sig ⟨S64x8x1, .i32⟩) main_call3.v0 main_call3.v1 (cmpi .slt),
    TRef.nullary main_call3.c_0 (constantI S_ 32 100000#32),
    TRef.unary main_call3.c_0 main_call3.v2 (broadcastInDim S64x8x1 ![] bcast_S_S64x8x1),
    TRef.binary (.of main_v22 : TRef sig ⟨S64x8x1, .i32⟩) main_call3.v2 main_call3.v3 addi,
    TRef.ternary main_call3.v1 main_call3.v3 (.of main_v22 : TRef sig ⟨S64x8x1, .i32⟩) main_call3.v4 select,
    TRef.reshape main_call3.v4 main_call3.v5 (rfl : (.i32 : EltTy) = .i32) shapeCasts_S64x8x1_S64x8x1x1,
    TRef.nullary main_call3.c_1 (constantI S1 32 99999#32),
    TRef.nullary main_call3.c_2 (constantI S_ 32 0#32),
    TRef.unary main_call3.c_2 main_call3.v6 (broadcastInDim S64x8x1x1 ![] bcast_S_S64x8x1x1),
    TRef.binary main_call3.v5 main_call3.v6 main_call3.v7 (cmpi .sge),
    TRef.unary main_call3.c_1 main_call3.v8 (broadcastInDim S1x1x1x1 ![3] bcast_S1_S1x1x1x1_3),
    TRef.unary main_call3.v8 main_call3.v9 (broadcastInDim S64x8x1x1 ![0, 1, 2, 3] bcast_S1x1x1x1_S64x8x1x1_0_1_2_3),
    TRef.binary main_call3.v5 main_call3.v9 main_call3.v10 (cmpi .sle),
    TRef.binary main_call3.v7 main_call3.v10 main_call3.v11 andi,
    TRef.nullary main_call3.c_3 (constantI S_ 1 1#1),
    TRef.binary main_call3.v11 main_call3.c_3 main_call3.v12 (fun x v => Host.reduce IntOp.andi x v reducesTo_S64x8x1x1_S64x8x1_d3 h_S_),
    TRef.binary (.of main_v21 : TRef sig ⟨S64x8x100000, .f32⟩) main_call3.v5 main_call3.v13 (fun x i => Host.gather gather_S64x8x100000_S64x8x1x1_S64x8x1_n_2_01_01_2_3_111 x i),
    TRef.nullary main_call3.cst (constant S_ .f32 0x7FC00000#32),
    TRef.unary main_call3.cst main_call3.v14 (broadcastInDim S64x8x1 ![] bcast_S_S64x8x1),
    TRef.ternary main_call3.v12 main_call3.v13 main_call3.v14 main_call3.v15 select ]

/-- The buffers they write. -/
abbrev opsTakW : List (Ref sig .tc) :=
  [main_call3.c.ref, main_call3.v0.ref, main_call3.v1.ref, main_call3.c_0.ref, main_call3.v2.ref, main_call3.v3.ref, main_call3.v4.ref, main_call3.v5.ref, main_call3.c_1.ref, main_call3.c_2.ref, main_call3.v6.ref, main_call3.v7.ref, main_call3.v8.ref, main_call3.v9.ref, main_call3.v10.ref, main_call3.v11.ref, main_call3.c_3.ref, main_call3.v12.ref, main_call3.v13.ref, main_call3.cst.ref, main_call3.v14.ref, main_call3.v15.ref]

theorem opsTak_keep (V : Valuation τ sig (Elt F)) {r : Ref sig .tc} (h : r ∉ opsTakW) :
    after opsTak V (Proc.devRef .tc r) = V (Proc.devRef .tc r) :=
  after_of_writes_sub (W := opsTakW) opsTak V (forall_writes_sub_of_map rfl) h

theorem opsTak_sub : (opsTak : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub ..⟩

theorem opsTak_fresh : (opsTak : List (HloOp τ sig (Elt F))).Forall fun op => op.fresh = ∅ :=
  forall_fresh_of_map rfl

/-- The sum over the eight rows. -/
abbrev opsSum : List (HloOp τ sig (Elt F)) :=
  [ reshape main_v23 main_v24 (rfl : (.f32 : EltTy) = .f32) shapeCasts_S64x8x1_S64x8,
    nullary main_cst_6 (constant S_ .f32 0x00000000#32),
    binary main_v24 main_cst_6 main_v25 ((fun x v => Host.reduceAdd x v reducesTo_S64x8_S64_d1 h_S_) : (⟨S64x8, .f32⟩ : BufTy).Contents (Elt F) → (⟨S_, .f32⟩ : BufTy).Contents (Elt F) → (⟨S64, .f32⟩ : BufTy).Contents (Elt F)) ]

/-- The buffers they write. -/
abbrev opsSumW : List (Ref sig .tc) :=
  [main_v24, main_cst_6, main_v25]

theorem opsSum_keep (V : Valuation τ sig (Elt F)) {r : Ref sig .tc} (h : r ∉ opsSumW) :
    after opsSum V (Proc.devRef .tc r) = V (Proc.devRef .tc r) :=
  after_of_writes_sub (W := opsSumW) opsSum V (forall_writes_sub_of_map rfl) h

theorem opsSum_sub : (opsSum : List (HloOp τ sig (Elt F))).Forall fun op => op.bufs ⊆ tcRefs τ sig :=
  ⟨reshape_bufs_sub .., nullary_bufs_sub .., binary_bufs_sub ..⟩

theorem opsSum_fresh : (opsSum : List (HloOp τ sig (Elt F))).Forall fun op => op.fresh = ∅ :=
  forall_fresh_of_map rfl

/-- The whole line. -/
abbrev ops : List (HloOp τ sig (Elt F)) :=
  opsKey ++ (opsCtr ++ (hash0 ++ (round1 ++ (round2 ++ (round3 ++ (round4 ++ (inject1 ++ (round5 ++ (round6 ++ (round7 ++ (round8 ++ (inject2 ++ (round9 ++ (round10 ++ (round11 ++ (round12 ++ (inject3 ++ (round13 ++ (round14 ++ (round15 ++ (round16 ++ (inject4 ++ (round17 ++ (round18 ++ (round19 ++ (round20 ++ (inject5 ++ (opsUni ++ (opsGum ++ (opsArg ++ (opsLsm ++ (opsIdx ++ (opsTak ++ (opsSum))))))))))))))))))))))))))))))))))

set_option maxRecDepth 100000 in
/-- The main function is that line. -/
theorem main_eq (c : Dev nD) : main (F := F) c = seq ops := rfl

/-- Every operation touches buffers of the TensorCore only, -/
theorem ops_sub : (ops : List (HloOp τ sig (Elt F))).Forall fun op => op.bufs ⊆ tcRefs τ sig := by
  simp only [ops, List.forall_append]
  exact ⟨opsKey_sub, opsCtr_sub, hash0_sub, round1_sub, round2_sub, round3_sub, round4_sub, inject1_sub, round5_sub, round6_sub, round7_sub, round8_sub, inject2_sub, round9_sub, round10_sub, round11_sub, round12_sub, inject3_sub, round13_sub, round14_sub, round15_sub, round16_sub, inject4_sub, round17_sub, round18_sub, round19_sub, round20_sub, inject5_sub, opsUni_sub, opsGum_sub, opsArg_sub, opsLsm_sub, opsIdx_sub, opsTak_sub, opsSum_sub⟩

/-- and determines its results. -/
theorem ops_fresh : (ops : List (HloOp τ sig (Elt F))).Forall fun op => op.fresh = ∅ := by
  simp only [ops, List.forall_append]
  exact ⟨opsKey_fresh, opsCtr_fresh, hash0_fresh, round1_fresh, round2_fresh, round3_fresh, round4_fresh, inject1_fresh, round5_fresh, round6_fresh, round7_fresh, round8_fresh, inject2_fresh, round9_fresh, round10_fresh, round11_fresh, round12_fresh, inject3_fresh, round13_fresh, round14_fresh, round15_fresh, round16_fresh, inject4_fresh, round17_fresh, round18_fresh, round19_fresh, round20_fresh, inject5_fresh, opsUni_fresh, opsGum_fresh, opsArg_fresh, opsLsm_fresh, opsIdx_fresh, opsTak_fresh, opsSum_fresh⟩

/-- Nothing is scoped on this signature. -/
theorem scopedRefs_eq : (Finset.univ.filter fun b : Ref sig .tc => b.isScoped) = ∅ := by decide +kernel
theorem scopedSems_eq : (Finset.univ.filter fun sm : SemLoc sig => sm.isScoped .tc) = ∅ := by decide

/-- Two lines run one after the other. -/
theorem after_two (l₁ l₂ : List (HloOp τ sig (Elt F))) (V : Valuation τ sig (Elt F)) : after (l₁ ++ l₂) V = after l₂ (after l₁ V) := by
  induction l₁ generalizing V with
  | nil => rfl
  | cons op l ih => exact ih (op.result V)

/-- The contents of the buffers after the whole line, from contents `V` before it. -/
def fin (V : Valuation τ sig (Elt F)) : Valuation τ sig (Elt F) := after ops V

/-- The argument keeps its contents. -/
theorem fin_arg0 (V : Valuation τ sig (Elt F)) : fin V (main_arg0 : DevRef τ sig) = V (main_arg0 : DevRef τ sig) := by
  unfold fin ops
  simp only [after_two]
  rw [opsSum_keep _ (by decide)]
  rw [opsTak_keep _ (by decide)]
  rw [opsIdx_keep _ (by decide)]
  rw [opsLsm_keep _ (by decide)]
  rw [opsArg_keep _ (by decide)]
  rw [opsGum_keep _ (by decide)]
  rw [opsUni_keep _ (by decide)]
  rw [inject5_keep _ (by decide)]
  rw [round20_keep _ (by decide)]
  rw [round19_keep _ (by decide)]
  rw [round18_keep _ (by decide)]
  rw [round17_keep _ (by decide)]
  rw [inject4_keep _ (by decide)]
  rw [round16_keep _ (by decide)]
  rw [round15_keep _ (by decide)]
  rw [round14_keep _ (by decide)]
  rw [round13_keep _ (by decide)]
  rw [inject3_keep _ (by decide)]
  rw [round12_keep _ (by decide)]
  rw [round11_keep _ (by decide)]
  rw [round10_keep _ (by decide)]
  rw [round9_keep _ (by decide)]
  rw [inject2_keep _ (by decide)]
  rw [round8_keep _ (by decide)]
  rw [round7_keep _ (by decide)]
  rw [round6_keep _ (by decide)]
  rw [round5_keep _ (by decide)]
  rw [inject1_keep _ (by decide)]
  rw [round4_keep _ (by decide)]
  rw [round3_keep _ (by decide)]
  rw [round2_keep _ (by decide)]
  rw [round1_keep _ (by decide)]
  rw [hash0_keep _ (by decide)]
  rw [opsCtr_keep _ (by decide)]
  rw [opsKey_keep _ (by decide)]

/-- From any memory with zero counters every weakly fair execution of the main function on the TensorCores terminates, and every
    final state has each buffer at `fin` of the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = fin (launchContents m c) (Proc.devRef .tc b) :=
  run_seq scopedRefs_eq scopedSems_eq defs main (fun _ => ops) main_eq (fun _ => ops_sub) m ρ
    (fun _ => List.forall_iff_forall_mem.mp ops_fresh)

end Cert.Proof.Ref

end
-- ==== Proof.RefHash.lean ====
/-
  The reference's block cipher, value by value: after its operations the two result buffers hold the cipher's two words.
-/
module

public import proofs.«01_k».proof.Proof.RefOps
public import proofs.«01_k».proof.Proof.Hash
public import Idealize.ShloMosaic.Lib.ValueIdx

@[expose] public section

noncomputable section

namespace Cert.Proof.Ref

open Cert.ReferenceIdeal Cert.ReferenceIdeal.Gen
open Idealize.ShloMosaic Idealize.ShloMosaic.TcCoe Idealize.ShloMosaic.StableHlo Idealize.SL.Sem

variable {F : FTy → Type} [FloatOps F]

/-- An array of words, a single word, an array of floats and a single float. -/
abbrev word (x : S64x8x100000.Idx → BitVec 32) : S64x8x100000.Idx → BitVec 32 := x
abbrev single (x : S_.Idx → BitVec 32) : S_.Idx → BitVec 32 := x
abbrev Logits (F : FTy → Type) := S64x8x100000.Idx → F .f32
abbrev One (F : FTy → Type) := S1x1x1.Idx → F .f32
abbrev logits (x : Logits F) : Logits F := x
abbrev one (x : One F) : One F := x

/-- A single word added to every element. -/
abbrev plus (x : S64x8x100000.Idx → BitVec 32) (y : S_.Idx → BitVec 32) : S64x8x100000.Idx → BitVec 32 :=
  addi x (broadcastInDim S64x8x100000 ![] bcast_S_S64x8x100000 y)

/-- The second word of a round. -/
abbrev turned (r s : BitVec 32) (x y : S64x8x100000.Idx → BitVec 32) : S64x8x100000.Idx → BitVec 32 :=
  xori (addi x y) (ori (Host.shli y (broadcastInDim S64x8x100000 ![] bcast_S_S64x8x100000 (constantI S_ 32 r)))
    (Host.shrui y (broadcastInDim S64x8x100000 ![] bcast_S_S64x8x100000 (constantI S_ 32 s))))

theorem turn (r s : BitVec 32) (x y : S64x8x100000.Idx → BitVec 32) (j : S64x8x100000.Idx) :
    (addi x y j, turned r s x y j) = rnd r s (x j, y j) := by
  refine Prod.ext rfl ?_
  show IntOp.xori (IntOp.addi (x j) (y j)) (IntOp.ori (IntOp.shli .host (y j) r) (IntOp.shrui .host (y j) s))
    = IntOp.xori (IntOp.ori (IntOp.shli .vector (y j) r) (IntOp.shrui .vector (y j) s)) (IntOp.addi (x j) (y j))
  rw [ValueIdx.shli_host, ValueIdx.shrui_host]
  exact BitVec.xor_comm _ _

/-- What every operation of the cipher leaves alone: the key words, the logits and the two bounds of the draw. -/
structure Keyed (V : Valuation τ sig (Elt F)) (L : Logits F) (A B : One F) : Prop where
  key0 : single (V (Proc.devRef .tc main_call0_v5)) = constantI S_ 32 0#32
  key1 : single (V (Proc.devRef .tc main_call0_v7)) = constantI S_ 32 42#32
  key2 : single (V (Proc.devRef .tc main_call0_call0_v1)) = constantI S_ 32 key2
  lg : logits (V (Proc.devRef .tc main_v0)) = L
  lo : one (V (Proc.devRef .tc main_call0_v2)) = A
  hi : one (V (Proc.devRef .tc main_call0_v3)) = B

theorem Keyed.of_eq {V W : Valuation τ sig (Elt F)} {L : Logits F} {A B : One F} (h : Keyed V L A B)
    (e : ∀ r : Ref sig .tc, r ∈ [main_call0_v5, main_call0_v7, main_call0_call0_v1, main_v0, main_call0_v2, main_call0_v3] →
      W (Proc.devRef .tc r) = V (Proc.devRef .tc r)) : Keyed W L A B :=
  ⟨(e _ (by decide)).trans h.key0, (e _ (by decide)).trans h.key1, (e _ (by decide)).trans h.key2,
    (e _ (by decide)).trans h.lg, (e _ (by decide)).trans h.lo, (e _ (by decide)).trans h.hi⟩

theorem round1_at (V : Valuation τ sig (Elt F)) (j : S64x8x100000.Idx) :
    (word (after round1 V (Proc.devRef .tc main_call0_call0_v6)) j, word (after round1 V (Proc.devRef .tc main_call0_call0_v12)) j)
      = rnd 13#32 19#32 (word (V (Proc.devRef .tc main_call0_call0_v3)) j, word (V (Proc.devRef .tc main_call0_call0_v5)) j) := by
  have e0 : word (after round1 V (Proc.devRef .tc main_call0_call0_v6)) = addi (word (V (Proc.devRef .tc main_call0_call0_v3))) (word (V (Proc.devRef .tc main_call0_call0_v5))) := by
    after_results_simp; rfl
  have e1 : word (after round1 V (Proc.devRef .tc main_call0_call0_v12)) = turned 13#32 19#32 (word (V (Proc.devRef .tc main_call0_call0_v3))) (word (V (Proc.devRef .tc main_call0_call0_v5))) := by
    after_results_simp; rfl
  rw [e0, e1]; exact turn 13#32 19#32 _ _ j

theorem round1_step {V : Valuation τ sig (Elt F)} {L : Logits F} {A B : One F} {p : S64x8x100000.Idx → BitVec 32 × BitVec 32} (h : Keyed V L A B)
    (hp : ∀ j, (word (V (Proc.devRef .tc main_call0_call0_v3)) j, word (V (Proc.devRef .tc main_call0_call0_v5)) j) = p j) :
    Keyed (after round1 V) L A B ∧ ∀ j, (word (after round1 V (Proc.devRef .tc main_call0_call0_v6)) j, word (after round1 V (Proc.devRef .tc main_call0_call0_v12)) j) = rnd 13#32 19#32 (p j) :=
  ⟨h.of_eq (fun r hr => round1_keep V (by revert r; decide)), fun j => (round1_at V j).trans (congrArg _ (hp j))⟩

theorem round2_at (V : Valuation τ sig (Elt F)) (j : S64x8x100000.Idx) :
    (word (after round2 V (Proc.devRef .tc main_call0_call0_v13)) j, word (after round2 V (Proc.devRef .tc main_call0_call0_v19)) j)
      = rnd 15#32 17#32 (word (V (Proc.devRef .tc main_call0_call0_v6)) j, word (V (Proc.devRef .tc main_call0_call0_v12)) j) := by
  have e0 : word (after round2 V (Proc.devRef .tc main_call0_call0_v13)) = addi (word (V (Proc.devRef .tc main_call0_call0_v6))) (word (V (Proc.devRef .tc main_call0_call0_v12))) := by
    after_results_simp; rfl
  have e1 : word (after round2 V (Proc.devRef .tc main_call0_call0_v19)) = turned 15#32 17#32 (word (V (Proc.devRef .tc main_call0_call0_v6))) (word (V (Proc.devRef .tc main_call0_call0_v12))) := by
    after_results_simp; rfl
  rw [e0, e1]; exact turn 15#32 17#32 _ _ j

theorem round2_step {V : Valuation τ sig (Elt F)} {L : Logits F} {A B : One F} {p : S64x8x100000.Idx → BitVec 32 × BitVec 32} (h : Keyed V L A B)
    (hp : ∀ j, (word (V (Proc.devRef .tc main_call0_call0_v6)) j, word (V (Proc.devRef .tc main_call0_call0_v12)) j) = p j) :
    Keyed (after round2 V) L A B ∧ ∀ j, (word (after round2 V (Proc.devRef .tc main_call0_call0_v13)) j, word (after round2 V (Proc.devRef .tc main_call0_call0_v19)) j) = rnd 15#32 17#32 (p j) :=
  ⟨h.of_eq (fun r hr => round2_keep V (by revert r; decide)), fun j => (round2_at V j).trans (congrArg _ (hp j))⟩

theorem round3_at (V : Valuation τ sig (Elt F)) (j : S64x8x100000.Idx) :
    (word (after round3 V (Proc.devRef .tc main_call0_call0_v20)) j, word (after round3 V (Proc.devRef .tc main_call0_call0_v26)) j)
      = rnd 26#32 6#32 (word (V (Proc.devRef .tc main_call0_call0_v13)) j, word (V (Proc.devRef .tc main_call0_call0_v19)) j) := by
  have e0 : word (after round3 V (Proc.devRef .tc main_call0_call0_v20)) = addi (word (V (Proc.devRef .tc main_call0_call0_v13))) (word (V (Proc.devRef .tc main_call0_call0_v19))) := by
    after_results_simp; rfl
  have e1 : word (after round3 V (Proc.devRef .tc main_call0_call0_v26)) = turned 26#32 6#32 (word (V (Proc.devRef .tc main_call0_call0_v13))) (word (V (Proc.devRef .tc main_call0_call0_v19))) := by
    after_results_simp; rfl
  rw [e0, e1]; exact turn 26#32 6#32 _ _ j

theorem round3_step {V : Valuation τ sig (Elt F)} {L : Logits F} {A B : One F} {p : S64x8x100000.Idx → BitVec 32 × BitVec 32} (h : Keyed V L A B)
    (hp : ∀ j, (word (V (Proc.devRef .tc main_call0_call0_v13)) j, word (V (Proc.devRef .tc main_call0_call0_v19)) j) = p j) :
    Keyed (after round3 V) L A B ∧ ∀ j, (word (after round3 V (Proc.devRef .tc main_call0_call0_v20)) j, word (after round3 V (Proc.devRef .tc main_call0_call0_v26)) j) = rnd 26#32 6#32 (p j) :=
  ⟨h.of_eq (fun r hr => round3_keep V (by revert r; decide)), fun j => (round3_at V j).trans (congrArg _ (hp j))⟩

theorem round4_at (V : Valuation τ sig (Elt F)) (j : S64x8x100000.Idx) :
    (word (after round4 V (Proc.devRef .tc main_call0_call0_v27)) j, word (after round4 V (Proc.devRef .tc main_call0_call0_v33)) j)
      = rnd 6#32 26#32 (word (V (Proc.devRef .tc main_call0_call0_v20)) j, word (V (Proc.devRef .tc main_call0_call0_v26)) j) := by
  have e0 : word (after round4 V (Proc.devRef .tc main_call0_call0_v27)) = addi (word (V (Proc.devRef .tc main_call0_call0_v20))) (word (V (Proc.devRef .tc main_call0_call0_v26))) := by
    after_results_simp; rfl
  have e1 : word (after round4 V (Proc.devRef .tc main_call0_call0_v33)) = turned 6#32 26#32 (word (V (Proc.devRef .tc main_call0_call0_v20))) (word (V (Proc.devRef .tc main_call0_call0_v26))) := by
    after_results_simp; rfl
  rw [e0, e1]; exact turn 6#32 26#32 _ _ j

theorem round4_step {V : Valuation τ sig (Elt F)} {L : Logits F} {A B : One F} {p : S64x8x100000.Idx → BitVec 32 × BitVec 32} (h : Keyed V L A B)
    (hp : ∀ j, (word (V (Proc.devRef .tc main_call0_call0_v20)) j, word (V (Proc.devRef .tc main_call0_call0_v26)) j) = p j) :
    Keyed (after round4 V) L A B ∧ ∀ j, (word (after round4 V (Proc.devRef .tc main_call0_call0_v27)) j, word (after round4 V (Proc.devRef .tc main_call0_call0_v33)) j) = rnd 6#32 26#32 (p j) :=
  ⟨h.of_eq (fun r hr => round4_keep V (by revert r; decide)), fun j => (round4_at V j).trans (congrArg _ (hp j))⟩

theorem inject1_step {V : Valuation τ sig (Elt F)} {L : Logits F} {A B : One F} {p : S64x8x100000.Idx → BitVec 32 × BitVec 32} (h : Keyed V L A B)
    (hp : ∀ j, (word (V (Proc.devRef .tc main_call0_call0_v27)) j, word (V (Proc.devRef .tc main_call0_call0_v33)) j) = p j) :
    Keyed (after inject1 V) L A B ∧ ∀ j, (word (after inject1 V (Proc.devRef .tc main_call0_call0_v35)) j, word (after inject1 V (Proc.devRef .tc main_call0_call0_v39)) j) = keyed 42#32 key2 1#32 (p j) := by
  refine ⟨h.of_eq (fun r hr => inject1_keep V (by revert r; decide)), fun j => ?_⟩
  have e0 : word (after inject1 V (Proc.devRef .tc main_call0_call0_v35)) = plus (word (V (Proc.devRef .tc main_call0_call0_v27))) (single (V (Proc.devRef .tc main_call0_v7))) := by
    after_results_simp; rfl
  have e1 : word (after inject1 V (Proc.devRef .tc main_call0_call0_v39)) = plus (plus (word (V (Proc.devRef .tc main_call0_call0_v33))) (single (V (Proc.devRef .tc main_call0_call0_v1)))) (constantI S_ 32 1#32) := by
    after_results_simp; rfl
  rw [e0, e1, h.key1, h.key2, ← hp j]
  rfl

theorem round5_at (V : Valuation τ sig (Elt F)) (j : S64x8x100000.Idx) :
    (word (after round5 V (Proc.devRef .tc main_call0_call0_v40)) j, word (after round5 V (Proc.devRef .tc main_call0_call0_v46)) j)
      = rnd 17#32 15#32 (word (V (Proc.devRef .tc main_call0_call0_v35)) j, word (V (Proc.devRef .tc main_call0_call0_v39)) j) := by
  have e0 : word (after round5 V (Proc.devRef .tc main_call0_call0_v40)) = addi (word (V (Proc.devRef .tc main_call0_call0_v35))) (word (V (Proc.devRef .tc main_call0_call0_v39))) := by
    after_results_simp; rfl
  have e1 : word (after round5 V (Proc.devRef .tc main_call0_call0_v46)) = turned 17#32 15#32 (word (V (Proc.devRef .tc main_call0_call0_v35))) (word (V (Proc.devRef .tc main_call0_call0_v39))) := by
    after_results_simp; rfl
  rw [e0, e1]; exact turn 17#32 15#32 _ _ j

theorem round5_step {V : Valuation τ sig (Elt F)} {L : Logits F} {A B : One F} {p : S64x8x100000.Idx → BitVec 32 × BitVec 32} (h : Keyed V L A B)
    (hp : ∀ j, (word (V (Proc.devRef .tc main_call0_call0_v35)) j, word (V (Proc.devRef .tc main_call0_call0_v39)) j) = p j) :
    Keyed (after round5 V) L A B ∧ ∀ j, (word (after round5 V (Proc.devRef .tc main_call0_call0_v40)) j, word (after round5 V (Proc.devRef .tc main_call0_call0_v46)) j) = rnd 17#32 15#32 (p j) :=
  ⟨h.of_eq (fun r hr => round5_keep V (by revert r; decide)), fun j => (round5_at V j).trans (congrArg _ (hp j))⟩

theorem round6_at (V : Valuation τ sig (Elt F)) (j : S64x8x100000.Idx) :
    (word (after round6 V (Proc.devRef .tc main_call0_call0_v47)) j, word (after round6 V (Proc.devRef .tc main_call0_call0_v53)) j)
      = rnd 29#32 3#32 (word (V (Proc.devRef .tc main_call0_call0_v40)) j, word (V (Proc.devRef .tc main_call0_call0_v46)) j) := by
  have e0 : word (after round6 V (Proc.devRef .tc main_call0_call0_v47)) = addi (word (V (Proc.devRef .tc main_call0_call0_v40))) (word (V (Proc.devRef .tc main_call0_call0_v46))) := by
    after_results_simp; rfl
  have e1 : word (after round6 V (Proc.devRef .tc main_call0_call0_v53)) = turned 29#32 3#32 (word (V (Proc.devRef .tc main_call0_call0_v40))) (word (V (Proc.devRef .tc main_call0_call0_v46))) := by
    after_results_simp; rfl
  rw [e0, e1]; exact turn 29#32 3#32 _ _ j

theorem round6_step {V : Valuation τ sig (Elt F)} {L : Logits F} {A B : One F} {p : S64x8x100000.Idx → BitVec 32 × BitVec 32} (h : Keyed V L A B)
    (hp : ∀ j, (word (V (Proc.devRef .tc main_call0_call0_v40)) j, word (V (Proc.devRef .tc main_call0_call0_v46)) j) = p j) :
    Keyed (after round6 V) L A B ∧ ∀ j, (word (after round6 V (Proc.devRef .tc main_call0_call0_v47)) j, word (after round6 V (Proc.devRef .tc main_call0_call0_v53)) j) = rnd 29#32 3#32 (p j) :=
  ⟨h.of_eq (fun r hr => round6_keep V (by revert r; decide)), fun j => (round6_at V j).trans (congrArg _ (hp j))⟩

theorem round7_at (V : Valuation τ sig (Elt F)) (j : S64x8x100000.Idx) :
    (word (after round7 V (Proc.devRef .tc main_call0_call0_v54)) j, word (after round7 V (Proc.devRef .tc main_call0_call0_v60)) j)
      = rnd 16#32 16#32 (word (V (Proc.devRef .tc main_call0_call0_v47)) j, word (V (Proc.devRef .tc main_call0_call0_v53)) j) := by
  have e0 : word (after round7 V (Proc.devRef .tc main_call0_call0_v54)) = addi (word (V (Proc.devRef .tc main_call0_call0_v47))) (word (V (Proc.devRef .tc main_call0_call0_v53))) := by
    after_results_simp; rfl
  have e1 : word (after round7 V (Proc.devRef .tc main_call0_call0_v60)) = turned 16#32 16#32 (word (V (Proc.devRef .tc main_call0_call0_v47))) (word (V (Proc.devRef .tc main_call0_call0_v53))) := by
    after_results_simp; rfl
  rw [e0, e1]; exact turn 16#32 16#32 _ _ j

theorem round7_step {V : Valuation τ sig (Elt F)} {L : Logits F} {A B : One F} {p : S64x8x100000.Idx → BitVec 32 × BitVec 32} (h : Keyed V L A B)
    (hp : ∀ j, (word (V (Proc.devRef .tc main_call0_call0_v47)) j, word (V (Proc.devRef .tc main_call0_call0_v53)) j) = p j) :
    Keyed (after round7 V) L A B ∧ ∀ j, (word (after round7 V (Proc.devRef .tc main_call0_call0_v54)) j, word (after round7 V (Proc.devRef .tc main_call0_call0_v60)) j) = rnd 16#32 16#32 (p j) :=
  ⟨h.of_eq (fun r hr => round7_keep V (by revert r; decide)), fun j => (round7_at V j).trans (congrArg _ (hp j))⟩

theorem round8_at (V : Valuation τ sig (Elt F)) (j : S64x8x100000.Idx) :
    (word (after round8 V (Proc.devRef .tc main_call0_call0_v61)) j, word (after round8 V (Proc.devRef .tc main_call0_call0_v67)) j)
      = rnd 24#32 8#32 (word (V (Proc.devRef .tc main_call0_call0_v54)) j, word (V (Proc.devRef .tc main_call0_call0_v60)) j) := by
  have e0 : word (after round8 V (Proc.devRef .tc main_call0_call0_v61)) = addi (word (V (Proc.devRef .tc main_call0_call0_v54))) (word (V (Proc.devRef .tc main_call0_call0_v60))) := by
    after_results_simp; rfl
  have e1 : word (after round8 V (Proc.devRef .tc main_call0_call0_v67)) = turned 24#32 8#32 (word (V (Proc.devRef .tc main_call0_call0_v54))) (word (V (Proc.devRef .tc main_call0_call0_v60))) := by
    after_results_simp; rfl
  rw [e0, e1]; exact turn 24#32 8#32 _ _ j

theorem round8_step {V : Valuation τ sig (Elt F)} {L : Logits F} {A B : One F} {p : S64x8x100000.Idx → BitVec 32 × BitVec 32} (h : Keyed V L A B)
    (hp : ∀ j, (word (V (Proc.devRef .tc main_call0_call0_v54)) j, word (V (Proc.devRef .tc main_call0_call0_v60)) j) = p j) :
    Keyed (after round8 V) L A B ∧ ∀ j, (word (after round8 V (Proc.devRef .tc main_call0_call0_v61)) j, word (after round8 V (Proc.devRef .tc main_call0_call0_v67)) j) = rnd 24#32 8#32 (p j) :=
  ⟨h.of_eq (fun r hr => round8_keep V (by revert r; decide)), fun j => (round8_at V j).trans (congrArg _ (hp j))⟩

theorem inject2_step {V : Valuation τ sig (Elt F)} {L : Logits F} {A B : One F} {p : S64x8x100000.Idx → BitVec 32 × BitVec 32} (h : Keyed V L A B)
    (hp : ∀ j, (word (V (Proc.devRef .tc main_call0_call0_v61)) j, word (V (Proc.devRef .tc main_call0_call0_v67)) j) = p j) :
    Keyed (after inject2 V) L A B ∧ ∀ j, (word (after inject2 V (Proc.devRef .tc main_call0_call0_v69)) j, word (after inject2 V (Proc.devRef .tc main_call0_call0_v73)) j) = keyed key2 0#32 2#32 (p j) := by
  refine ⟨h.of_eq (fun r hr => inject2_keep V (by revert r; decide)), fun j => ?_⟩
  have e0 : word (after inject2 V (Proc.devRef .tc main_call0_call0_v69)) = plus (word (V (Proc.devRef .tc main_call0_call0_v61))) (single (V (Proc.devRef .tc main_call0_call0_v1))) := by
    after_results_simp; rfl
  have e1 : word (after inject2 V (Proc.devRef .tc main_call0_call0_v73)) = plus (plus (word (V (Proc.devRef .tc main_call0_call0_v67))) (single (V (Proc.devRef .tc main_call0_v5)))) (constantI S_ 32 2#32) := by
    after_results_simp; rfl
  rw [e0, e1, h.key2, h.key0, ← hp j]
  rfl

theorem round9_at (V : Valuation τ sig (Elt F)) (j : S64x8x100000.Idx) :
    (word (after round9 V (Proc.devRef .tc main_call0_call0_v74)) j, word (after round9 V (Proc.devRef .tc main_call0_call0_v80)) j)
      = rnd 13#32 19#32 (word (V (Proc.devRef .tc main_call0_call0_v69)) j, word (V (Proc.devRef .tc main_call0_call0_v73)) j) := by
  have e0 : word (after round9 V (Proc.devRef .tc main_call0_call0_v74)) = addi (word (V (Proc.devRef .tc main_call0_call0_v69))) (word (V (Proc.devRef .tc main_call0_call0_v73))) := by
    after_results_simp; rfl
  have e1 : word (after round9 V (Proc.devRef .tc main_call0_call0_v80)) = turned 13#32 19#32 (word (V (Proc.devRef .tc main_call0_call0_v69))) (word (V (Proc.devRef .tc main_call0_call0_v73))) := by
    after_results_simp; rfl
  rw [e0, e1]; exact turn 13#32 19#32 _ _ j

theorem round9_step {V : Valuation τ sig (Elt F)} {L : Logits F} {A B : One F} {p : S64x8x100000.Idx → BitVec 32 × BitVec 32} (h : Keyed V L A B)
    (hp : ∀ j, (word (V (Proc.devRef .tc main_call0_call0_v69)) j, word (V (Proc.devRef .tc main_call0_call0_v73)) j) = p j) :
    Keyed (after round9 V) L A B ∧ ∀ j, (word (after round9 V (Proc.devRef .tc main_call0_call0_v74)) j, word (after round9 V (Proc.devRef .tc main_call0_call0_v80)) j) = rnd 13#32 19#32 (p j) :=
  ⟨h.of_eq (fun r hr => round9_keep V (by revert r; decide)), fun j => (round9_at V j).trans (congrArg _ (hp j))⟩

theorem round10_at (V : Valuation τ sig (Elt F)) (j : S64x8x100000.Idx) :
    (word (after round10 V (Proc.devRef .tc main_call0_call0_v81)) j, word (after round10 V (Proc.devRef .tc main_call0_call0_v87)) j)
      = rnd 15#32 17#32 (word (V (Proc.devRef .tc main_call0_call0_v74)) j, word (V (Proc.devRef .tc main_call0_call0_v80)) j) := by
  have e0 : word (after round10 V (Proc.devRef .tc main_call0_call0_v81)) = addi (word (V (Proc.devRef .tc main_call0_call0_v74))) (word (V (Proc.devRef .tc main_call0_call0_v80))) := by
    after_results_simp; rfl
  have e1 : word (after round10 V (Proc.devRef .tc main_call0_call0_v87)) = turned 15#32 17#32 (word (V (Proc.devRef .tc main_call0_call0_v74))) (word (V (Proc.devRef .tc main_call0_call0_v80))) := by
    after_results_simp; rfl
  rw [e0, e1]; exact turn 15#32 17#32 _ _ j

theorem round10_step {V : Valuation τ sig (Elt F)} {L : Logits F} {A B : One F} {p : S64x8x100000.Idx → BitVec 32 × BitVec 32} (h : Keyed V L A B)
    (hp : ∀ j, (word (V (Proc.devRef .tc main_call0_call0_v74)) j, word (V (Proc.devRef .tc main_call0_call0_v80)) j) = p j) :
    Keyed (after round10 V) L A B ∧ ∀ j, (word (after round10 V (Proc.devRef .tc main_call0_call0_v81)) j, word (after round10 V (Proc.devRef .tc main_call0_call0_v87)) j) = rnd 15#32 17#32 (p j) :=
  ⟨h.of_eq (fun r hr => round10_keep V (by revert r; decide)), fun j => (round10_at V j).trans (congrArg _ (hp j))⟩

theorem round11_at (V : Valuation τ sig (Elt F)) (j : S64x8x100000.Idx) :
    (word (after round11 V (Proc.devRef .tc main_call0_call0_v88)) j, word (after round11 V (Proc.devRef .tc main_call0_call0_v94)) j)
      = rnd 26#32 6#32 (word (V (Proc.devRef .tc main_call0_call0_v81)) j, word (V (Proc.devRef .tc main_call0_call0_v87)) j) := by
  have e0 : word (after round11 V (Proc.devRef .tc main_call0_call0_v88)) = addi (word (V (Proc.devRef .tc main_call0_call0_v81))) (word (V (Proc.devRef .tc main_call0_call0_v87))) := by
    after_results_simp; rfl
  have e1 : word (after round11 V (Proc.devRef .tc main_call0_call0_v94)) = turned 26#32 6#32 (word (V (Proc.devRef .tc main_call0_call0_v81))) (word (V (Proc.devRef .tc main_call0_call0_v87))) := by
    after_results_simp; rfl
  rw [e0, e1]; exact turn 26#32 6#32 _ _ j

theorem round11_step {V : Valuation τ sig (Elt F)} {L : Logits F} {A B : One F} {p : S64x8x100000.Idx → BitVec 32 × BitVec 32} (h : Keyed V L A B)
    (hp : ∀ j, (word (V (Proc.devRef .tc main_call0_call0_v81)) j, word (V (Proc.devRef .tc main_call0_call0_v87)) j) = p j) :
    Keyed (after round11 V) L A B ∧ ∀ j, (word (after round11 V (Proc.devRef .tc main_call0_call0_v88)) j, word (after round11 V (Proc.devRef .tc main_call0_call0_v94)) j) = rnd 26#32 6#32 (p j) :=
  ⟨h.of_eq (fun r hr => round11_keep V (by revert r; decide)), fun j => (round11_at V j).trans (congrArg _ (hp j))⟩

theorem round12_at (V : Valuation τ sig (Elt F)) (j : S64x8x100000.Idx) :
    (word (after round12 V (Proc.devRef .tc main_call0_call0_v95)) j, word (after round12 V (Proc.devRef .tc main_call0_call0_v101)) j)
      = rnd 6#32 26#32 (word (V (Proc.devRef .tc main_call0_call0_v88)) j, word (V (Proc.devRef .tc main_call0_call0_v94)) j) := by
  have e0 : word (after round12 V (Proc.devRef .tc main_call0_call0_v95)) = addi (word (V (Proc.devRef .tc main_call0_call0_v88))) (word (V (Proc.devRef .tc main_call0_call0_v94))) := by
    after_results_simp; rfl
  have e1 : word (after round12 V (Proc.devRef .tc main_call0_call0_v101)) = turned 6#32 26#32 (word (V (Proc.devRef .tc main_call0_call0_v88))) (word (V (Proc.devRef .tc main_call0_call0_v94))) := by
    after_results_simp; rfl
  rw [e0, e1]; exact turn 6#32 26#32 _ _ j

theorem round12_step {V : Valuation τ sig (Elt F)} {L : Logits F} {A B : One F} {p : S64x8x100000.Idx → BitVec 32 × BitVec 32} (h : Keyed V L A B)
    (hp : ∀ j, (word (V (Proc.devRef .tc main_call0_call0_v88)) j, word (V (Proc.devRef .tc main_call0_call0_v94)) j) = p j) :
    Keyed (after round12 V) L A B ∧ ∀ j, (word (after round12 V (Proc.devRef .tc main_call0_call0_v95)) j, word (after round12 V (Proc.devRef .tc main_call0_call0_v101)) j) = rnd 6#32 26#32 (p j) :=
  ⟨h.of_eq (fun r hr => round12_keep V (by revert r; decide)), fun j => (round12_at V j).trans (congrArg _ (hp j))⟩

theorem inject3_step {V : Valuation τ sig (Elt F)} {L : Logits F} {A B : One F} {p : S64x8x100000.Idx → BitVec 32 × BitVec 32} (h : Keyed V L A B)
    (hp : ∀ j, (word (V (Proc.devRef .tc main_call0_call0_v95)) j, word (V (Proc.devRef .tc main_call0_call0_v101)) j) = p j) :
    Keyed (after inject3 V) L A B ∧ ∀ j, (word (after inject3 V (Proc.devRef .tc main_call0_call0_v103)) j, word (after inject3 V (Proc.devRef .tc main_call0_call0_v107)) j) = keyed 0#32 42#32 3#32 (p j) := by
  refine ⟨h.of_eq (fun r hr => inject3_keep V (by revert r; decide)), fun j => ?_⟩
  have e0 : word (after inject3 V (Proc.devRef .tc main_call0_call0_v103)) = plus (word (V (Proc.devRef .tc main_call0_call0_v95))) (single (V (Proc.devRef .tc main_call0_v5))) := by
    after_results_simp; rfl
  have e1 : word (after inject3 V (Proc.devRef .tc main_call0_call0_v107)) = plus (plus (word (V (Proc.devRef .tc main_call0_call0_v101))) (single (V (Proc.devRef .tc main_call0_v7)))) (constantI S_ 32 3#32) := by
    after_results_simp; rfl
  rw [e0, e1, h.key0, h.key1, ← hp j]
  rfl

theorem round13_at (V : Valuation τ sig (Elt F)) (j : S64x8x100000.Idx) :
    (word (after round13 V (Proc.devRef .tc main_call0_call0_v108)) j, word (after round13 V (Proc.devRef .tc main_call0_call0_v114)) j)
      = rnd 17#32 15#32 (word (V (Proc.devRef .tc main_call0_call0_v103)) j, word (V (Proc.devRef .tc main_call0_call0_v107)) j) := by
  have e0 : word (after round13 V (Proc.devRef .tc main_call0_call0_v108)) = addi (word (V (Proc.devRef .tc main_call0_call0_v103))) (word (V (Proc.devRef .tc main_call0_call0_v107))) := by
    after_results_simp; rfl
  have e1 : word (after round13 V (Proc.devRef .tc main_call0_call0_v114)) = turned 17#32 15#32 (word (V (Proc.devRef .tc main_call0_call0_v103))) (word (V (Proc.devRef .tc main_call0_call0_v107))) := by
    after_results_simp; rfl
  rw [e0, e1]; exact turn 17#32 15#32 _ _ j

theorem round13_step {V : Valuation τ sig (Elt F)} {L : Logits F} {A B : One F} {p : S64x8x100000.Idx → BitVec 32 × BitVec 32} (h : Keyed V L A B)
    (hp : ∀ j, (word (V (Proc.devRef .tc main_call0_call0_v103)) j, word (V (Proc.devRef .tc main_call0_call0_v107)) j) = p j) :
    Keyed (after round13 V) L A B ∧ ∀ j, (word (after round13 V (Proc.devRef .tc main_call0_call0_v108)) j, word (after round13 V (Proc.devRef .tc main_call0_call0_v114)) j) = rnd 17#32 15#32 (p j) :=
  ⟨h.of_eq (fun r hr => round13_keep V (by revert r; decide)), fun j => (round13_at V j).trans (congrArg _ (hp j))⟩

theorem round14_at (V : Valuation τ sig (Elt F)) (j : S64x8x100000.Idx) :
    (word (after round14 V (Proc.devRef .tc main_call0_call0_v115)) j, word (after round14 V (Proc.devRef .tc main_call0_call0_v121)) j)
      = rnd 29#32 3#32 (word (V (Proc.devRef .tc main_call0_call0_v108)) j, word (V (Proc.devRef .tc main_call0_call0_v114)) j) := by
  have e0 : word (after round14 V (Proc.devRef .tc main_call0_call0_v115)) = addi (word (V (Proc.devRef .tc main_call0_call0_v108))) (word (V (Proc.devRef .tc main_call0_call0_v114))) := by
    after_results_simp; rfl
  have e1 : word (after round14 V (Proc.devRef .tc main_call0_call0_v121)) = turned 29#32 3#32 (word (V (Proc.devRef .tc main_call0_call0_v108))) (word (V (Proc.devRef .tc main_call0_call0_v114))) := by
    after_results_simp; rfl
  rw [e0, e1]; exact turn 29#32 3#32 _ _ j

theorem round14_step {V : Valuation τ sig (Elt F)} {L : Logits F} {A B : One F} {p : S64x8x100000.Idx → BitVec 32 × BitVec 32} (h : Keyed V L A B)
    (hp : ∀ j, (word (V (Proc.devRef .tc main_call0_call0_v108)) j, word (V (Proc.devRef .tc main_call0_call0_v114)) j) = p j) :
    Keyed (after round14 V) L A B ∧ ∀ j, (word (after round14 V (Proc.devRef .tc main_call0_call0_v115)) j, word (after round14 V (Proc.devRef .tc main_call0_call0_v121)) j) = rnd 29#32 3#32 (p j) :=
  ⟨h.of_eq (fun r hr => round14_keep V (by revert r; decide)), fun j => (round14_at V j).trans (congrArg _ (hp j))⟩

theorem round15_at (V : Valuation τ sig (Elt F)) (j : S64x8x100000.Idx) :
    (word (after round15 V (Proc.devRef .tc main_call0_call0_v122)) j, word (after round15 V (Proc.devRef .tc main_call0_call0_v128)) j)
      = rnd 16#32 16#32 (word (V (Proc.devRef .tc main_call0_call0_v115)) j, word (V (Proc.devRef .tc main_call0_call0_v121)) j) := by
  have e0 : word (after round15 V (Proc.devRef .tc main_call0_call0_v122)) = addi (word (V (Proc.devRef .tc main_call0_call0_v115))) (word (V (Proc.devRef .tc main_call0_call0_v121))) := by
    after_results_simp; rfl
  have e1 : word (after round15 V (Proc.devRef .tc main_call0_call0_v128)) = turned 16#32 16#32 (word (V (Proc.devRef .tc main_call0_call0_v115))) (word (V (Proc.devRef .tc main_call0_call0_v121))) := by
    after_results_simp; rfl
  rw [e0, e1]; exact turn 16#32 16#32 _ _ j

theorem round15_step {V : Valuation τ sig (Elt F)} {L : Logits F} {A B : One F} {p : S64x8x100000.Idx → BitVec 32 × BitVec 32} (h : Keyed V L A B)
    (hp : ∀ j, (word (V (Proc.devRef .tc main_call0_call0_v115)) j, word (V (Proc.devRef .tc main_call0_call0_v121)) j) = p j) :
    Keyed (after round15 V) L A B ∧ ∀ j, (word (after round15 V (Proc.devRef .tc main_call0_call0_v122)) j, word (after round15 V (Proc.devRef .tc main_call0_call0_v128)) j) = rnd 16#32 16#32 (p j) :=
  ⟨h.of_eq (fun r hr => round15_keep V (by revert r; decide)), fun j => (round15_at V j).trans (congrArg _ (hp j))⟩

theorem round16_at (V : Valuation τ sig (Elt F)) (j : S64x8x100000.Idx) :
    (word (after round16 V (Proc.devRef .tc main_call0_call0_v129)) j, word (after round16 V (Proc.devRef .tc main_call0_call0_v135)) j)
      = rnd 24#32 8#32 (word (V (Proc.devRef .tc main_call0_call0_v122)) j, word (V (Proc.devRef .tc main_call0_call0_v128)) j) := by
  have e0 : word (after round16 V (Proc.devRef .tc main_call0_call0_v129)) = addi (word (V (Proc.devRef .tc main_call0_call0_v122))) (word (V (Proc.devRef .tc main_call0_call0_v128))) := by
    after_results_simp; rfl
  have e1 : word (after round16 V (Proc.devRef .tc main_call0_call0_v135)) = turned 24#32 8#32 (word (V (Proc.devRef .tc main_call0_call0_v122))) (word (V (Proc.devRef .tc main_call0_call0_v128))) := by
    after_results_simp; rfl
  rw [e0, e1]; exact turn 24#32 8#32 _ _ j

theorem round16_step {V : Valuation τ sig (Elt F)} {L : Logits F} {A B : One F} {p : S64x8x100000.Idx → BitVec 32 × BitVec 32} (h : Keyed V L A B)
    (hp : ∀ j, (word (V (Proc.devRef .tc main_call0_call0_v122)) j, word (V (Proc.devRef .tc main_call0_call0_v128)) j) = p j) :
    Keyed (after round16 V) L A B ∧ ∀ j, (word (after round16 V (Proc.devRef .tc main_call0_call0_v129)) j, word (after round16 V (Proc.devRef .tc main_call0_call0_v135)) j) = rnd 24#32 8#32 (p j) :=
  ⟨h.of_eq (fun r hr => round16_keep V (by revert r; decide)), fun j => (round16_at V j).trans (congrArg _ (hp j))⟩

theorem inject4_step {V : Valuation τ sig (Elt F)} {L : Logits F} {A B : One F} {p : S64x8x100000.Idx → BitVec 32 × BitVec 32} (h : Keyed V L A B)
    (hp : ∀ j, (word (V (Proc.devRef .tc main_call0_call0_v129)) j, word (V (Proc.devRef .tc main_call0_call0_v135)) j) = p j) :
    Keyed (after inject4 V) L A B ∧ ∀ j, (word (after inject4 V (Proc.devRef .tc main_call0_call0_v137)) j, word (after inject4 V (Proc.devRef .tc main_call0_call0_v141)) j) = keyed 42#32 key2 4#32 (p j) := by
  refine ⟨h.of_eq (fun r hr => inject4_keep V (by revert r; decide)), fun j => ?_⟩
  have e0 : word (after inject4 V (Proc.devRef .tc main_call0_call0_v137)) = plus (word (V (Proc.devRef .tc main_call0_call0_v129))) (single (V (Proc.devRef .tc main_call0_v7))) := by
    after_results_simp; rfl
  have e1 : word (after inject4 V (Proc.devRef .tc main_call0_call0_v141)) = plus (plus (word (V (Proc.devRef .tc main_call0_call0_v135))) (single (V (Proc.devRef .tc main_call0_call0_v1)))) (constantI S_ 32 4#32) := by
    after_results_simp; rfl
  rw [e0, e1, h.key1, h.key2, ← hp j]
  rfl

theorem round17_at (V : Valuation τ sig (Elt F)) (j : S64x8x100000.Idx) :
    (word (after round17 V (Proc.devRef .tc main_call0_call0_v142)) j, word (after round17 V (Proc.devRef .tc main_call0_call0_v148)) j)
      = rnd 13#32 19#32 (word (V (Proc.devRef .tc main_call0_call0_v137)) j, word (V (Proc.devRef .tc main_call0_call0_v141)) j) := by
  have e0 : word (after round17 V (Proc.devRef .tc main_call0_call0_v142)) = addi (word (V (Proc.devRef .tc main_call0_call0_v137))) (word (V (Proc.devRef .tc main_call0_call0_v141))) := by
    after_results_simp; rfl
  have e1 : word (after round17 V (Proc.devRef .tc main_call0_call0_v148)) = turned 13#32 19#32 (word (V (Proc.devRef .tc main_call0_call0_v137))) (word (V (Proc.devRef .tc main_call0_call0_v141))) := by
    after_results_simp; rfl
  rw [e0, e1]; exact turn 13#32 19#32 _ _ j

theorem round17_step {V : Valuation τ sig (Elt F)} {L : Logits F} {A B : One F} {p : S64x8x100000.Idx → BitVec 32 × BitVec 32} (h : Keyed V L A B)
    (hp : ∀ j, (word (V (Proc.devRef .tc main_call0_call0_v137)) j, word (V (Proc.devRef .tc main_call0_call0_v141)) j) = p j) :
    Keyed (after round17 V) L A B ∧ ∀ j, (word (after round17 V (Proc.devRef .tc main_call0_call0_v142)) j, word (after round17 V (Proc.devRef .tc main_call0_call0_v148)) j) = rnd 13#32 19#32 (p j) :=
  ⟨h.of_eq (fun r hr => round17_keep V (by revert r; decide)), fun j => (round17_at V j).trans (congrArg _ (hp j))⟩

theorem round18_at (V : Valuation τ sig (Elt F)) (j : S64x8x100000.Idx) :
    (word (after round18 V (Proc.devRef .tc main_call0_call0_v149)) j, word (after round18 V (Proc.devRef .tc main_call0_call0_v155)) j)
      = rnd 15#32 17#32 (word (V (Proc.devRef .tc main_call0_call0_v142)) j, word (V (Proc.devRef .tc main_call0_call0_v148)) j) := by
  have e0 : word (after round18 V (Proc.devRef .tc main_call0_call0_v149)) = addi (word (V (Proc.devRef .tc main_call0_call0_v142))) (word (V (Proc.devRef .tc main_call0_call0_v148))) := by
    after_results_simp; rfl
  have e1 : word (after round18 V (Proc.devRef .tc main_call0_call0_v155)) = turned 15#32 17#32 (word (V (Proc.devRef .tc main_call0_call0_v142))) (word (V (Proc.devRef .tc main_call0_call0_v148))) := by
    after_results_simp; rfl
  rw [e0, e1]; exact turn 15#32 17#32 _ _ j

theorem round18_step {V : Valuation τ sig (Elt F)} {L : Logits F} {A B : One F} {p : S64x8x100000.Idx → BitVec 32 × BitVec 32} (h : Keyed V L A B)
    (hp : ∀ j, (word (V (Proc.devRef .tc main_call0_call0_v142)) j, word (V (Proc.devRef .tc main_call0_call0_v148)) j) = p j) :
    Keyed (after round18 V) L A B ∧ ∀ j, (word (after round18 V (Proc.devRef .tc main_call0_call0_v149)) j, word (after round18 V (Proc.devRef .tc main_call0_call0_v155)) j) = rnd 15#32 17#32 (p j) :=
  ⟨h.of_eq (fun r hr => round18_keep V (by revert r; decide)), fun j => (round18_at V j).trans (congrArg _ (hp j))⟩

theorem round19_at (V : Valuation τ sig (Elt F)) (j : S64x8x100000.Idx) :
    (word (after round19 V (Proc.devRef .tc main_call0_call0_v156)) j, word (after round19 V (Proc.devRef .tc main_call0_call0_v162)) j)
      = rnd 26#32 6#32 (word (V (Proc.devRef .tc main_call0_call0_v149)) j, word (V (Proc.devRef .tc main_call0_call0_v155)) j) := by
  have e0 : word (after round19 V (Proc.devRef .tc main_call0_call0_v156)) = addi (word (V (Proc.devRef .tc main_call0_call0_v149))) (word (V (Proc.devRef .tc main_call0_call0_v155))) := by
    after_results_simp; rfl
  have e1 : word (after round19 V (Proc.devRef .tc main_call0_call0_v162)) = turned 26#32 6#32 (word (V (Proc.devRef .tc main_call0_call0_v149))) (word (V (Proc.devRef .tc main_call0_call0_v155))) := by
    after_results_simp; rfl
  rw [e0, e1]; exact turn 26#32 6#32 _ _ j

theorem round19_step {V : Valuation τ sig (Elt F)} {L : Logits F} {A B : One F} {p : S64x8x100000.Idx → BitVec 32 × BitVec 32} (h : Keyed V L A B)
    (hp : ∀ j, (word (V (Proc.devRef .tc main_call0_call0_v149)) j, word (V (Proc.devRef .tc main_call0_call0_v155)) j) = p j) :
    Keyed (after round19 V) L A B ∧ ∀ j, (word (after round19 V (Proc.devRef .tc main_call0_call0_v156)) j, word (after round19 V (Proc.devRef .tc main_call0_call0_v162)) j) = rnd 26#32 6#32 (p j) :=
  ⟨h.of_eq (fun r hr => round19_keep V (by revert r; decide)), fun j => (round19_at V j).trans (congrArg _ (hp j))⟩

theorem round20_at (V : Valuation τ sig (Elt F)) (j : S64x8x100000.Idx) :
    (word (after round20 V (Proc.devRef .tc main_call0_call0_v163)) j, word (after round20 V (Proc.devRef .tc main_call0_call0_v169)) j)
      = rnd 6#32 26#32 (word (V (Proc.devRef .tc main_call0_call0_v156)) j, word (V (Proc.devRef .tc main_call0_call0_v162)) j) := by
  have e0 : word (after round20 V (Proc.devRef .tc main_call0_call0_v163)) = addi (word (V (Proc.devRef .tc main_call0_call0_v156))) (word (V (Proc.devRef .tc main_call0_call0_v162))) := by
    after_results_simp; rfl
  have e1 : word (after round20 V (Proc.devRef .tc main_call0_call0_v169)) = turned 6#32 26#32 (word (V (Proc.devRef .tc main_call0_call0_v156))) (word (V (Proc.devRef .tc main_call0_call0_v162))) := by
    after_results_simp; rfl
  rw [e0, e1]; exact turn 6#32 26#32 _ _ j

theorem round20_step {V : Valuation τ sig (Elt F)} {L : Logits F} {A B : One F} {p : S64x8x100000.Idx → BitVec 32 × BitVec 32} (h : Keyed V L A B)
    (hp : ∀ j, (word (V (Proc.devRef .tc main_call0_call0_v156)) j, word (V (Proc.devRef .tc main_call0_call0_v162)) j) = p j) :
    Keyed (after round20 V) L A B ∧ ∀ j, (word (after round20 V (Proc.devRef .tc main_call0_call0_v163)) j, word (after round20 V (Proc.devRef .tc main_call0_call0_v169)) j) = rnd 6#32 26#32 (p j) :=
  ⟨h.of_eq (fun r hr => round20_keep V (by revert r; decide)), fun j => (round20_at V j).trans (congrArg _ (hp j))⟩

theorem inject5_step {V : Valuation τ sig (Elt F)} {L : Logits F} {A B : One F} {p : S64x8x100000.Idx → BitVec 32 × BitVec 32} (h : Keyed V L A B)
    (hp : ∀ j, (word (V (Proc.devRef .tc main_call0_call0_v163)) j, word (V (Proc.devRef .tc main_call0_call0_v169)) j) = p j) :
    Keyed (after inject5 V) L A B ∧ ∀ j, (word (after inject5 V (Proc.devRef .tc main_call0_v23_0)) j, word (after inject5 V (Proc.devRef .tc main_call0_v23_1)) j) = keyed key2 0#32 5#32 (p j) := by
  refine ⟨h.of_eq (fun r hr => inject5_keep V (by revert r; decide)), fun j => ?_⟩
  have e0 : word (after inject5 V (Proc.devRef .tc main_call0_v23_0)) = plus (word (V (Proc.devRef .tc main_call0_call0_v163))) (single (V (Proc.devRef .tc main_call0_call0_v1))) := by
    after_results_simp; rfl
  have e1 : word (after inject5 V (Proc.devRef .tc main_call0_v23_1)) = plus (plus (word (V (Proc.devRef .tc main_call0_call0_v169))) (single (V (Proc.devRef .tc main_call0_v5)))) (constantI S_ 32 5#32) := by
    after_results_simp; rfl
  rw [e0, e1, h.key2, h.key0, ← hp j]
  rfl

/-- The contents after the twenty rounds and the five key additions. -/
def hashed (V : Valuation τ sig (Elt F)) : Valuation τ sig (Elt F) := (after inject5 (after round20 (after round19 (after round18 (after round17 (after inject4 (after round16 (after round15 (after round14 (after round13 (after inject3 (after round12 (after round11 (after round10 (after round9 (after inject2 (after round8 (after round7 (after round6 (after round5 (after inject1 (after round4 (after round3 (after round2 (after round1 V)))))))))))))))))))))))))

/-- The cipher: from the counter words (the second, `t`, with its key word added) to the cipher's two words. -/
theorem hash_step {V : Valuation τ sig (Elt F)} {L : Logits F} {A B : One F} {t : S64x8x100000.Idx → BitVec 32} (h : Keyed V L A B)
    (hp : ∀ j, (word (V (Proc.devRef .tc main_call0_call0_v3)) j, word (V (Proc.devRef .tc main_call0_call0_v5)) j) = (0#32, t j)) :
    Keyed (hashed V) L A B
      ∧ ∀ j, (word (hashed V (Proc.devRef .tc main_call0_v23_0)) j, word (hashed V (Proc.devRef .tc main_call0_v23_1)) j) = cipher (t j) := by
  obtain ⟨h0, p0⟩ := round1_step h hp
  obtain ⟨h1, p1⟩ := round2_step h0 p0
  obtain ⟨h2, p2⟩ := round3_step h1 p1
  obtain ⟨h3, p3⟩ := round4_step h2 p2
  obtain ⟨h4, p4⟩ := inject1_step h3 p3
  obtain ⟨h5, p5⟩ := round5_step h4 p4
  obtain ⟨h6, p6⟩ := round6_step h5 p5
  obtain ⟨h7, p7⟩ := round7_step h6 p6
  obtain ⟨h8, p8⟩ := round8_step h7 p7
  obtain ⟨h9, p9⟩ := inject2_step h8 p8
  obtain ⟨h10, p10⟩ := round9_step h9 p9
  obtain ⟨h11, p11⟩ := round10_step h10 p10
  obtain ⟨h12, p12⟩ := round11_step h11 p11
  obtain ⟨h13, p13⟩ := round12_step h12 p12
  obtain ⟨h14, p14⟩ := inject3_step h13 p13
  obtain ⟨h15, p15⟩ := round13_step h14 p14
  obtain ⟨h16, p16⟩ := round14_step h15 p15
  obtain ⟨h17, p17⟩ := round15_step h16 p16
  obtain ⟨h18, p18⟩ := round16_step h17 p17
  obtain ⟨h19, p19⟩ := inject4_step h18 p18
  obtain ⟨h20, p20⟩ := round17_step h19 p19
  obtain ⟨h21, p21⟩ := round18_step h20 p20
  obtain ⟨h22, p22⟩ := round19_step h21 p21
  obtain ⟨h23, p23⟩ := round20_step h22 p22
  obtain ⟨h24, p24⟩ := inject5_step h23 p23
  exact ⟨h24, p24⟩

end Cert.Proof.Ref

end
-- ==== Proof.RefDraw.lean ====
/-
  The reference's perturbed logits: at each element the score of its logit and of its counter.
-/
module

public import proofs.«01_k».proof.Proof.RefHash
public import proofs.«01_k».proof.Proof.Rows

@[expose] public section

noncomputable section

namespace Cert.Proof.Ref

open Cert.ReferenceIdeal Cert.ReferenceIdeal.Gen
open Idealize.ShloMosaic Idealize.ShloMosaic.TcCoe Idealize.ShloMosaic.StableHlo Idealize.SL.Sem Idealize.ShloMosaic.ValueIdx

variable {F : FTy → Type} [FloatOps F]

abbrev pair (x : S2.Idx → BitVec 32) : S2.Idx → BitVec 32 := x

/-- The two key words as one array. -/
abbrev keyPair : S2.Idx → BitVec 32 :=
  concatenate S2 0 [⟨S1, broadcastInDim S1 ![] bcast_S_S1 (Host.shrui (constantI S_ 32 42#32) (constantI S_ 32 32#32))⟩,
    ⟨S1, broadcastInDim S1 ![] bcast_S_S1 (andi (constantI S_ 32 42#32) (constantI S_ 32 4294967295#32))⟩] concatenates_S1_S1_S2_d0

theorem key_pair (V : Valuation τ sig (Elt F)) : pair (after opsKey V (Proc.devRef .tc main_v7)) = keyPair := by
  after_results_simp; rfl
theorem key_lg (V : Valuation τ sig (Elt F)) : logits (after opsKey V (Proc.devRef .tc main_v0))
    = shapeCast S64x8x100000 (V (Proc.devRef .tc main_arg0) : S64x8x1x100000.Idx → F .f32) shapeCasts_S64x8x1x100000_S64x8x100000 := by
  after_results_simp; rfl
theorem key_lo (V : Valuation τ sig (Elt F)) :
    (after opsKey V (Proc.devRef .tc main_cst) : S_.Idx → F .f32) = constant S_ .f32 0x00000000#32 := by
  after_results_simp
theorem key_hi (V : Valuation τ sig (Elt F)) :
    (after opsKey V (Proc.devRef .tc main_cst_2) : S_.Idx → F .f32) = constant S_ .f32 0x3F800000#32 := by
  after_results_simp

/-- The counter of each element, before its key word. -/
abbrev flat : S64x8x100000.Idx → BitVec 64 :=
  addi (addi (muli (broadcastInDim S64x8x100000 ![] bcast_S_S64x8x100000 (constantI S_ 64 800000#64)) (iotaInDim S64x8x100000 64 0))
    (muli (broadcastInDim S64x8x100000 ![] bcast_S_S64x8x100000 (constantI S_ 64 100000#64)) (iotaInDim S64x8x100000 64 1)))
    (muli (broadcastInDim S64x8x100000 ![] bcast_S_S64x8x100000 (constantI S_ 64 1#64)) (iotaInDim S64x8x100000 64 2))

theorem ctr_low (V : Valuation τ sig (Elt F)) : word (after opsCtr V (Proc.devRef .tc main_call0_v21)) = trunci 32 flat natLt_32_64 := by
  after_results_simp; rfl
theorem ctr_high (V : Valuation τ sig (Elt F)) : word (after opsCtr V (Proc.devRef .tc main_call0_v22))
    = trunci 32 (Host.shrui flat (broadcastInDim S64x8x100000 ![] bcast_S_S64x8x100000 (constantI S_ 64 32#64))) natLt_32_64 := by
  after_results_simp; rfl
theorem ctr_key0 (V : Valuation τ sig (Elt F)) : single (after opsCtr V (Proc.devRef .tc main_call0_v5))
    = shapeCast S_ (extractStridedSlice S1 ![0] (pair (V (Proc.devRef .tc main_v7))) slices_S2_S1_0) shapeCasts_S1_S_ := by
  after_results_simp; rfl
theorem ctr_key1 (V : Valuation τ sig (Elt F)) : single (after opsCtr V (Proc.devRef .tc main_call0_v7))
    = shapeCast S_ (extractStridedSlice S1 ![1] (pair (V (Proc.devRef .tc main_v7))) slices_S2_S1_1) shapeCasts_S1_S_ := by
  after_results_simp; rfl
theorem ctr_lo (V : Valuation τ sig (Elt F)) : one (after opsCtr V (Proc.devRef .tc main_call0_v2))
    = broadcastInDim S1x1x1 ![] bcast_S_S1x1x1 (V (Proc.devRef .tc main_cst) : S_.Idx → F .f32) := by
  after_results_simp; rfl
theorem ctr_hi (V : Valuation τ sig (Elt F)) : one (after opsCtr V (Proc.devRef .tc main_call0_v3))
    = broadcastInDim S1x1x1 ![] bcast_S_S1x1x1 (V (Proc.devRef .tc main_cst_2) : S_.Idx → F .f32) := by
  after_results_simp; rfl

theorem start_key2 (V : Valuation τ sig (Elt F)) : single (after hash0 V (Proc.devRef .tc main_call0_call0_v1))
    = xori (xori (single (V (Proc.devRef .tc main_call0_v5))) (single (V (Proc.devRef .tc main_call0_v7)))) (constantI S_ 32 466688986#32) := by
  after_results_simp; rfl
theorem start_x0 (V : Valuation τ sig (Elt F)) : word (after hash0 V (Proc.devRef .tc main_call0_call0_v3))
    = plus (word (V (Proc.devRef .tc main_call0_v22))) (single (V (Proc.devRef .tc main_call0_v5))) := by
  after_results_simp; rfl
theorem start_x1 (V : Valuation τ sig (Elt F)) : word (after hash0 V (Proc.devRef .tc main_call0_call0_v5))
    = plus (word (V (Proc.devRef .tc main_call0_v21))) (single (V (Proc.devRef .tc main_call0_v7))) := by
  after_results_simp; rfl

theorem keyPair_0 : shapeCast S_ (extractStridedSlice S1 ![0] keyPair slices_S2_S1_0) shapeCasts_S1_S_ = constantI S_ 32 0#32 := by
  funext j; revert j; decide +kernel
theorem keyPair_1 : shapeCast S_ (extractStridedSlice S1 ![1] keyPair slices_S2_S1_1) shapeCasts_S1_S_ = constantI S_ 32 42#32 := by
  funext j; revert j; decide +kernel
theorem keyPair_2 : xori (xori (constantI S_ 32 0#32) (constantI S_ 32 42#32)) (constantI S_ 32 466688986#32) = constantI S_ 32 key2 := by
  funext j; revert j; decide +kernel

theorem flat_at (b : Fin 64) (s : Fin 8) (v : Fin 100000) :
    flat (ix3 b s v) = BitVec.ofNat 64 ((8 * b.val + s.val) * 100000 + v.val) := by
  show (800000#64 * BitVec.ofNat 64 b.val + 100000#64 * BitVec.ofNat 64 s.val) + 1#64 * BitVec.ofNat 64 v.val = _
  apply BitVec.eq_of_toNat_eq
  simp only [BitVec.toNat_add, BitVec.toNat_mul, BitVec.toNat_ofNat]
  omega

/-- The contents before the cipher's rounds. -/
def started (V : Valuation τ sig (Elt F)) : Valuation τ sig (Elt F) := after hash0 (after opsCtr (after opsKey V))

/-- The logits as the reference reshapes them. -/
abbrev lgs (V : Valuation τ sig (Elt F)) : Logits F :=
  shapeCast S64x8x100000 (V (Proc.devRef .tc main_arg0) : S64x8x1x100000.Idx → F .f32) shapeCasts_S64x8x1x100000_S64x8x100000

theorem started_keyed (V : Valuation τ sig (Elt F)) : Keyed (started V) (lgs V)
    (broadcastInDim S1x1x1 ![] bcast_S_S1x1x1 (constant S_ .f32 0x00000000#32))
    (broadcastInDim S1x1x1 ![] bcast_S_S1x1x1 (constant S_ .f32 0x3F800000#32)) := by
  unfold started
  refine ⟨?_, ?_, ?_, ?_, ?_, ?_⟩
  · rw [hash0_keep _ (by decide), ctr_key0, key_pair, keyPair_0]
  · rw [hash0_keep _ (by decide), ctr_key1, key_pair, keyPair_1]
  · rw [start_key2, ctr_key0, ctr_key1, key_pair, keyPair_0, keyPair_1, keyPair_2]
  · rw [hash0_keep _ (by decide), opsCtr_keep _ (by decide), key_lg]
  · rw [hash0_keep _ (by decide), ctr_lo, key_lo]
  · rw [hash0_keep _ (by decide), ctr_hi, key_hi]

theorem started_words (V : Valuation τ sig (Elt F)) (b : Fin 64) (s : Fin 8) (v : Fin 100000) :
    (word (started V (Proc.devRef .tc main_call0_call0_v3)) (ix3 b s v), word (started V (Proc.devRef .tc main_call0_call0_v5)) (ix3 b s v))
      = (0#32, ctr (8 * b.val + s.val) v.val) := by
  unfold started
  rw [start_x0, start_x1, ctr_low, ctr_high, ctr_key0, ctr_key1, key_pair, keyPair_0, keyPair_1]
  have hb := b.isLt
  have hs := s.isLt
  have hv := v.isLt
  refine Prod.ext ?_ ?_
  · show BitVec.setWidth 32 (IntOp.shrui .host (flat (ix3 b s v)) 32#64) + 0#32 = 0#32
    rw [flat_at]
    unfold IntOp.shrui
    rw [if_pos (by decide)]
    apply BitVec.eq_of_toNat_eq
    simp only [BitVec.toNat_add, BitVec.toNat_setWidth, BitVec.toNat_ofNat, BitVec.toNat_ushiftRight, BitVec.ushiftRight_eq', Nat.shiftRight_eq_div_pow]
    rw [Nat.mod_eq_of_lt (show (8 * b.val + s.val) * 100000 + v.val < 2 ^ 64 by omega),
      Nat.div_eq_of_lt (show (8 * b.val + s.val) * 100000 + v.val < 2 ^ (32 % 2 ^ 64) by rw [show 2 ^ (32 % 2 ^ 64) = 4294967296 from rfl]; omega)]
  · show BitVec.setWidth 32 (flat (ix3 b s v)) + 42#32 = _
    rw [flat_at]
    apply BitVec.eq_of_toNat_eq
    unfold ctr
    simp only [BitVec.toNat_add, BitVec.toNat_setWidth, BitVec.toNat_ofNat]
    omega

end Cert.Proof.Ref

end
-- ==== Proof.Noise.lean ====
/-
  The noise of a draw, free of both programs: the uniform float is a real number at least zero, so the reference's clamps
  change nothing and its perturbed logit is the score; and the score of a logit above minus infinity is above it too.
-/
module

public import proofs.«01_k».proof.Proof.Row

@[expose] public section

namespace Cert.Proof

open Idealize.ShloMosaic

/-- A drawn pattern has no sign, and the exponent of one. -/
theorem pattern_sign (p : BitVec 32 × BitVec 32) : (pattern p).extractLsb' 31 1 = 0#1 := by
  unfold pattern IntOp.ori IntOp.shrui
  rw [if_pos (by decide)]
  apply BitVec.eq_of_getLsbD_eq
  intro i hi
  interval_cases i
  simp
theorem pattern_exponent (p : BitVec 32 × BitVec 32) : (pattern p).extractLsb' 23 8 = 127#8 := by
  unfold pattern IntOp.ori IntOp.shrui
  rw [if_pos (by decide)]
  apply BitVec.eq_of_getLsbD_eq
  intro i hi
  interval_cases i <;> simp

/-- What a pattern with no sign and an exponent neither least nor greatest denotes. -/
theorem bits_normal (b : BitVec 32) (x : ℕ) (hs : b.extractLsb' 31 1 = 0#1) (hx : (b.extractLsb' 23 8).toNat = x) (h0 : x ≠ 0)
    (h1 : x ≠ 255) : (FloatOps.ofBits .f32 b : Ideal .f32)
      = ((((2 ^ 23 + (b.extractLsb' 0 23).toNat : ℕ) : ℝ) * (2 : ℝ) ^ ((x : ℤ) - 127 - 23) : ℝ) : EReal) := by
  show Ideal.ieee 8 23 b = _
  unfold Ideal.ieee
  simp only [show (8 + 23 : ℕ) = 31 from rfl, hs, hx]
  rw [if_neg (by simpa using h1), if_neg h0, if_neg (by decide), one_mul]
  norm_num

theorem one_bits : (FloatOps.ofBits .f32 1065353216#32 : Ideal .f32) = (1 : EReal) := by
  rw [bits_normal _ 127 (by decide) (by decide) (by decide) (by decide),
    show ((1065353216#32).extractLsb' 0 23).toNat = 0 from by decide, ← EReal.coe_one]
  refine congrArg _ ?_
  norm_num [zpow_neg]

theorem zero_bits : (FloatOps.ofBits .f32 0#32 : Ideal .f32) = (0 : EReal) := Ideal.ofBits_zero_f32

/-- The smallest normal number is a positive real. -/
theorem tiny_real : ∃ e : ℝ, 0 < e ∧ tiny = (e : EReal) := by
  refine ⟨_, ?_, bits_normal _ 1 (by decide) (by decide) (by decide) (by decide)⟩
  exact mul_pos (Nat.cast_pos.mpr (Nat.add_pos_left (Nat.two_pow_pos 23) _)) (zpow_pos two_pos _)

theorem real_part (k : ℕ) : (0 : ℝ) ≤ ((2 ^ 23 + k : ℕ) : ℝ) * (2 : ℝ) ^ (((127 : ℕ) : ℤ) - 127 - 23) - 1 := by
  have h : (0 : ℝ) ≤ (k : ℝ) := Nat.cast_nonneg _
  have e : (2 : ℝ) ^ (((127 : ℕ) : ℤ) - 127 - 23) = 1 / 8388608 := by norm_num [zpow_neg]
  rw [e, Nat.cast_add]
  norm_num
  linarith

/-- A drawn float is a real at least zero. -/
theorem unit01_real (w : BitVec 32) : ∃ x : ℝ, 0 ≤ x ∧ unit01 w = (x : EReal) := by
  refine ⟨_, real_part ((draw w).extractLsb' 0 23).toNat, ?_⟩
  unfold unit01
  rw [one_bits, EReal.coe_sub, EReal.coe_one]
  refine congrArg (fun t : EReal => t - 1) ?_
  exact bits_normal _ 127 (pattern_sign _) (congrArg BitVec.toNat (pattern_exponent _)) (by decide) (by decide)

/-- The reference's clamps change nothing: its perturbed logit is the score. -/
theorem gumbel (f l e a b : EReal) (hf : 0 ≤ f) (ha : a = 0) (hb : b = 1) :
    -Ideal.log (-Ideal.log (max e (max a (f * (b - a) + a) * b + e))) + l = l - Ideal.log (a - Ideal.log (f + e)) := by
  subst ha hb
  have h1 : (1 : EReal) - 0 = 1 := sub_zero 1
  rw [h1]
  simp only [mul_one, add_zero]
  rw [max_eq_right hf, max_eq_right (le_add_of_nonneg_left hf), zero_sub, sub_eq_add_neg, add_comm]

/-- A logit above minus infinity scores above it. -/
theorem score_pos (l : EReal) (w : BitVec 32) (h : ⊥ < l) : ⊥ < score l w := by
  obtain ⟨x, hx, ex⟩ := unit01_real w
  obtain ⟨e, he, ee⟩ := tiny_real
  unfold score
  rw [ex, ee, zero_bits, zero_sub, ← EReal.coe_add, Ideal.log_coe, if_neg (by linarith), ← EReal.coe_neg, Ideal.log_coe, sub_eq_add_neg]
  rw [EReal.bot_lt_add_iff]
  refine ⟨h, ?_⟩
  split
  · simp
  · rw [← EReal.coe_neg]; exact EReal.bot_lt_coe _

end Cert.Proof
-- ==== Proof.RefGum.lean ====
/-
  The reference's perturbed logits: at each element the score of its logit and of its counter.
-/
module

public import proofs.«01_k».proof.Proof.RefDraw
public import proofs.«01_k».proof.Proof.Noise

@[expose] public section

noncomputable section

namespace Cert.Proof.Ref

open Cert.ReferenceIdeal Cert.ReferenceIdeal.Gen
open Idealize.ShloMosaic Idealize.ShloMosaic.TcCoe Idealize.ShloMosaic.StableHlo Idealize.SL.Sem Idealize.ShloMosaic.ValueIdx

variable {F : FTy → Type} [FloatOps F]

/-- A constant at every element. -/
abbrev every (w : BitVec 32) : Logits F := broadcastInDim S64x8x100000 ![] bcast_S_S64x8x100000 (constant S_ .f32 w)
/-- The uniform draw from the cipher's two words between two bounds. -/
abbrev uniform (x y : S64x8x100000.Idx → BitVec 32) (A B : One F) : Logits F :=
  maximumf (broadcastInDim S64x8x100000 ![0, 1, 2] bcast_S1x1x1_S64x8x100000_0_1_2 A)
    (addf (mulf (subf (bitcastToFloat .f32 (ori (Host.shrui (xori x y) (broadcastInDim S64x8x100000 ![] bcast_S_S64x8x100000 (constantI S_ 32 9#32)))
        (broadcastInDim S64x8x100000 ![] bcast_S_S64x8x100000 (constantI S_ 32 1065353216#32)))) (every 0x3F800000#32))
      (broadcastInDim S64x8x100000 ![0, 1, 2] bcast_S1x1x1_S64x8x100000_0_1_2 (subf B A)))
      (broadcastInDim S64x8x100000 ![0, 1, 2] bcast_S1x1x1_S64x8x100000_0_1_2 A))
/-- The logits with the noise of a uniform draw. -/
abbrev perturbed (u L : Logits F) : Logits F :=
  addf (Host.negf (Host.log (Host.negf (Host.log (maximumf (every 0x00800000#32)
    (addf (mulf u (every 0x3F800000#32)) (every 0x00800000#32))))))) L

theorem uni_val (V : Valuation τ sig (Elt F)) : logits (after opsUni V (Proc.devRef .tc main_v8))
    = uniform (word (V (Proc.devRef .tc main_call0_v23_0))) (word (V (Proc.devRef .tc main_call0_v23_1)))
        (one (V (Proc.devRef .tc main_call0_v2))) (one (V (Proc.devRef .tc main_call0_v3))) := by
  after_results_simp; rfl

theorem gum_val (V : Valuation τ sig (Elt F)) : logits (after opsGum V (Proc.devRef .tc main_v19))
    = perturbed (logits (V (Proc.devRef .tc main_v8))) (logits (V (Proc.devRef .tc main_v0))) := by
  after_results_simp

/-- The bounds of the draw. -/
abbrev bound (w : BitVec 32) : One F := broadcastInDim S1x1x1 ![] bcast_S_S1x1x1 (constant S_ .f32 w)

/-- The two vectors at an element. -/
theorem uniform_at (x y : S64x8x100000.Idx → BitVec 32) (j : S64x8x100000.Idx) :
    uniform (F := Ideal) x y (bound 0x00000000#32) (bound 0x3F800000#32) j
      = max (FloatOps.ofBits .f32 0#32 : Ideal .f32) (((FloatOps.ofBits .f32 (pattern (x j, y j)) : Ideal .f32)
          - (FloatOps.ofBits .f32 1065353216#32 : Ideal .f32)) * ((FloatOps.ofBits .f32 1065353216#32 : Ideal .f32)
          - (FloatOps.ofBits .f32 0#32 : Ideal .f32)) + (FloatOps.ofBits .f32 0#32 : Ideal .f32)) := by
  unfold pattern
  rw [← ValueIdx.shrui_host]
  rfl
theorem perturbed_at (u L : Logits Ideal) (j : S64x8x100000.Idx) :
    perturbed u L j = -Ideal.log (-Ideal.log (max tiny (u j * (FloatOps.ofBits .f32 1065353216#32 : Ideal .f32) + tiny))) + L j := by
  unfold tiny
  rfl

/-- The perturbed logit is the score. -/
theorem score_at (x y : S64x8x100000.Idx → BitVec 32) (L : Logits Ideal) (j : S64x8x100000.Idx) (w : BitVec 32)
    (hw : pattern (x j, y j) = draw w) :
    perturbed (uniform x y (bound 0x00000000#32) (bound 0x3F800000#32)) L j = score (L j) w := by
  rw [perturbed_at, uniform_at, hw]
  obtain ⟨f, hf, ef⟩ := unit01_real w
  exact gumbel (unit01 w) (L j) tiny _ _ (by rw [ef]; exact EReal.coe_nonneg.mpr hf) zero_bits one_bits

/-- The contents once the logits are perturbed. -/
def noisy (V : Valuation τ sig (Elt F)) : Valuation τ sig (Elt F) := after opsGum (after opsUni (hashed (started V)))

theorem noisy_logits (V : Valuation τ sig (Elt F)) (j : S64x8x100000.Idx) (t : S64x8x100000.Idx → BitVec 32)
    (hp : ∀ j, (word (started V (Proc.devRef .tc main_call0_call0_v3)) j, word (started V (Proc.devRef .tc main_call0_call0_v5)) j) = (0#32, t j)) :
    logits (noisy V (Proc.devRef .tc main_v0)) = lgs V := by
  unfold noisy
  rw [opsGum_keep _ (by decide), opsUni_keep _ (by decide)]
  exact (hash_step (started_keyed V) hp).1.lg

/-- The launch's logits as an array over batches, rows and columns. -/
abbrev launched (V : Valuation τ sig (Elt Ideal)) : S64x8x1x100000.Idx → EReal := V (Proc.devRef .tc main_arg0)

theorem lgs_at (V : Valuation τ sig (Elt Ideal)) (b : Fin 64) (s : Fin 8) (v : Fin 100000) :
    lgs V (ix3 b s v) = launched V (ix4 b s 0 v) := by
  refine congrArg (launched V) ?_
  refine Shape.reshapeEquiv_eq_of_rowMajor _ ?_
  show ((⟨4, ![64, 8, 1, 100000]⟩ : Shape).rowMajor (ix4 b s 0 v)).val = ((⟨3, ![64, 8, 100000]⟩ : Shape).rowMajor (ix3 b s v)).val
  rw [Shape.rowMajor_val_four, Shape.rowMajor_val_three]
  have hb := b.isLt
  have hs := s.isLt
  have hv := v.isLt
  show ((b.val * 8 + s.val) * 1 + 0) * 100000 + v.val = (b.val * 8 + s.val) * 100000 + v.val
  omega

/-- The counter of an element. -/
def counter (j : S64x8x100000.Idx) : BitVec 32 := ctr (8 * (j 0).val + (j 1).val) (j 2).val

theorem counters (V : Valuation τ sig (Elt F)) (j : S64x8x100000.Idx) :
    (word (started V (Proc.devRef .tc main_call0_call0_v3)) j, word (started V (Proc.devRef .tc main_call0_call0_v5)) j) = (0#32, counter j) := by
  obtain ⟨b, s, v, rfl⟩ : ∃ (b : Fin 64) (s : Fin 8) (v : Fin 100000), j = ix3 b s v := ⟨j 0, j 1, j 2, eq_ix3 j⟩
  exact started_words V b s v

/-- Once perturbed, the logits' buffer holds the launch's logits, -/
theorem noisy_lg (V : Valuation τ sig (Elt Ideal)) (b : Fin 64) (s : Fin 8) (v : Fin 100000) :
    logits (F := Ideal) (noisy V (Proc.devRef .tc main_v0)) (ix3 b s v) = rowLg (launched V) b s v.val := by
  rw [noisy_logits V (ix3 b s v) counter (counters V), lgs_at]
  unfold rowLg
  rw [dif_pos v.isLt]

/-- and the perturbed logits' buffer holds their scores. -/
theorem noisy_score (V : Valuation τ sig (Elt Ideal)) (b : Fin 64) (s : Fin 8) (v : Fin 100000) :
    logits (F := Ideal) (noisy V (Proc.devRef .tc main_v19)) (ix3 b s v) = rowT (launched V) b s v.val := by
  obtain ⟨hk, hc⟩ := hash_step (started_keyed V) (counters V)
  have e : logits (F := Ideal) (noisy V (Proc.devRef .tc main_v19))
      = perturbed (uniform (word (hashed (started V) (Proc.devRef .tc main_call0_v23_0))) (word (hashed (started V) (Proc.devRef .tc main_call0_v23_1)))
          (bound 0x00000000#32) (bound 0x3F800000#32)) (lgs V) := by
    unfold noisy
    rw [gum_val, uni_val, hk.lo, hk.hi, opsUni_keep _ (by decide)]
    exact congrArg _ hk.lg
  rw [e, score_at _ _ _ _ (ctr (8 * b.val + s.val) v.val) (congrArg pattern (hc (ix3 b s v))), lgs_at]
  unfold rowT rowLg
  rw [dif_pos v.isLt]

end Cert.Proof.Ref

end
-- ==== Proof.RefPick.lean ====
/-
  The reference's arg-max along the columns: where a column is the one picked, the index array holds it.
-/
module

public import proofs.«01_k».proof.Proof.RefHash
public import proofs.«01_k».proof.Proof.Rows
public import Idealize.ShloMosaic.Lib.Pointwise.Reduce

@[expose] public section

noncomputable section

namespace Cert.Proof.Ref

open Cert.ReferenceIdeal Cert.ReferenceIdeal.Gen
open Idealize.ShloMosaic hiding ix1 ix2 ix3 ix4 eq_ix1 eq_ix2
open Idealize.ShloMosaic.TcCoe Idealize.ShloMosaic.StableHlo Idealize.SL.Sem Idealize.ShloMosaic.ValueIdx

/-- A value with its column. -/
abbrev Entry := Ideal .f32 × BitVec 32

/-- The combination of two entries: the larger value, of equal values the one of the smaller column. -/
abbrev best (a b : Entry) : Entry := reducer_argmax_f32_i32 a b

/-- Entry `q` comes before `r`: it is larger, or as large and of no larger column. -/
def Beats (q r : Entry) : Prop := r.1 < q.1 ∨ (r.1 = q.1 ∧ q.2.toInt ≤ r.2.toInt)

theorem best_eq (a b : Entry) :
    best a b = if b.1 < a.1 then a else if a.1 = b.1 ∧ a.2.toInt < b.2.toInt then a else b := by
  obtain ⟨a1, a2⟩ := a
  obtain ⟨b1, b2⟩ := b
  have hu : (FloatOps.cmpf .une a1 a1 : BitVec 1) = 0#1 := by simp [Ideal.cmpf_def, Ideal.cmp]
  simp only [best, reducer_argmax_f32_i32, hu]
  simp only [Ideal.cmpf_def, Ideal.cmp, Scalar.select, IntOp.ori, IntOp.andi, IntOp.cmpi]
  by_cases h1 : b1 < a1
  · have e : ∀ c : BitVec 1, BitVec.ofBool true ||| 0#1 ||| c = 1#1 := by decide
    simp only [h1, decide_true, if_true, e]
    rfl
  · by_cases h2 : a1 = b1
    · subst h2
      by_cases h3 : a2.toInt < b2.toInt
      · simp [h3, BitVec.slt]
      · simp [h3, BitVec.slt]
    · simp [h1, h2]

/-- What comes before both comes before their combination, -/
theorem Beats.best {q a b : Entry} (ha : Beats q a) (hb : Beats q b) : Beats q (best a b) := by
  rw [best_eq]; split_ifs <;> assumption

/-- and is their combination where it is one of them. -/
theorem Beats.best_left {q b : Entry} (hb : Beats q b) : Ref.best q b = q := by
  rw [best_eq]
  split_ifs with h1 h2
  · rfl
  · rfl
  · rcases hb with hb | ⟨hb, hc⟩
    · exact absurd hb h1
    · have h3 : ¬ q.2.toInt < b.2.toInt := fun h => h2 ⟨hb.symm, h⟩
      exact Prod.ext hb (BitVec.eq_of_toInt_eq (by omega))
theorem Beats.best_right {q a : Entry} (ha : Beats q a) : Ref.best a q = q := by
  rw [best_eq]
  split_ifs with h1 h2
  · rcases ha with ha | ⟨ha, _⟩
    · exact absurd h1 (not_lt_of_gt ha)
    · exact absurd h1 (by rw [ha]; exact lt_irrefl _)
  · rcases ha with ha | ⟨_, hc⟩
    · exact absurd h2.1 ha.ne
    · omega
  · rfl

/-- The fold over a list is the entry that comes before all, where it is among them. -/
theorem fold_best (q : Entry) : ∀ (l : List Entry) (a : Entry), (∀ r ∈ l, Beats q r) → Beats q a → (a = q ∨ q ∈ l) →
    l.foldl best a = q
  | [], a, _, _, h => by
      rcases h with h | h
      · exact h
      · exact absurd h (List.not_mem_nil)
  | r :: l, a, hl, ha, h => by
      have hr : Beats q r := hl r List.mem_cons_self
      refine fold_best q l (best a r) (fun s hs => hl s (List.mem_cons_of_mem _ hs)) (ha.best hr) ?_
      rcases h with rfl | h
      · exact Or.inl hr.best_left
      · rcases List.mem_cons.mp h with rfl | h
        · exact Or.inl ha.best_right
        · exact Or.inr h

/-- The entries found by the arg-max. -/
def found (x : Logits Ideal) : S64x8.Idx → Entry := fun j =>
  Host.argReduce reducer_argmax_f32_i32 x (iotaInDim S64x8x100000 32 2) (constant S_ .f32 0xFF800000#32 : S_.Idx → Ideal .f32)
    (constantI S_ 32 0#32) reducesTo_S64x8x100000_S64x8_d2 h_S_ j

theorem arg_val (V : Valuation τ sig (Elt Ideal)) :
    (after opsArg V (Proc.devRef .tc main_v20) : S64x8.Idx → BitVec 32) = fun j => (found (V (Proc.devRef .tc main_v19) : Logits Ideal) j).2 := by
  after_results_simp; rfl

theorem toInt_col (v : ℕ) (h : v < 100000) : (BitVec.ofNat 32 v).toInt = v := by
  rw [BitVec.toInt_eq_toNat_of_lt (by rw [BitVec.toNat_ofNat]; omega), BitVec.toNat_ofNat]
  omega

/-- A pair is in the fiber exactly if it is read at an index that drops to the fiber's. -/
theorem mem_fiber {s t : Shape} {axes : List (Fin s.rank)} {α β : Type} (x : s.Idx → α) (y : s.Idx → β) (h : s.ReducesTo axes t)
    (j : t.Idx) (r : α × β) : r ∈ Host.argReduceFiber x y h j ↔ ∃ i, h.drop i = j ∧ (x i, y i) = r := by
  unfold Host.argReduceFiber
  constructor
  · intro hr
    obtain ⟨k, hk, rfl⟩ := List.mem_map.mp hr
    exact ⟨_, of_decide_eq_true (List.mem_filter.mp hk).2, rfl⟩
  · rintro ⟨i, hi, rfl⟩
    exact List.mem_map.mpr ⟨s.rowMajor i, List.mem_filter.mpr ⟨List.mem_finRange _, decide_eq_true (by rw [Equiv.symm_apply_apply]; exact hi)⟩,
      by rw [Equiv.symm_apply_apply]⟩

/-- The arg-max along the last of three axes is the entry that comes before all of them. -/
theorem argReduce_at {n0 n1 n2 : ℕ} {t u : Shape} (h : (⟨3, ![n0, n1, n2]⟩ : Shape).ReducesTo [2] t) (hu : 0 < u.numel)
    (x : (⟨3, ![n0, n1, n2]⟩ : Shape).Idx → Ideal .f32) (y : (⟨3, ![n0, n1, n2]⟩ : Shape).Idx → BitVec 32) (ix : u.Idx → Ideal .f32)
    (iy : u.Idx → BitVec 32) (j : t.Idx) (q : Entry) (hall : ∀ i, h.drop i = j → Beats q (x i, y i)) (hin : ∀ k, Beats q (ix k, iy k))
    (i : (⟨3, ![n0, n1, n2]⟩ : Shape).Idx) (hi : h.drop i = j) (hq : (x i, y i) = q) :
    Host.argReduce reducer_argmax_f32_i32 x y ix iy h hu j = q := by
  rw [Ideal.argReduce_eq_reduce2, Host.reduce2_eq_foldl_fiber]
  refine fold_best q _ _ (fun r hr => ?_) (hin _) (Or.inr ((mem_fiber x y h j q).mpr ⟨i, hi, hq⟩))
  obtain ⟨i', hi', rfl⟩ := (mem_fiber x y h j r).mp hr
  exact hall i' hi'

theorem lowest : (FloatOps.ofBits .f32 0xFF800000#32 : Ideal .f32) = (⊥ : EReal) := by
  simp [FloatOps.ofBits, Ideal.ofBits, Ideal.ieee]

/-- A picked column's entry comes before every column's. -/
theorem beats_of_pick {T : ℕ → EReal} {n : ℕ} (hp : IsPick T 100000 n) (v : ℕ) (hv : v < 100000) :
    Beats (T n, BitVec.ofNat 32 n) (T v, BitVec.ofNat 32 v) := by
  obtain ⟨hn, htop, hfirst⟩ := hp
  by_cases hvn : v < n
  · exact Or.inl (hfirst _ hvn)
  · rcases lt_or_eq_of_le (htop v hv) with h | h
    · exact Or.inl h
    · refine Or.inr ⟨h, ?_⟩
      show (BitVec.ofNat 32 n).toInt ≤ (BitVec.ofNat 32 v).toInt
      rw [toInt_col _ hn, toInt_col _ hv]
      omega

/-- Where column `n` is the one picked of row `s` of batch `b`, the arg-max finds it. -/
theorem found_at (x : Logits Ideal) (T : ℕ → EReal) (b : Fin 64) (s : Fin 8) (n : ℕ)
    (hx : ∀ v : Fin 100000, x (ix3 b s v) = T v.val) (hp : IsPick T 100000 n) (hb : ⊥ < T n) :
    found x (ix2 b s) = (T n, BitVec.ofNat 32 n) := by
  have hd : ∀ i, reducesTo_S64x8x100000_S64x8_d2.drop i = ix2 b s ↔ ∃ k : Fin 100000, ix3 b s k = i :=
    fun i => Shape.ReducesTo.fiber_r3_a2 reducesTo_S64x8x100000_S64x8_d2 (ix2 b s) i
  have hall : ∀ i, reducesTo_S64x8x100000_S64x8_d2.drop i = ix2 b s →
      Beats (T n, BitVec.ofNat 32 n) (x i, iotaInDim S64x8x100000 32 2 i) := fun i hi => by
    obtain ⟨v, rfl⟩ := (hd i).mp hi
    have e : (x (ix3 b s v), iotaInDim S64x8x100000 32 2 (ix3 b s v)) = ((T v.val, BitVec.ofNat 32 v.val) : Entry) := Prod.ext (hx v) rfl
    rw [e]
    exact beats_of_pick hp v.val v.isLt
  exact argReduce_at reducesTo_S64x8x100000_S64x8_d2 h_S_ x (iotaInDim S64x8x100000 32 2)
    (constant S_ .f32 0xFF800000#32 : S_.Idx → Ideal .f32) (constantI S_ 32 0#32) (ix2 b s)
    (T n, BitVec.ofNat 32 n) hall (fun k => Or.inl (lt_of_eq_of_lt lowest hb)) (ix3 b s ⟨n, hp.1⟩)
    ((hd _).mpr ⟨⟨n, hp.1⟩, rfl⟩) (Prod.ext (hx ⟨n, hp.1⟩) rfl)

end Cert.Proof.Ref

end
-- ==== Proof.RefLogp.lean ====
/-
  The reference's log-softmax along the columns, read at a column.
-/
module

public import proofs.«01_k».proof.Proof.RefHash
public import proofs.«01_k».proof.Proof.Rows
public import Idealize.ShloMosaic.Lib.Pointwise.Reduce

@[expose] public section

noncomputable section

namespace Cert.Proof.Ref

open Cert.ReferenceIdeal Cert.ReferenceIdeal.Gen
open Idealize.ShloMosaic hiding ix1 ix2 ix3 ix4 eq_ix1 eq_ix2
open Idealize.ShloMosaic.TcCoe Idealize.ShloMosaic.StableHlo Idealize.SL.Sem Idealize.ShloMosaic.ValueIdx

variable {F : FTy → Type} [FloatOps F]

/-- One float per row, and its spreading along the columns. -/
abbrev Row (F : FTy → Type) := S64x8.Idx → F .f32
abbrev kept {α : Type} (x : S64x8.Idx → α) : S64x8x1.Idx → α := broadcastInDim S64x8x1 ![0, 1] bcast_S64x8_S64x8x1_0_1 x
abbrev along {α : Type} (x : S64x8x1.Idx → α) : S64x8x100000.Idx → α :=
  broadcastInDim S64x8x100000 ![0, 1, 2] bcast_S64x8x1_S64x8x100000_0_1_2 x

/-- The largest logit of each row, and the sum of a row. -/
def rowTop (L : Logits F) : Row F :=
  Host.reduce FloatOps.maximumf L (constant S_ .f32 0xFF800000#32) reducesTo_S64x8x100000_S64x8_d2 h_S_
def rowSum (L : Logits F) : Row F :=
  Host.reduceAdd L (constant S_ .f32 0x00000000#32) reducesTo_S64x8x100000_S64x8_d2 h_S_

/-- The logits less the largest, and the log-softmax. -/
def shifted (L : Logits F) : Logits F :=
  subf L (along (kept (maximumf (broadcastInDim S64x8 ![] bcast_S_S64x8 (constant S_ .f32 0xFF800000#32)) (rowTop L))))
def logSoftmax (L : Logits F) : Logits F :=
  subf (shifted L) (along (Host.log (kept (rowSum (Host.exp (shifted L))))))

set_option maxRecDepth 100000 in
theorem lsm_val (V : Valuation τ sig (Elt F)) : logits (after opsLsm V (Proc.devRef .tc main_v21))
    = logSoftmax (logits (V (Proc.devRef .tc main_v0))) := by
  unfold logSoftmax shifted rowTop rowSum
  after_results_simp
  simp only [TRef.ofBuf_toBuf]; rfl

theorem along_kept {α : Type} (x : S64x8.Idx → α) (b : Fin 64) (s : Fin 8) (v : Fin 100000) :
    along (kept x) (ix3 b s v) = x (ix2 b s) :=
  congrArg x (funext fun a => by fin_cases a <;> rfl)

theorem kept_at {α : Type} (x : S64x8.Idx → α) (b : Fin 64) (s : Fin 8) : kept x (ix3 b s 0) = x (ix2 b s) :=
  congrArg x (funext fun a => by fin_cases a <;> rfl)

theorem least : (FloatOps.ofBits .f32 0xFF800000#32 : Ideal .f32) = (⊥ : EReal) := by
  simp [FloatOps.ofBits, Ideal.ofBits, Ideal.ieee]

/-- The largest of a row is the supremum over its columns. -/
theorem top_gen {n0 n1 n2 : ℕ} {u : Shape} (h : (⟨3, ![n0, n1, n2]⟩ : Shape).ReducesTo [2] ⟨2, ![n0, n1]⟩) (hu : 0 < u.numel)
    (x : (⟨3, ![n0, n1, n2]⟩ : Shape).Idx → Ideal .f32) (init : u.Idx → Ideal .f32) (hi : ∀ k, init k = (⊥ : EReal)) (b : Fin n0) (s : Fin n1)
    (f : ℕ → EReal) (hf : ∀ v : Fin n2, x (ix3 b s v) = f v.val) :
    Host.reduce FloatOps.maximumf x init h hu (ix2 b s) = (Finset.range n2).sup f := by
  rw [Host.reduce_eq_fold, h.fold_fiber_r3_a2, hi]
  show (Finset.univ.sup fun k : Fin n2 => (x (ix3 b s k) : EReal)) = _
  refine le_antisymm (Finset.sup_le fun k _ => ?_) (Finset.sup_le fun v hv => ?_)
  · rw [hf k]; exact Finset.le_sup (f := f) (Finset.mem_range.mpr k.isLt)
  · have hv' := Finset.mem_range.mp hv
    have e := hf ⟨v, hv'⟩
    rw [← e]
    exact Finset.le_sup (f := fun k : Fin n2 => (x (ix3 b s k) : EReal)) (Finset.mem_univ _)

/-- The sum of a row. -/
theorem sum_gen {n0 n1 n2 : ℕ} {u : Shape} (h : (⟨3, ![n0, n1, n2]⟩ : Shape).ReducesTo [2] ⟨2, ![n0, n1]⟩) (hu : 0 < u.numel)
    (x : (⟨3, ![n0, n1, n2]⟩ : Shape).Idx → Ideal .f32) (init : u.Idx → Ideal .f32) (hi : ∀ k, init k = (0 : EReal)) (b : Fin n0) (s : Fin n1)
    (f : ℕ → EReal) (hf : ∀ v : Fin n2, x (ix3 b s v) = f v.val) :
    Host.reduceAdd x init h hu (ix2 b s) = ∑ v ∈ Finset.range n2, f v := by
  refine (Ideal.hostReduceAdd_r3_a2 h x _ (ix2 b s)).trans ?_
  rw [hi, zero_add, Finset.sum_range]
  exact Finset.sum_congr rfl fun k _ => hf k

theorem top_at (L : Logits Ideal) (b : Fin 64) (s : Fin 8) (f : ℕ → EReal) (hf : ∀ v : Fin 100000, L (ix3 b s v) = f v.val) :
    rowTop L (ix2 b s) = (Finset.range 100000).sup f :=
  top_gen reducesTo_S64x8x100000_S64x8_d2 h_S_ L _ (fun _ => least) b s f hf
theorem sum_at (L : Logits Ideal) (b : Fin 64) (s : Fin 8) (f : ℕ → EReal) (hf : ∀ v : Fin 100000, L (ix3 b s v) = f v.val) :
    rowSum L (ix2 b s) = ∑ v ∈ Finset.range 100000, f v :=
  sum_gen reducesTo_S64x8x100000_S64x8_d2 h_S_ L _ (fun _ => Ideal.ofBits_zero_f32) b s f hf

/-- The element-by-element parts at an element, of arrays known there. -/
theorem less_at (L : Logits Ideal) (M : Row Ideal) (b : Fin 64) (s : Fin 8) (v : Fin 100000) (m : EReal) (hm : M (ix2 b s) = m) :
    subf L (along (kept (maximumf (broadcastInDim S64x8 ![] bcast_S_S64x8 (constant S_ .f32 0xFF800000#32)) M))) (ix3 b s v)
      = (L (ix3 b s v) : EReal) - m := by
  refine congrArg (fun t : EReal => (L (ix3 b s v) : EReal) - t) ?_
  rw [along_kept]
  show max (FloatOps.ofBits .f32 0xFF800000#32 : Ideal .f32) (M (ix2 b s)) = m
  rw [least, hm]
  exact max_eq_right bot_le
theorem less_log_at (L : Logits Ideal) (M : Row Ideal) (b : Fin 64) (s : Fin 8) (v : Fin 100000) (l m : EReal)
    (hl : L (ix3 b s v) = l) (hm : M (ix2 b s) = m) :
    subf L (along (Host.log (kept M))) (ix3 b s v) = l - Ideal.log m := by
  have e : along (Host.log (kept M)) (ix3 b s v) = Ideal.log (M (ix2 b s)) := along_kept (fun j => Ideal.log (M j)) b s v
  show (L (ix3 b s v) : EReal) - along (Host.log (kept M)) (ix3 b s v) = _
  rw [e, hl, hm]

/-- The log-softmax at a column is the log-probability. -/
theorem logSoftmax_at (L : Logits Ideal) (b : Fin 64) (s : Fin 8) (f : ℕ → EReal) (hf : ∀ v : Fin 100000, L (ix3 b s v) = f v.val)
    (n : Fin 100000) : logSoftmax L (ix3 b s n) = logProb f n.val := by
  have hs : ∀ v : Fin 100000, shifted L (ix3 b s v) = f v.val - (Finset.range 100000).sup f := fun v => by
    unfold shifted
    rw [less_at L _ b s v _ (top_at L b s f hf), hf v]
  unfold logSoftmax logProb
  exact less_log_at _ _ b s n _ _ (hs n) (sum_at _ b s (fun v => Ideal.exp (f v - (Finset.range 100000).sup f))
    fun v => congrArg Ideal.exp (hs v))

end Cert.Proof.Ref

end
-- ==== Proof.RefTake.lean ====
/-
  The reference's last steps: the log-softmax taken at the sampled columns, and its sum over the rows of a batch.
-/
module

public import proofs.«01_k».proof.Proof.RefHash
public import Idealize.ShloMosaic.Lib.Pointwise.Reduce

@[expose] public section

noncomputable section

namespace Cert.Proof.Ref

open Cert.ReferenceIdeal Cert.ReferenceIdeal.Gen
open Idealize.ShloMosaic hiding ix1 ix2 ix3 ix4 eq_ix1 eq_ix2
open Idealize.ShloMosaic.TcCoe Idealize.ShloMosaic.StableHlo Idealize.SL.Sem Idealize.ShloMosaic.ValueIdx

variable {F : FTy → Type} [FloatOps F]

/-- A column number per row, as the take reads it: a negative one counts from the end. -/
abbrev Cols := S64x8x1.Idx → BitVec 32
def wrapped (I : Cols) : S64x8x1x1.Idx → BitVec 32 :=
  shapeCast S64x8x1x1 (select (cmpi .slt I (broadcastInDim S64x8x1 ![] bcast_S_S64x8x1 (constantI S_ 32 0#32)))
    (addi I (broadcastInDim S64x8x1 ![] bcast_S_S64x8x1 (constantI S_ 32 100000#32))) I) shapeCasts_S64x8x1_S64x8x1x1
/-- Whether the column is one of the row's. -/
def inside (I : S64x8x1x1.Idx → BitVec 32) : S64x8x1x1.Idx → BitVec 1 :=
  andi (cmpi .sge I (broadcastInDim S64x8x1x1 ![] bcast_S_S64x8x1x1 (constantI S_ 32 0#32)))
    (cmpi .sle I (broadcastInDim S64x8x1x1 ![0, 1, 2, 3] bcast_S1x1x1x1_S64x8x1x1_0_1_2_3
      (broadcastInDim S1x1x1x1 ![3] bcast_S1_S1x1x1x1_3 (constantI S1 32 99999#32))))
/-- The take: the element at the column, or a constant outside of the row. -/
def taken (Y : Logits F) (I : S64x8x1x1.Idx → BitVec 32) : S64x8x1.Idx → F .f32 :=
  select (Host.reduce IntOp.andi (inside I) (constantI S_ 1 1#1) reducesTo_S64x8x1x1_S64x8x1_d3 h_S_)
    (Host.gather gather_S64x8x100000_S64x8x1x1_S64x8x1_n_2_01_01_2_3_111 Y I)
    (broadcastInDim S64x8x1 ![] bcast_S_S64x8x1 (constant S_ .f32 0x7FC00000#32))

theorem idx_val (V : Valuation τ sig (Elt F)) : (after opsIdx V (Proc.devRef .tc main_v22) : Cols)
    = broadcastInDim S64x8x1 ![0, 1] bcast_S64x8_S64x8x1_0_1 (V (Proc.devRef .tc main_v20) : S64x8.Idx → BitVec 32) := by
  after_results_simp

theorem tak_val (V : Valuation τ sig (Elt F)) : (after opsTak V (Proc.devRef .tc main_v23) : S64x8x1.Idx → F .f32)
    = taken (logits (V (Proc.devRef .tc main_v21))) (wrapped (V (Proc.devRef .tc main_v22))) := by
  after_results_simp; rfl

theorem out_val (V : Valuation τ sig (Elt F)) : (after opsSum V (Proc.devRef .tc main_v25) : S64.Idx → F .f32)
    = Host.reduceAdd (shapeCast S64x8 (V (Proc.devRef .tc main_v23) : S64x8x1.Idx → F .f32) shapeCasts_S64x8x1_S64x8)
        (constant S_ .f32 0x00000000#32) reducesTo_S64x8_S64_d1 h_S_ := by
  after_results_simp; rfl

/-- A column of the row is read as it is. -/
theorem wrapped_at (I : Cols) (b : Fin 64) (s : Fin 8) (y z : Fin 1) (n : ℕ) (hn : n < 100000) (hI : I (ix3 b s 0) = BitVec.ofNat 32 n) :
    wrapped I (ix4 b s y z) = BitVec.ofNat 32 n := by
  have e : wrapped I (ix4 b s y z) = Scalar.select (IntOp.cmpi .slt (I (ix3 b s 0)) 0#32) (IntOp.addi (I (ix3 b s 0)) 100000#32) (I (ix3 b s 0)) := by
    have hr : Shape.reshapeEquiv shapeCasts_S64x8x1_S64x8x1x1 (ix4 b s y z) = ix3 b s 0 := by
      refine Shape.reshapeEquiv_eq_of_rowMajor _ ?_
      show ((⟨3, ![64, 8, 1]⟩ : Shape).rowMajor (ix3 b s 0)).val = ((⟨4, ![64, 8, 1, 1]⟩ : Shape).rowMajor (ix4 b s y z)).val
      rw [Shape.rowMajor_val_four, Shape.rowMajor_val_three]
      have hy := y.isLt
      have hz := z.isLt
      show (b.val * 8 + s.val) * 1 + 0 = ((b.val * 8 + s.val) * 1 + y.val) * 1 + z.val
      omega
    exact congrArg (fun i => Scalar.select (IntOp.cmpi .slt (I i) 0#32) (IntOp.addi (I i) 100000#32) (I i)) hr
  rw [e, hI]
  have hf : IntOp.cmpi .slt (BitVec.ofNat 32 n) 0#32 = 0#1 := by
    have h : (BitVec.ofNat 32 n).toInt = n := by
      rw [BitVec.toInt_eq_toNat_of_lt (by rw [BitVec.toNat_ofNat]; omega), BitVec.toNat_ofNat]; omega
    show BitVec.ofBool (decide ((BitVec.ofNat 32 n).toInt < 0)) = 0#1
    rw [h, decide_eq_false (by omega)]; rfl
  rw [hf]
  rfl

/-- A conjunction of ones is one. -/
theorem all_ones {s t u : Shape} {axes : List (Fin s.rank)} (x : s.Idx → BitVec 1) (init : u.Idx → BitVec 1) (h : s.ReducesTo axes t)
    (hu : 0 < u.numel) (j : t.Idx) (hi : ∀ k, init k = 1#1) (hx : ∀ i, h.drop i = j → x i = 1#1) :
    Host.reduce IntOp.andi x init h hu j = 1#1 := by
  rw [Host.reduce_eq_foldl, hi]
  have key : ∀ l : List s.Idx, (∀ i ∈ l, x i = 1#1) → l.foldl (fun r i => IntOp.andi r (x i)) 1#1 = 1#1 := fun l => by
    induction l with
    | nil => intro _; rfl
    | cons a l ih =>
      intro hl
      rw [List.foldl_cons, hl a List.mem_cons_self]
      exact ih fun i hi => hl i (List.mem_cons_of_mem _ hi)
  exact key _ fun i hi => hx i (of_decide_eq_true (List.mem_filter.mp hi).2)

theorem inside_at (I : S64x8x1x1.Idx → BitVec 32) (i : S64x8x1x1.Idx) (n : ℕ) (hn : n < 100000) (hI : I i = BitVec.ofNat 32 n) :
    inside I i = 1#1 := by
  show IntOp.andi (IntOp.cmpi .sge (I i) 0#32) (IntOp.cmpi .sle (I i) 99999#32) = 1#1
  rw [hI]
  have h : (BitVec.ofNat 32 n).toInt = n := by
    rw [BitVec.toInt_eq_toNat_of_lt (by rw [BitVec.toNat_ofNat]; omega), BitVec.toNat_ofNat]; omega
  have h1 : IntOp.cmpi .sge (BitVec.ofNat 32 n) 0#32 = 1#1 := by
    show BitVec.ofBool (decide (0 ≤ (BitVec.ofNat 32 n).toInt)) = 1#1
    rw [h, decide_eq_true (by omega)]; rfl
  have h2 : IntOp.cmpi .sle (BitVec.ofNat 32 n) 99999#32 = 1#1 := by
    show BitVec.ofBool (decide ((BitVec.ofNat 32 n).toInt ≤ 99999)) = 1#1
    rw [h, decide_eq_true (by omega)]; rfl
  rw [h1, h2]; rfl

/-- The dimension numbers of a take along the last of three axes, one element per row. -/
abbrev takeAlong (A B N : ℕ)
    (wf : GatherDims.WF ⟨3, ![A, B, N]⟩ ⟨4, ![A, B, 1, 1]⟩ ⟨3, ![A, B, 1]⟩ [] [2] [0, 1] [2] [0, 1] 3 ![1, 1, 1]) :
    GatherDims ⟨3, ![A, B, N]⟩ ⟨4, ![A, B, 1, 1]⟩ ⟨3, ![A, B, 1]⟩ where
  offsetDims := []
  collapsedSliceDims := [2]
  operandBatchingDims := [0, 1]
  startIndicesBatchingDims := [0, 1]
  startIndexMap := [2]
  indexVectorDim := 3
  sliceSizes := ![1, 1, 1]
  wf := wf

/-- The take of a row reads the row at its column. -/
theorem takeAlong_at {α : Type} {A B N : ℕ}
    (wf : GatherDims.WF ⟨3, ![A, B, N]⟩ ⟨4, ![A, B, 1, 1]⟩ ⟨3, ![A, B, 1]⟩ [] [2] [0, 1] [2] [0, 1] 3 ![1, 1, 1])
    (x : (⟨3, ![A, B, N]⟩ : Shape).Idx → α) (I : IVec ⟨4, ![A, B, 1, 1]⟩ 32) (b : Fin A) (s : Fin B) (n : Fin N)
    (hI : (I (ix4 b s 0 0)).toInt = n.val) :
    Host.gather (takeAlong A B N wf) x I (ix3 b s 0) = x (ix3 b s n) := by
  unfold Host.gather
  refine congrArg x (funext fun a => Fin.ext ?_)
  show (takeAlong A B N wf).start (ix3 b s 0) I a + (takeAlong A B N wf).batchCoord (ix3 b s 0) a
      + (takeAlong A B N wf).offCoord (ix3 b s 0) a = _
  match a with
  | ⟨0, _⟩ =>
    have hm : (0 : Fin 3) ∈ (takeAlong A B N wf).operandBatchingDims := List.mem_cons_self
    show (takeAlong A B N wf).start (ix3 b s 0) I (0 : Fin 3) + (takeAlong A B N wf).batchCoord (ix3 b s 0) (0 : Fin 3)
      + (takeAlong A B N wf).offCoord (ix3 b s 0) (0 : Fin 3) = b.val
    rw [GatherDims.start_batching _ _ _ _ hm,
      GatherDims.offCoord_eq_zero _ _ _ (fun h => ((GatherDims.mem_sKept _ _).mp h).2 hm)]
    simp only [Nat.zero_add, Nat.add_zero]
    unfold GatherDims.batchCoord
    rw [dif_pos hm]
    rfl
  | ⟨1, _⟩ =>
    have hm : (1 : Fin 3) ∈ (takeAlong A B N wf).operandBatchingDims := List.mem_cons_of_mem _ List.mem_cons_self
    show (takeAlong A B N wf).start (ix3 b s 0) I (1 : Fin 3) + (takeAlong A B N wf).batchCoord (ix3 b s 0) (1 : Fin 3)
      + (takeAlong A B N wf).offCoord (ix3 b s 0) (1 : Fin 3) = s.val
    rw [GatherDims.start_batching _ _ _ _ hm,
      GatherDims.offCoord_eq_zero _ _ _ (fun h => ((GatherDims.mem_sKept _ _).mp h).2 hm)]
    simp only [Nat.zero_add, Nat.add_zero]
    unfold GatherDims.batchCoord
    rw [dif_pos hm]
    rfl
  | ⟨2, _⟩ =>
    have hc : (2 : Fin 3) ∈ (takeAlong A B N wf).collapsedSliceDims := List.mem_cons_self
    have hm : (2 : Fin 3) ∈ (takeAlong A B N wf).startIndexMap := List.mem_cons_self
    have hn : (2 : Fin 3) ∉ (takeAlong A B N wf).operandBatchingDims := by
      show (2 : Fin 3) ∉ ([0, 1] : List (Fin 3))
      decide
    show (takeAlong A B N wf).start (ix3 b s 0) I (2 : Fin 3) + (takeAlong A B N wf).batchCoord (ix3 b s 0) (2 : Fin 3)
      + (takeAlong A B N wf).offCoord (ix3 b s 0) (2 : Fin 3) = n.val
    rw [GatherDims.batchCoord_eq_zero _ _ _ hn, GatherDims.offCoord_eq_zero _ _ _ (fun h => ((GatherDims.mem_sKept _ _).mp h).1 hc)]
    simp only [Nat.add_zero]
    unfold GatherDims.start
    rw [dif_pos hm]
    have hsi : (takeAlong A B N wf).siIdx (ix3 b s 0) ⟨List.idxOf (2 : Fin 3) (takeAlong A B N wf).startIndexMap,
        List.idxOf_lt_length_iff.2 hm⟩ = ix4 b s 0 0 := by
      funext c
      refine Fin.ext ?_
      match c with
      | ⟨0, _⟩ => rfl
      | ⟨1, _⟩ => rfl
      | ⟨2, _⟩ => rfl
      | ⟨3, _⟩ => rfl
    rw [hsi, hI]
    show min ((n.val : ℤ).toNat) (N - 1) = n.val
    have := n.isLt
    omega

/-- The take at a row whose column is inside of it. -/
theorem taken_at (Y : Logits F) (I : Cols) (b : Fin 64) (s : Fin 8) (n : Fin 100000) (hI : I (ix3 b s 0) = BitVec.ofNat 32 n.val) :
    taken Y (wrapped I) (ix3 b s 0) = Y (ix3 b s n) := by
  have hall : Host.reduce IntOp.andi (inside (wrapped I)) (constantI S_ 1 1#1) reducesTo_S64x8x1x1_S64x8x1_d3 h_S_ (ix3 b s 0) = 1#1 := by
    refine all_ones _ _ _ _ _ (fun _ => rfl) fun i hi => ?_
    obtain ⟨b', s', y, z, rfl⟩ : ∃ (b' : Fin 64) (s' : Fin 8) (y z : Fin 1), i = ix4 b' s' y z := ⟨i 0, i 1, i 2, i 3, ValueIdx.eq_ix4 i⟩
    have h0 : b' = b := Fin.ext (congrArg Fin.val (congrFun hi 0))
    have h1 : s' = s := Fin.ext (congrArg Fin.val (congrFun hi 1))
    subst h0 h1
    exact inside_at _ _ n.val n.isLt (wrapped_at I b' s' y z n.val n.isLt hI)
  have hg : Host.gather gather_S64x8x100000_S64x8x1x1_S64x8x1_n_2_01_01_2_3_111 Y (wrapped I) (ix3 b s 0) = Y (ix3 b s n) := by
    refine takeAlong_at (A := 64) (B := 8) (N := 100000) _ Y (wrapped I) b s n ?_
    rw [wrapped_at I b s 0 0 n.val n.isLt hI]
    have hn := n.isLt
    rw [BitVec.toInt_eq_toNat_of_lt (by rw [BitVec.toNat_ofNat]; omega), BitVec.toNat_ofNat]
    omega
  show Scalar.select (Host.reduce IntOp.andi (inside (wrapped I)) (constantI S_ 1 1#1) reducesTo_S64x8x1x1_S64x8x1_d3 h_S_ (ix3 b s 0)) _ _ = _
  rw [hall, ← hg]
  rfl

/-- The sum over the eight rows of a batch. -/
theorem out_at (Z : S64x8x1.Idx → Ideal .f32) (b : Fin 64) :
    Host.reduceAdd (shapeCast S64x8 Z shapeCasts_S64x8x1_S64x8) (constant S_ .f32 0x00000000#32) reducesTo_S64x8_S64_d1 h_S_ (ix1 b)
      = ∑ s : Fin 8, (Z (ix3 b s 0) : EReal) := by
  refine (Ideal.hostReduceAdd_r2_a1 reducesTo_S64x8_S64_d1 (shapeCast S64x8 Z shapeCasts_S64x8x1_S64x8) _ (ix1 b)).trans ?_
  have h0 : (FloatOps.ofBits .f32 0#32 : Ideal .f32) = (0 : EReal) := Ideal.ofBits_zero_f32
  show (FloatOps.ofBits .f32 0#32 : Ideal .f32) + _ = _
  rw [h0, zero_add]
  refine Finset.sum_congr rfl fun s _ => congrArg Z ?_
  refine Shape.reshapeEquiv_eq_of_rowMajor _ ?_
  show ((⟨3, ![64, 8, 1]⟩ : Shape).rowMajor (ix3 b s 0)).val = ((⟨2, ![64, 8]⟩ : Shape).rowMajor (ix2 b s)).val
  rw [Shape.rowMajor_val_two, Shape.rowMajor_val_three]
  show (b.val * 8 + s.val) * 1 + 0 = b.val * 8 + s.val
  omega

end Cert.Proof.Ref

end
-- ==== Proof.RefRun.lean ====
/-
  The reference's two results: the sampled columns and the summed log-probabilities of the picks.
-/
module

public import proofs.«01_k».proof.Proof.RefGum
public import proofs.«01_k».proof.Proof.RefPick
public import proofs.«01_k».proof.Proof.RefLogp
public import proofs.«01_k».proof.Proof.RefTake

@[expose] public section

noncomputable section

namespace Cert.Proof.Ref

open Cert.ReferenceIdeal Cert.ReferenceIdeal.Gen
open Idealize.ShloMosaic hiding ix1 ix2 ix3 ix4 eq_ix1 eq_ix2 eq_ix3
open Idealize.ShloMosaic.TcCoe Idealize.ShloMosaic.StableHlo Idealize.SL.Sem Idealize.ShloMosaic.ValueIdx

variable {F : FTy → Type} [FloatOps F]

/-- The contents once the columns are sampled, and at the end. -/
def sampled (V : Valuation τ sig (Elt F)) : Valuation τ sig (Elt F) := after opsArg (noisy V)
def summed (V : Valuation τ sig (Elt F)) : Valuation τ sig (Elt F) :=
  after opsSum (after opsTak (after opsIdx (after opsLsm (sampled V))))

/-- The whole line is its stretches, one after another. -/
theorem fin_eq (V : Valuation τ sig (Elt F)) : fin V = summed V := by
  unfold fin ops summed sampled noisy hashed started
  simp only [after_two]

/-- Where the picks are `p`, the index result holds them. -/
theorem sampled_at (V : Valuation τ sig (Elt Ideal)) (p : Fin 64 → Fin 8 → ℕ) (hp : Picks (launched V) p) :
    (sampled V (Proc.devRef .tc main_v20) : S64x8.Idx → BitVec 32) = sampleOf p := by
  unfold sampled
  rw [arg_val]
  funext j
  obtain ⟨b, s, rfl⟩ : ∃ (b : Fin 64) (s : Fin 8), j = ix2 b s := ⟨j 0, j 1, ValueIdx.eq_ix2 j⟩
  rw [found_at _ (rowT (launched V) b s) b s (p b s) (noisy_score V b s) (hp b s).1 (hp b s).2]
  rfl

theorem sample_result (V : Valuation τ sig (Elt Ideal)) (p : Fin 64 → Fin 8 → ℕ) (hp : Picks (launched V) p) :
    (fin V (Proc.devRef .tc main_v20) : S64x8.Idx → BitVec 32) = sampleOf p := by
  rw [fin_eq]
  unfold summed
  rw [opsSum_keep _ (by decide), opsTak_keep _ (by decide), opsIdx_keep _ (by decide), opsLsm_keep _ (by decide)]
  exact sampled_at V p hp

/-- The taken log-probability of each row. -/
theorem taken_result (V : Valuation τ sig (Elt Ideal)) (p : Fin 64 → Fin 8 → ℕ) (hp : Picks (launched V) p) (b : Fin 64) (s : Fin 8) :
    (after opsTak (after opsIdx (after opsLsm (sampled V))) (Proc.devRef .tc main_v23) : S64x8x1.Idx → Ideal .f32) (ix3 b s 0)
      = logProb (rowLg (launched V) b s) (p b s) := by
  have hn : p b s < 100000 := (hp b s).1.1
  have hI : (after opsIdx (after opsLsm (sampled V)) (Proc.devRef .tc main_v22) : Cols) (ix3 b s 0)
      = BitVec.ofNat 32 (⟨p b s, hn⟩ : Fin 100000).val := by
    rw [idx_val, opsLsm_keep _ (by decide)]
    exact (kept_at _ b s).trans (congrFun (sampled_at V p hp) (ix2 b s))
  rw [tak_val, taken_at _ _ b s ⟨p b s, hn⟩ hI, opsIdx_keep _ (by decide), lsm_val]
  refine logSoftmax_at _ b s (rowLg (launched V) b s) (fun v => ?_) ⟨p b s, hn⟩
  unfold sampled
  rw [opsArg_keep _ (by decide)]
  exact noisy_lg V b s v

/-- The sums of the log-probabilities. -/
theorem sum_result (V : Valuation τ sig (Elt Ideal)) (p : Fin 64 → Fin 8 → ℕ) (hp : Picks (launched V) p) :
    (fin V (Proc.devRef .tc main_v25) : S64.Idx → Ideal .f32) = lpSum (launched V) p := by
  rw [fin_eq]
  unfold summed
  rw [out_val]
  funext j
  obtain ⟨b, rfl⟩ : ∃ b : Fin 64, j = ix1 b := ⟨j 0, ValueIdx.eq_ix1 j⟩
  rw [out_at]
  exact Finset.sum_congr rfl fun s _ => taken_result V p hp b s

end Cert.Proof.Ref

end
-- ==== Proof.Start.lean ====
/-
  What the precondition gives: a logit above minus infinity in every row, and with it a picked column.
-/
module

public import proofs.«01_k».proof.Proof.Gen.Pre_some_logit
public import proofs.«01_k».proof.Proof.Rows
public import proofs.«01_k».proof.Proof.Noise
public import Idealize.ShloMosaic.PureOps.Ideal.Laws

@[expose] public section

noncomputable section

namespace Cert.Proof

open Idealize.ShloMosaic Idealize.ShloMosaic.ValueIdx

/-- Some column is picked. -/
theorem pick_exists (T : ℕ → EReal) (N : ℕ) (hN : 0 < N) : ∃ n, IsPick T N n := by
  classical
  have h : ∃ n, n < N ∧ ∀ v < N, T v ≤ T n := by
    obtain ⟨n, hn, hmax⟩ := Finset.exists_max_image (Finset.range N) T ⟨0, Finset.mem_range.mpr hN⟩
    exact ⟨n, Finset.mem_range.mp hn, fun v hv => hmax v (Finset.mem_range.mpr hv)⟩
  refine ⟨Nat.find h, (Nat.find_spec h).1, (Nat.find_spec h).2, fun v hv => ?_⟩
  have hvN : v < N := hv.trans (Nat.find_spec h).1
  refine lt_of_le_of_ne ((Nat.find_spec h).2 v hvN) fun e => Nat.find_min h hv ⟨hvN, fun u hu => ?_⟩
  rw [e]
  exact (Nat.find_spec h).2 u hu

/-- The maximum of elements that are all minus infinity is minus infinity. -/
theorem all_least {s t u : Shape} {axes : List (Fin s.rank)} (x : s.Idx → Ideal .f32) (init : u.Idx → Ideal .f32) (h : s.ReducesTo axes t)
    (hu : 0 < u.numel) (j : t.Idx) (hi : ∀ k, init k = (⊥ : EReal)) (hx : ∀ i, h.drop i = j → x i = (⊥ : EReal)) :
    Host.reduce FloatOps.maximumf x init h hu j = (⊥ : EReal) := by
  rw [Host.reduce_eq_foldl, hi]
  have key : ∀ l : List s.Idx, (∀ i ∈ l, x i = (⊥ : EReal)) →
      l.foldl (fun r i => FloatOps.maximumf r (x i)) ((⊥ : EReal) : Ideal .f32) = (⊥ : EReal) := fun l => by
    induction l with
    | nil => intro _; rfl
    | cons a l ih =>
      intro hl
      have e : FloatOps.maximumf ((⊥ : EReal) : Ideal .f32) (x a) = (⊥ : EReal) := by
        rw [hl a List.mem_cons_self]
        exact max_self (⊥ : EReal)
      rw [List.foldl_cons, e]
      exact ih fun i hi => hl i (List.mem_cons_of_mem _ hi)
  exact key _ fun i hi => hx i (of_decide_eq_true (List.mem_filter.mp hi).2)

/-- A comparison read at an index where both sides are known. -/
theorem cmp_read {s : Shape} (x y : s.Idx → Ideal .f32) (j : s.Idx) (a b : EReal) (hx : x j = a) (hy : y j = b) :
    cmpf .ogt x y j = Ideal.cmp .ogt a b := by
  rw [← hx, ← hy]
  rfl

/-- The precondition's array read at a row: some logit of the row is above minus infinity. -/
theorem some_of_pre (X : (⟨4, ![64, 8, 1, 100000]⟩ : Shape).Idx → EReal) (h : Cert.Pre_some_logit.fn (F := Ideal) X = fun _ => 1#1)
    (b : Fin 64) (s : Fin 8) : ∃ v : Fin 100000, ⊥ < X (ix4 b s 0 v) := by
  by_contra hno
  have hall : ∀ v : Fin 100000, X (ix4 b s 0 v) = ⊥ := fun v => not_bot_lt_iff.mp fun hv => hno ⟨v, hv⟩
  have hb : (FloatOps.ofBits .f32 0xFF800000#32 : Ideal .f32) = (⊥ : EReal) := by
    simp [FloatOps.ofBits, Ideal.ofBits, Ideal.ieee]
  have hr : (Host.reduce FloatOps.maximumf (show (⟨4, ![64, 8, 1, 100000]⟩ : Shape).Idx → Ideal .f32 from X)
      (constant Cert.Pre_some_logit.S_ .f32 0xFF800000#32) Cert.Pre_some_logit.Facts.reducesTo_S64x8x1x100000_S64x8x1_d3
      Cert.Pre_some_logit.Facts.h_S_ (ix3 b s 0) : Ideal .f32) = (⊥ : EReal) := by
    refine all_least _ _ _ _ _ (fun _ => hb) fun i hi => ?_
    have h0 : i 0 = b := Fin.ext (congrArg Fin.val (congrFun hi 0))
    have h1 : i 1 = s := Fin.ext (congrArg Fin.val (congrFun hi 1))
    have h2 : i 2 = (0 : Fin 1) := Subsingleton.elim (α := Fin 1) _ _
    have hi4 : i = ix4 b s 0 (i 3) := by
      rw [← h0, ← h1, ← h2]
      exact ValueIdx.eq_ix4 i
    rw [hi4]
    exact hall (i 3)
  have e := congrFun h (ix3 b s 0)
  unfold Cert.Pre_some_logit.fn at e
  rw [cmp_read _ _ _ _ _ hr hb] at e
  simp [Ideal.cmp] at e

/-- Under the precondition every row has its pick, of a score above minus infinity. -/
theorem picks_exist (X : (⟨4, ![64, 8, 1, 100000]⟩ : Shape).Idx → EReal) (h : Cert.Pre_some_logit.fn (F := Ideal) X = fun _ => 1#1) :
    ∃ p, Picks X p := by
  choose p hp using fun (b : Fin 64) (s : Fin 8) => pick_exists (rowT X b s) 100000 (by decide)
  refine ⟨p, fun b s => ⟨hp b s, ?_⟩⟩
  obtain ⟨v, hv⟩ := some_of_pre X h b s
  refine lt_of_lt_of_le ?_ ((hp b s).2.1 v.val v.isLt)
  unfold rowT
  refine score_pos _ _ ?_
  unfold rowLg
  rw [dif_pos v.isLt]
  exact hv

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_some_logit
public import proofs.«01_k».proof.Proof.KBlock
public import proofs.«01_k».proof.Proof.RefRun
public import proofs.«01_k».proof.Proof.Start
public import Idealize.ShloMosaic.Lib.Quiescent
public import Idealize.ShloMosaic.Adequacy
public import Idealize.ShloMosaic.Init

@[expose] public section

noncomputable section

namespace Cert.Proof

open Idealize.ShloMosaic Idealize.ShloMosaic.StableHlo Idealize.SL.Sem Cert.Kernel

/-- The reference runs and leaves its argument unchanged. -/
theorem frame_ref : Cert.quiescent_ReferenceIdeal := fun m ρ _ =>
  (θ_run (Cert.ReferenceIdeal.defs (F := Ideal)) _ _).mono
    (fun r h => ⟨fun c => (h c Cert.ReferenceIdeal.main_arg0).trans (Ref.fin_arg0 _),
      Idealize.ShloMosaic.sem_eq_zero_of_no_sems (by decide) r.2⟩) (Ref.run_main m ρ)

/-- Both programs end with the same sample and the same summed log-probabilities: those of the picks, one per row. -/
theorem same_results : Cert.algebraic_KernelIdeal_ReferenceIdeal_pre_some_logit := by
  intro m g m' g' hpre hin
  choose p hp using fun c => picks_exist (inp m c) (hpre c)
  have hl : ∀ c, Picks (Ref.launched (launchContents m' c)) (p c) := fun c =>
    (show Ref.launched (launchContents m' c) = inp m c from hin c) ▸ hp c
  refine ⟨fun c => sampleOf (p c), fun c => lpSum (inp m c) (p c), kernel_run m g p hp, ?_⟩
  refine (θ_run (Cert.ReferenceIdeal.defs (F := Ideal)) _ _).mono (fun r h c => ⟨?_, ?_, ?_⟩) (Ref.run_main m' g')
  · exact (h c Cert.ReferenceIdeal.main_v20).trans (Ref.sample_result _ (p c) (hl c))
  · exact ((h c Cert.ReferenceIdeal.main_v25).trans (Ref.sum_result _ (p c) (hl c))).trans
      (congrArg (fun X => lpSum X (p c)) (show Ref.launched (launchContents m' c) = inp m c from hin c))
  · exact (h c Cert.ReferenceIdeal.main_arg0).trans (Ref.fin_arg0 _)

theorem claim : Cert.Claim := ⟨Cert.Kernel.Gen.facts, Cert.KernelIdeal.Gen.facts, Cert.ReferenceIdeal.Gen.facts, Cert.Pre_some_logit.Gen.facts,
  fun m ρ _ => Cert.Kernel.Gen.frame m ρ, fun m ρ _ => Cert.KernelIdeal.Gen.frame m ρ, fun m ρ _ => Cert.KernelIdeal.Gen.frame m ρ,
  frame_ref, fun m ρ _ => frame_ref m ρ trivial, trivial, same_results⟩

end Cert.Proof

end
